-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x3 : Shape := ⟨3, ![4, 8192, 3]⟩
abbrev S4x64x8192 : Shape := ⟨3, ![4, 64, 8192]⟩
abbrev S64x67 : Shape := ⟨2, ![64, 67]⟩
abbrev S64 : Shape := ⟨1, ![64]⟩
abbrev S_ : Shape := ⟨0, ![]⟩
abbrev S64x3 : Shape := ⟨2, ![64, 3]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel
  slices_S64x67_S64x3_0_0 : S64x67.Slices ![0, 0] S64x3
  bcast_S_S64x3 : S_.BroadcastsInDim S64x3 (![] : Fin 0 → Fin S64x3.rank)
  reducesTo_S64x3_S_d0_1 : S64x3.ReducesTo [0, 1] S_

variable [Facts]

def fn {F : FTy → Type} [FloatOps F] (main_arg0 : FVec F S4x8192x3 .f32) (main_arg1 : FVec F S4x64x8192 .f32) (main_arg2 : FVec F S64x67 .f32) (main_arg3 : FVec F S64 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S64x3 .f32 := (extractStridedSlice S64x3 ![0, 0] · slices_S64x67_S64x3_0_0) main_arg2
  let main_v5 : FVec F S64x3 .f32 := Host.absf main_v4
  let main_cst_0 : FVec F S_ .f32 := constant S_ .f32 0x7F800000#32
  let main_v6 : FVec F S64x3 .f32 := broadcastInDim S64x3 ![] bcast_S_S64x3 main_cst_0
  let main_v7 : IVec S64x3 1 := cmpf .olt main_v5 main_v6
  let main_c_1 : IVec S_ 1 := constantI S_ 1 1#1
  let main_v8 : IVec S_ 1 := (fun x v => Host.reduce IntOp.andi x v reducesTo_S64x3_S_d0_1 h_S_) main_v7 main_c_1
  let main_v9 : IVec S_ 1 := andi main_v3 main_v8
  main_v9
-- ==== Kernel.lean ====
abbrev S4x8192x3 : Shape := ⟨3, ![4, 8192, 3]⟩
abbrev S4x64x8192 : Shape := ⟨3, ![4, 64, 8192]⟩
abbrev S64x67 : Shape := ⟨2, ![64, 67]⟩
abbrev S64 : Shape := ⟨1, ![64]⟩
abbrev S4x3x8192 : Shape := ⟨3, ![4, 3, 8192]⟩
abbrev S4x3x64x128 : Shape := ⟨4, ![4, 3, 64, 128]⟩
abbrev S4x3x1024 : Shape := ⟨3, ![4, 3, 1024]⟩
abbrev S1x3x64x128 : Shape := ⟨4, ![1, 3, 64, 128]⟩
abbrev S1x3x1024 : Shape := ⟨3, ![1, 3, 1024]⟩
abbrev S1x1x64x128 : Shape := ⟨4, ![1, 1, 64, 128]⟩
abbrev S64x128 : Shape := ⟨2, ![64, 128]⟩
abbrev S1x1024 : Shape := ⟨2, ![1, 1024]⟩
abbrev S1x64x128 : Shape := ⟨3, ![1, 64, 128]⟩
abbrev S1 : Shape := ⟨1, ![1]⟩
abbrev S1x1x1 : Shape := ⟨3, ![1, 1, 1]⟩
abbrev S1x1x1024 : Shape := ⟨3, ![1, 1, 1024]⟩
abbrev S4x67x8192 : Shape := ⟨3, ![4, 67, 8192]⟩
abbrev S64x1 : Shape := ⟨2, ![64, 1]⟩
abbrev S4x1024x64 : Shape := ⟨3, ![4, 1024, 64]⟩
abbrev S1x67x8192 : Shape := ⟨3, ![1, 67, 8192]⟩
abbrev S1x3x128 : Shape := ⟨3, ![1, 3, 128]⟩
abbrev S1x128x64 : Shape := ⟨3, ![1, 128, 64]⟩
abbrev S67x8192 : Shape := ⟨2, ![67, 8192]⟩
abbrev S3x8192 : Shape := ⟨2, ![3, 8192]⟩
abbrev S64x8192 : Shape := ⟨2, ![64, 8192]⟩
abbrev S3x128 : Shape := ⟨2, ![3, 128]⟩
abbrev S128x8192 : Shape := ⟨2, ![128, 8192]⟩
abbrev S8192 : Shape := ⟨1, ![8192]⟩
abbrev S1x8192 : Shape := ⟨2, ![1, 8192]⟩
abbrev S3x1 : Shape := ⟨2, ![3, 1]⟩
abbrev S128x1 : Shape := ⟨2, ![128, 1]⟩
abbrev S128x8191 : Shape := ⟨2, ![128, 8191]⟩
abbrev S128x2 : Shape := ⟨2, ![128, 2]⟩
abbrev S128x8190 : Shape := ⟨2, ![128, 8190]⟩
abbrev S128x4 : Shape := ⟨2, ![128, 4]⟩
abbrev S128x8188 : Shape := ⟨2, ![128, 8188]⟩
abbrev S128x8 : Shape := ⟨2, ![128, 8]⟩
abbrev S128x8184 : Shape := ⟨2, ![128, 8184]⟩
abbrev S128x16 : Shape := ⟨2, ![128, 16]⟩
abbrev S128x8176 : Shape := ⟨2, ![128, 8176]⟩
abbrev S128x32 : Shape := ⟨2, ![128, 32]⟩
abbrev S128x8160 : Shape := ⟨2, ![128, 8160]⟩
abbrev S128x64 : Shape := ⟨2, ![128, 64]⟩
abbrev S128x8128 : Shape := ⟨2, ![128, 8128]⟩
abbrev S128x128 : Shape := ⟨2, ![128, 128]⟩
abbrev S128x8064 : Shape := ⟨2, ![128, 8064]⟩
abbrev S128x256 : Shape := ⟨2, ![128, 256]⟩
abbrev S128x7936 : Shape := ⟨2, ![128, 7936]⟩
abbrev S128x512 : Shape := ⟨2, ![128, 512]⟩
abbrev S128x7680 : Shape := ⟨2, ![128, 7680]⟩
abbrev S128x1024 : Shape := ⟨2, ![128, 1024]⟩
abbrev S128x7168 : Shape := ⟨2, ![128, 7168]⟩
abbrev S128x2048 : Shape := ⟨2, ![128, 2048]⟩
abbrev S128x6144 : Shape := ⟨2, ![128, 6144]⟩
abbrev S128x4096 : Shape := ⟨2, ![128, 4096]⟩
abbrev S128 : Shape := ⟨1, ![128]⟩
abbrev S64x3 : Shape := ⟨2, ![64, 3]⟩
abbrev S4x1024x3 : Shape := ⟨3, ![4, 1024, 3]⟩
abbrev S4x64x1024 : Shape := ⟨3, ![4, 64, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4x8192x3, .f32⟩
  | .hbm, ⟨1, _⟩ => ⟨S4x64x8192, .f32⟩
  | .hbm, ⟨2, _⟩ => ⟨S64x67, .f32⟩
  | .hbm, ⟨3, _⟩ => ⟨S64, .f32⟩
  | .hbm, ⟨4, _⟩ => ⟨S4x3x8192, .f32⟩
  | .hbm, ⟨5, _⟩ => ⟨S4x3x64x128, .f32⟩
  | .hbm, ⟨6, _⟩ => ⟨S4x3x1024, .f32⟩
  | .hbm, ⟨7, _⟩ => ⟨S4x67x8192, .f32⟩
  | .hbm, ⟨8, _⟩ => ⟨S64x1, .f32⟩
  | .hbm, ⟨9, _⟩ => ⟨S4x1024x64, .f32⟩
  | .hbm, ⟨10, _⟩ => ⟨S4x1024x3, .f32⟩
  | .hbm, ⟨11, _⟩ => ⟨S4x64x1024, .f32⟩
  | .local _ .vmem, ⟨0, _⟩ => ⟨S1x3x64x128, .f32⟩
  | .local _ .vmem, ⟨1, _⟩ => ⟨S1x3x64x128, .f32⟩
  | .local _ .vmem, ⟨2, _⟩ => ⟨S1x3x1024, .f32⟩
  | .local _ .vmem, ⟨3, _⟩ => ⟨S1x3x1024, .f32⟩
  | .local _ .vmem, ⟨4, _⟩ => ⟨S1x67x8192, .f32⟩
  | .local _ .vmem, ⟨5, _⟩ => ⟨S1x67x8192, .f32⟩
  | .local _ .vmem, ⟨6, _⟩ => ⟨S1x3x128, .f32⟩
  | .local _ .vmem, ⟨7, _⟩ => ⟨S1x3x128, .f32⟩
  | .local _ .vmem, ⟨8, _⟩ => ⟨S64x67, .f32⟩
  | .local _ .vmem, ⟨9, _⟩ => ⟨S64x1, .f32⟩
  | .local _ .vmem, ⟨10, _⟩ => ⟨S1x128x64, .f32⟩
  | .local _ .vmem, ⟨11, _⟩ => ⟨S1x128x64, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_10 : BitVec 32 := 0#32
  let c1024_i32 : BitVec 32 := 1024#32
  let v14 : BitVec 32 := Scalar.addi c0_i32_10 c1024_i32
  let c1_i32 : BitVec 32 := 1#32
  ⟨c0_i32_10, v14, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x67x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x3x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x67 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S4x8192x3 : Shape := ⟨3, ![4, 8192, 3]⟩
abbrev S4x64x8192 : Shape := ⟨3, ![4, 64, 8192]⟩
abbrev S64x67 : Shape := ⟨2, ![64, 67]⟩
abbrev S64 : Shape := ⟨1, ![64]⟩
abbrev S_ : Shape := ⟨0, ![]⟩
abbrev S4x1024 : Shape := ⟨2, ![4, 1024]⟩
abbrev S4x8192 : Shape := ⟨2, ![4, 8192]⟩
abbrev S4 : Shape := ⟨1, ![4]⟩
abbrev S1024 : Shape := ⟨1, ![1024]⟩
abbrev S1 : Shape := ⟨1, ![1]⟩
abbrev S4x1x1 : Shape := ⟨3, ![4, 1, 1]⟩
abbrev S1x1x1 : Shape := ⟨3, ![1, 1, 1]⟩
abbrev S4x1 : Shape := ⟨2, ![4, 1]⟩
abbrev S4x1x3 : Shape := ⟨3, ![4, 1, 3]⟩
abbrev S4x1024x1 : Shape := ⟨3, ![4, 1024, 1]⟩
abbrev S4x1024x3 : Shape := ⟨3, ![4, 1024, 3]⟩
abbrev S4x1x8192 : Shape := ⟨3, ![4, 1, 8192]⟩
abbrev S4x1024x8192 : Shape := ⟨3, ![4, 1024, 8192]⟩
abbrev S8192 : Shape := ⟨1, ![8192]⟩
abbrev S4x1024x32 : Shape := ⟨3, ![4, 1024, 32]⟩
abbrev S4x1024x32x1 : Shape := ⟨4, ![4, 1024, 32, 1]⟩
abbrev S4x1024x32x2 : Shape := ⟨4, ![4, 1024, 32, 2]⟩
abbrev S4x1024x32x3 : Shape := ⟨4, ![4, 1024, 32, 3]⟩
abbrev S4x1024x1x3 : Shape := ⟨4, ![4, 1024, 1, 3]⟩
abbrev S4x8192x64 : Shape := ⟨3, ![4, 8192, 64]⟩
abbrev S4x1024x32x64 : Shape := ⟨4, ![4, 1024, 32, 64]⟩
abbrev S4x1024x32x67 : Shape := ⟨4, ![4, 1024, 32, 67]⟩
abbrev S1x1x1x64 : Shape := ⟨4, ![1, 1, 1, 64]⟩
abbrev S4x1024x64 : Shape := ⟨3, ![4, 1024, 64]⟩
abbrev S4x64x1024 : Shape := ⟨3, ![4, 64, 1024]⟩

abbrev nBuf : Space → Nat
  | .hbm => 174
  | .vmem => 0
  | .smem => 0
  | _ => 0

abbrev hbmTy0_0 (i : Nat) : BufTy := match i % 128 with
  | 0 => ⟨S4x8192x3, .f32⟩
  | 1 => ⟨S4x64x8192, .f32⟩
  | 2 => ⟨S64x67, .f32⟩
  | 3 => ⟨S64, .f32⟩
  | 4 => ⟨S_, .i32⟩
  | 5 => ⟨S4x1024, .i32⟩
  | 6 => ⟨S_, .f32⟩
  | 7 => ⟨S4x8192, .f32⟩
  | 8 => ⟨S_, .i32⟩
  | 9 => ⟨S4, .i32⟩
  | 10 => ⟨S1024, .i32⟩
  | 11 => ⟨S_, .i32⟩
  | 12 => ⟨S1024, .i32⟩
  | 13 => ⟨S4x8192x3, .f32⟩
  | 14 => ⟨S_, .i32⟩
  | 15 => ⟨S4x1024, .i32⟩
  | 16 => ⟨S4x8192, .f32⟩
  | 17 => ⟨S4, .i32⟩
  | 18 => ⟨S_, .i32⟩
  | 19 => ⟨S_, .i1⟩
  | 20 => ⟨S1, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S1, .i32⟩
  | 28 => ⟨S4x1024, .i32⟩
  | 29 => ⟨S4x1x1, .i32⟩
  | 30 => ⟨S_, .i32⟩
  | 31 => ⟨S4x1x1, .i32⟩
  | 32 => ⟨S4x1x1, .i1⟩
  | 33 => ⟨S_, .i32⟩
  | 34 => ⟨S4x1x1, .i32⟩
  | 35 => ⟨S4x1x1, .i32⟩
  | 36 => ⟨S4x1x1, .i32⟩
  | 37 => ⟨S1, .i32⟩
  | 38 => ⟨S_, .i32⟩
  | 39 => ⟨S4x1x1, .i32⟩
  | 40 => ⟨S4x1x1, .i1⟩
  | 41 => ⟨S1x1x1, .i32⟩
  | 42 => ⟨S4x1x1, .i32⟩
  | 43 => ⟨S4x1x1, .i1⟩
  | 44 => ⟨S4x1x1, .i1⟩
  | 45 => ⟨S_, .i1⟩
  | 46 => ⟨S4x1, .i1⟩
  | 47 => ⟨S4x1x3, .f32⟩
  | 48 => ⟨S4x1x3, .i1⟩
  | 49 => ⟨S_, .f32⟩
  | 50 => ⟨S4x1x3, .f32⟩
  | 51 => ⟨S4x1x3, .f32⟩
  | 52 => ⟨S4x8192x3, .f32⟩
  | 53 => ⟨S4x8192x3, .f32⟩
  | 54 => ⟨S4x8192x3, .f32⟩
  | 55 => ⟨S_, .f32⟩
  | 56 => ⟨S4x8192, .f32⟩
  | 57 => ⟨S4x8192, .f32⟩
  | 58 => ⟨S4x1, .f32⟩
  | 59 => ⟨S4x1, .i32⟩
  | 60 => ⟨S4, .i32⟩
  | 61 => ⟨S_, .i32⟩
  | 62 => ⟨S_, .i32⟩
  | 63 => ⟨S4x1024x1, .i32⟩
  | 64 => ⟨S_, .i32⟩
  | 65 => ⟨S4x1024x1, .i32⟩
  | 66 => ⟨S4x1024x1, .i1⟩
  | 67 => ⟨S_, .i32⟩
  | 68 => ⟨S4x1024x1, .i32⟩
  | 69 => ⟨S4x1024x1, .i32⟩
  | 70 => ⟨S4x1024x1, .i32⟩
  | 71 => ⟨S1, .i32⟩
  | 72 => ⟨S_, .i32⟩
  | 73 => ⟨S4x1024x1, .i32⟩
  | 74 => ⟨S4x1024x1, .i1⟩
  | 75 => ⟨S1x1x1, .i32⟩
  | 76 => ⟨S4x1024x1, .i32⟩
  | 77 => ⟨S4x1024x1, .i1⟩
  | 78 => ⟨S4x1024x1, .i1⟩
  | 79 => ⟨S_, .i1⟩
  | 80 => ⟨S4x1024, .i1⟩
  | 81 => ⟨S4x1024x3, .f32⟩
  | 82 => ⟨S4x1024x3, .i1⟩
  | 83 => ⟨S_, .f32⟩
  | 84 => ⟨S4x1024x3, .f32⟩
  | 85 => ⟨S4x1024x3, .f32⟩
  | 86 => ⟨S4x1024x3, .f32⟩
  | 87 => ⟨S_, .f32⟩
  | 88 => ⟨S4x1024, .f32⟩
  | 89 => ⟨S4x1024x1, .f32⟩
  | 90 => ⟨S4x8192x3, .f32⟩
  | 91 => ⟨S_, .f32⟩
  | 92 => ⟨S4x8192, .f32⟩
  | 93 => ⟨S4x1x8192, .f32⟩
  | 94 => ⟨S4x1024x8192, .f32⟩
  | 95 => ⟨S4x1024x8192, .f32⟩
  | 96 => ⟨S4x1024x8192, .f32⟩
  | 97 => ⟨S4x1024x8192, .f32⟩
  | 98 => ⟨S_, .f32⟩
  | 99 => ⟨S4x1024x8192, .f32⟩
  | 100 => ⟨S4x1024x8192, .f32⟩
  | 101 => ⟨S4x1024x8192, .f32⟩
  | 102 => ⟨S8192, .i32⟩
  | 103 => ⟨S4x1024x8192, .i32⟩
  | 104 => ⟨S_, .f32⟩
  | 105 => ⟨S4x1024x8192, .f32⟩
  | 106 => ⟨S4x1024x8192, .i1⟩
  | 107 => ⟨S_, .i32⟩
  | 108 => ⟨S_, .i32⟩
  | 109 => ⟨S4x1024x8192, .i32⟩
  | 110 => ⟨S4x1024x8192, .i32⟩
  | 111 => ⟨S4x1024x8192, .i32⟩
  | 112 => ⟨S4x1024x32, .i32⟩
  | 113 => ⟨S4x1024x1, .i32⟩
  | 114 => ⟨S_, .i32⟩
  | 115 => ⟨S4x1024x32, .i32⟩
  | 116 => ⟨S4x1024x32, .i1⟩
  | 117 => ⟨S4x1024x32, .i32⟩
  | 118 => ⟨S4x1024x32, .i32⟩
  | 119 => ⟨S4, .i32⟩
  | 120 => ⟨S4x1x1, .i32⟩
  | 121 => ⟨S_, .i32⟩
  | 122 => ⟨S4x1x1, .i32⟩
  | 123 => ⟨S4x1x1, .i1⟩
  | 124 => ⟨S_, .i32⟩
  | 125 => ⟨S4x1x1, .i32⟩
  | 126 => ⟨S4x1x1, .i32⟩
  | 127 => ⟨S4x1x1, .i32⟩
  | _ => ⟨S4x8192x3, .f32⟩

abbrev hbmTy0_1 (i : Nat) : BufTy := match i % 128 with
  | 0 => ⟨S_, .i32⟩
  | 1 => ⟨S4x1024x32, .i32⟩
  | 2 => ⟨S4x1024x32, .i1⟩
  | 3 => ⟨S_, .i32⟩
  | 4 => ⟨S4x1024x32, .i32⟩
  | 5 => ⟨S4x1024x32, .i32⟩
  | 6 => ⟨S4x1024x32, .i32⟩
  | 7 => ⟨S4x1024x32, .i32⟩
  | 8 => ⟨S4x1024x32x1, .i32⟩
  | 9 => ⟨S4x1024x32x1, .i32⟩
  | 10 => ⟨S4x1024x32x2, .i32⟩
  | 11 => ⟨S4x1024x32x3, .f32⟩
  | 12 => ⟨S4x1024x1x3, .f32⟩
  | 13 => ⟨S4x1024x32x3, .f32⟩
  | 14 => ⟨S4x1024x32x3, .f32⟩
  | 15 => ⟨S4x8192x64, .f32⟩
  | 16 => ⟨S_, .i32⟩
  | 17 => ⟨S4x1x1, .i32⟩
  | 18 => ⟨S4x1x1, .i1⟩
  | 19 => ⟨S_, .i32⟩
  | 20 => ⟨S4x1x1, .i32⟩
  | 21 => ⟨S4x1x1, .i32⟩
  | 22 => ⟨S4x1x1, .i32⟩
  | 23 => ⟨S_, .i32⟩
  | 24 => ⟨S4x1024x32, .i32⟩
  | 25 => ⟨S4x1024x32, .i1⟩
  | 26 => ⟨S_, .i32⟩
  | 27 => ⟨S4x1024x32, .i32⟩
  | 28 => ⟨S4x1024x32, .i32⟩
  | 29 => ⟨S4x1024x32, .i32⟩
  | 30 => ⟨S4x1024x32, .i32⟩
  | 31 => ⟨S4x1024x32x1, .i32⟩
  | 32 => ⟨S4x1024x32x1, .i32⟩
  | 33 => ⟨S4x1024x32x2, .i32⟩
  | 34 => ⟨S4x1024x32x64, .f32⟩
  | 35 => ⟨S4x1024x32x67, .f32⟩
  | 36 => ⟨S4x1024x32x64, .f32⟩
  | 37 => ⟨S1x1x1x64, .f32⟩
  | 38 => ⟨S4x1024x32x64, .f32⟩
  | 39 => ⟨S4x1024x32x64, .f32⟩
  | 40 => ⟨S_, .f32⟩
  | 41 => ⟨S4x1024x32x64, .f32⟩
  | 42 => ⟨S4x1024x32x64, .f32⟩
  | 43 => ⟨S_, .f32⟩
  | 44 => ⟨S4x1024x64, .f32⟩
  | 45 => ⟨S4x64x1024, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_while0c_c_22 : Ref sig .tc := ⟨.hbm, 18, rfl⟩
abbrev main_while0c_v75 : Ref sig .tc := ⟨.hbm, 19, rfl⟩
abbrev main_while0b_call0_v0 : Ref sig .tc := ⟨.hbm, 20, rfl⟩
abbrev main_while0b_v75 : Ref sig .tc := ⟨.hbm, 21, rfl⟩
abbrev main_while0b_c_22 : Ref sig .tc := ⟨.hbm, 22, rfl⟩
abbrev main_while0b_v76 : Ref sig .tc := ⟨.hbm, 23, rfl⟩
abbrev main_while0b_c_23 : Ref sig .tc := ⟨.hbm, 24, rfl⟩
abbrev main_while0b_v77 : Ref sig .tc := ⟨.hbm, 25, rfl⟩
abbrev main_while0b_v78 : Ref sig .tc := ⟨.hbm, 26, rfl⟩
abbrev main_while0b_v79 : Ref sig .tc := ⟨.hbm, 27, rfl⟩
abbrev main_while0b_v80 : Ref sig .tc := ⟨.hbm, 28, rfl⟩
abbrev main_while0b_v81 : Ref sig .tc := ⟨.hbm, 29, rfl⟩
abbrev main_while0b_call1_c : Ref sig .tc := ⟨.hbm, 30, rfl⟩
abbrev main_while0b_call1_v0 : Ref sig .tc := ⟨.hbm, 31, rfl⟩
abbrev main_while0b_call1_v1 : Ref sig .tc := ⟨.hbm, 32, rfl⟩
abbrev main_while0b_call1_c_0 : Ref sig .tc := ⟨.hbm, 33, rfl⟩
abbrev main_while0b_call1_v2 : Ref sig .tc := ⟨.hbm, 34, rfl⟩
abbrev main_while0b_call1_v3 : Ref sig .tc := ⟨.hbm, 35, rfl⟩
abbrev main_while0b_call1_v4 : Ref sig .tc := ⟨.hbm, 36, rfl⟩
abbrev main_while0b_call1_c_1 : Ref sig .tc := ⟨.hbm, 37, rfl⟩
abbrev main_while0b_call1_c_2 : Ref sig .tc := ⟨.hbm, 38, rfl⟩
abbrev main_while0b_call1_v5 : Ref sig .tc := ⟨.hbm, 39, rfl⟩
abbrev main_while0b_call1_v6 : Ref sig .tc := ⟨.hbm, 40, rfl⟩
abbrev main_while0b_call1_v7 : Ref sig .tc := ⟨.hbm, 41, rfl⟩
abbrev main_while0b_call1_v8 : Ref sig .tc := ⟨.hbm, 42, rfl⟩
abbrev main_while0b_call1_v9 : Ref sig .tc := ⟨.hbm, 43, rfl⟩
abbrev main_while0b_call1_v10 : Ref sig .tc := ⟨.hbm, 44, rfl⟩
abbrev main_while0b_call1_c_3 : Ref sig .tc := ⟨.hbm, 45, rfl⟩
abbrev main_while0b_call1_v11 : Ref sig .tc := ⟨.hbm, 46, rfl⟩
abbrev main_while0b_call1_v12 : Ref sig .tc := ⟨.hbm, 47, rfl⟩
abbrev main_while0b_call1_v13 : Ref sig .tc := ⟨.hbm, 48, rfl⟩
abbrev main_while0b_call1_cst : Ref sig .tc := ⟨.hbm, 49, rfl⟩
abbrev main_while0b_call1_v14 : Ref sig .tc := ⟨.hbm, 50, rfl⟩
abbrev main_while0b_v82 : Ref sig .tc := ⟨.hbm, 51, rfl⟩
abbrev main_while0b_v83 : Ref sig .tc := ⟨.hbm, 52, rfl⟩
abbrev main_while0b_v84 : Ref sig .tc := ⟨.hbm, 53, rfl⟩
abbrev main_while0b_v85 : Ref sig .tc := ⟨.hbm, 54, rfl⟩
abbrev main_while0b_cst_24 : Ref sig .tc := ⟨.hbm, 55, rfl⟩
abbrev main_while0b_v86 : Ref sig .tc := ⟨.hbm, 56, rfl⟩
abbrev main_while0b_v87 : Ref sig .tc := ⟨.hbm, 57, rfl⟩
abbrev main_while0b_values : Ref sig .tc := ⟨.hbm, 58, rfl⟩
abbrev main_while0b_indices : Ref sig .tc := ⟨.hbm, 59, rfl⟩
abbrev main_while0b_v88 : Ref sig .tc := ⟨.hbm, 60, rfl⟩
abbrev main_while0b_c_25 : Ref sig .tc := ⟨.hbm, 61, rfl⟩
abbrev main_while0b_v89 : Ref sig .tc := ⟨.hbm, 62, rfl⟩
abbrev main_v5 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v6 : Ref sig .tc := ⟨.hbm, 85, rfl⟩
abbrev main_v7 : Ref sig .tc := ⟨.hbm, 86, rfl⟩
abbrev main_cst_2 : Ref sig .tc := ⟨.hbm, 87, rfl⟩
abbrev main_v8 : Ref sig .tc := ⟨.hbm, 88, rfl⟩
abbrev main_v9 : Ref sig .tc := ⟨.hbm, 89, rfl⟩
abbrev main_v10 : Ref sig .tc := ⟨.hbm, 90, rfl⟩
abbrev main_cst_3 : Ref sig .tc := ⟨.hbm, 91, rfl⟩
abbrev main_v11 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_cst_4 : Ref sig .tc := ⟨.hbm, 98, rfl⟩
abbrev main_v17 : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_v21 : Ref sig .tc := ⟨.hbm, 103, rfl⟩
abbrev main_cst_5 : Ref sig .tc := ⟨.hbm, 104, rfl⟩
abbrev main_v22 : Ref sig .tc := ⟨.hbm, 105, rfl⟩
abbrev main_v23 : Ref sig .tc := ⟨.hbm, 106, rfl⟩
abbrev main_c_6 : Ref sig .tc := ⟨.hbm, 107, rfl⟩
abbrev main_call3_v0 : Ref sig .tc := ⟨.hbm, 108, rfl⟩
abbrev main_call3_v1 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_c_7 : Ref sig .tc := ⟨.hbm, 114, rfl⟩
abbrev main_v28 : Ref sig .tc := ⟨.hbm, 115, rfl⟩
abbrev main_v29 : Ref sig .tc := ⟨.hbm, 116, rfl⟩
abbrev main_call5_v0 : Ref sig .tc := ⟨.hbm, 117, rfl⟩
abbrev main_v30 : Ref sig .tc := ⟨.hbm, 118, rfl⟩
abbrev main_v31 : Ref sig .tc := ⟨.hbm, 119, rfl⟩
abbrev main_v32 : Ref sig .tc := ⟨.hbm, 120, rfl⟩
abbrev main_c_8 : Ref sig .tc := ⟨.hbm, 121, rfl⟩
abbrev main_v33 : Ref sig .tc := ⟨.hbm, 122, rfl⟩
abbrev main_v34 : Ref sig .tc := ⟨.hbm, 123, rfl⟩
abbrev main_c_9 : Ref sig .tc := ⟨.hbm, 124, rfl⟩
abbrev main_v35 : Ref sig .tc := ⟨.hbm, 125, rfl⟩
abbrev main_v36 : Ref sig .tc := ⟨.hbm, 126, rfl⟩
abbrev main_v37 : Ref sig .tc := ⟨.hbm, 127, rfl⟩
abbrev main_c_10 : Ref sig .tc := ⟨.hbm, 128, rfl⟩
abbrev main_v38 : Ref sig .tc := ⟨.hbm, 129, rfl⟩
abbrev main_v39 : Ref sig .tc := ⟨.hbm, 130, rfl⟩
abbrev main_c_11 : Ref sig .tc := ⟨.hbm, 131, rfl⟩
abbrev main_v40 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_c_12 : Ref sig .tc := ⟨.hbm, 144, rfl⟩
abbrev main_v52 : Ref sig .tc := ⟨.hbm, 145, rfl⟩
abbrev main_v53 : Ref sig .tc := ⟨.hbm, 146, rfl⟩
abbrev main_c_13 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_c_14 : Ref sig .tc := ⟨.hbm, 151, rfl⟩
abbrev main_v57 : Ref sig .tc := ⟨.hbm, 152, rfl⟩
abbrev main_v58 : Ref sig .tc := ⟨.hbm, 153, rfl⟩
abbrev main_c_15 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_v63 : Ref sig .tc := ⟨.hbm, 159, rfl⟩
abbrev main_v64 : Ref sig .tc := ⟨.hbm, 160, rfl⟩
abbrev main_v65 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_call6_cst : Ref sig .tc := ⟨.hbm, 168, rfl⟩
abbrev main_call6_v0 : Ref sig .tc := ⟨.hbm, 169, rfl⟩
abbrev main_v72 : Ref sig .tc := ⟨.hbm, 170, rfl⟩
abbrev main_cst_16 : Ref sig .tc := ⟨.hbm, 171, rfl⟩
abbrev main_v73 : Ref sig .tc := ⟨.hbm, 172, rfl⟩
abbrev main_v74 : Ref sig .tc := ⟨.hbm, 173, rfl⟩

abbrev nD : Nat := 1
abbrev τ : Topo := Topo.v7x

variable {F : FTy → Type} [FloatOps F]

abbrev main_while0_count : Scf.Loop 32 := ⟨0#32, 1024#32, 1#32⟩
-- ==== Proof.Reference.Stretches.lean ====
/- The reference program as stretches of host operations around one counted loop of 1024 trips. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's list of operations recurses past the default depth
set_option maxRecDepth 1208

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 14 host operations of @main, in order. -/
abbrev hostOps0 : List (HloOp τ sig (Elt F)) :=
  [ StableHlo.nullary main_c (constantI S_ 32 0#32),
    StableHlo.unary main_c main_v0 (broadcastInDim S4x1024 ![] bcast_S_S4x1024 : (⟨S_, .i32⟩ : BufTy).Contents (Elt F) → (⟨S4x1024, .i32⟩ : BufTy).Contents (Elt F)),
    StableHlo.nullary main_cst (constant S_ .f32 0x501502F9#32),
    StableHlo.unary main_cst main_v1 (broadcastInDim S4x8192 ![] bcast_S_S4x8192 : (⟨S_, .f32⟩ : BufTy).Contents (Elt F) → (⟨S4x8192, .f32⟩ : BufTy).Contents (Elt F)),
    StableHlo.nullary main_c_0 (constantI S_ 32 0#32),
    StableHlo.unary main_c_0 main_v2 (broadcastInDim S4 ![] bcast_S_S4 : (⟨S_, .i32⟩ : BufTy).Contents (Elt F) → (⟨S4, .i32⟩ : BufTy).Contents (Elt F)),
    StableHlo.nullary main_v3 (iotaInDim S1024 32 0),
    StableHlo.nullary main_c_1 (constantI S_ 32 0#32),
    StableHlo.unary main_v3 main_v4_0 id,
    StableHlo.unary main_arg0 main_v4_1 id,
    StableHlo.unary main_c_1 main_v4_2 id,
    StableHlo.unary main_v0 main_v4_3 id,
    StableHlo.unary main_v1 main_v4_4 id,
    StableHlo.unary main_v2 main_v4_5 id ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, in order. -/
abbrev hostOps0_1 : List (HloOp τ sig (Elt F)) :=
  [ StableHlo.unary main_v4_3 main_v5 (broadcastInDim S4x1024x1 ![0, 1] bcast_S4x1024_S4x1024x1_0_1 : (⟨S4x1024, .i32⟩ : BufTy).Contents (Elt F) → (⟨S4x1024x1, .i32⟩ : BufTy).Contents (Elt F)) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  StableHlo.unary_bufs_sub ..
/-- 22 host operations of @take_along_axis_0 (main_call2), in order. -/
abbrev hostOps0_2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4x1024x1, .i32⟩) (broadcastInDim S4x1024x1 ![] bcast_S_S4x1024x1),
    StableHlo.TRef.binary (.of main_v5 : StableHlo.TRef sig ⟨S4x1024x1, .i32⟩) (.of main_call2_v0 : StableHlo.TRef sig ⟨S4x1024x1, .i32⟩) (.of main_call2_v1 : StableHlo.TRef sig ⟨S4x1024x1, .i1⟩) (cmpi .slt),
    StableHlo.TRef.nullary (.of main_call2_c_0 : StableHlo.TRef sig ⟨S_, .i32⟩) (constantI S_ 32 8192#32),
    StableHlo.TRef.unary (.of main_call2_c_0 : StableHlo.TRef sig ⟨S_, .i32⟩) (.of main_call2_v2 : StableHlo.TRef sig ⟨S4x1024x1, .i32⟩) (broadcastInDim S4x1024x1 ![] bcast_S_S4x1024x1),
    StableHlo.TRef.binary (.of main_v5 : StableHlo.TRef sig ⟨S4x1024x1, .i32⟩) (.of main_call2_v2 : StableHlo.TRef sig ⟨S4x1024x1, .i32⟩) (.of main_call2_v3 : StableHlo.TRef sig ⟨S4x1024x1, .i32⟩) addi,
    StableHlo.TRef.ternary (.of main_call2_v1 : StableHlo.TRef sig ⟨S4x1024x1, .i1⟩) (.of main_call2_v3 : StableHlo.TRef sig ⟨S4x1024x1, .i32⟩) (.of main_v5 : StableHlo.TRef sig ⟨S4x1024x1, .i32⟩) (.of main_call2_v4 : StableHlo.TRef sig ⟨S4x1024x1, .i32⟩) select,
    StableHlo.TRef.nullary (.of main_call2_c_1 : StableHlo.TRef sig ⟨S1, .i32⟩) (constantI S1 32 8191#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S4x1024x1, .i32⟩) (broadcastInDim S4x1024x1 ![] bcast_S_S4x1024x1),
    StableHlo.TRef.binary (.of main_call2_v4 : StableHlo.TRef sig ⟨S4x1024x1, .i32⟩) (.of main_call2_v5 : StableHlo.TRef sig ⟨S4x1024x1, .i32⟩) (.of main_call2_v6 : StableHlo.TRef sig ⟨S4x1024x1, .i1⟩) (cmpi .sge),
    StableHlo.TRef.unary (.of main_call2_c_1 : StableHlo.TRef sig ⟨S1, .i32⟩) (.of main_call2_v7 : StableHlo.TRef sig ⟨S1x1x1, .i32⟩) (broadcastInDim S1x1x1 ![2] bcast_S1_S1x1x1_2),
    StableHlo.TRef.unary (.of main_call2_v7 : StableHlo.TRef sig ⟨S1x1x1, .i32⟩) (.of main_call2_v8 : StableHlo.TRef sig ⟨S4x1024x1, .i32⟩) (broadcastInDim S4x1024x1 ![0, 1, 2] bcast_S1x1x1_S4x1024x1_0_1_2),
    StableHlo.TRef.binary (.of main_call2_v4 : StableHlo.TRef sig ⟨S4x1024x1, .i32⟩) (.of main_call2_v8 : StableHlo.TRef sig ⟨S4x1024x1, .i32⟩) (.of main_call2_v9 : StableHlo.TRef sig ⟨S4x1024x1, .i1⟩) (cmpi .sle),
    StableHlo.TRef.binary (.of main_call2_v6 : StableHlo.TRef sig ⟨S4x1024x1, .i1⟩) (.of main_call2_v9 : StableHlo.TRef sig ⟨S4x1024x1, .i1⟩) (.of main_call2_v10 : StableHlo.TRef sig ⟨S4x1024x1, .i1⟩) andi,
    StableHlo.TRef.nullary (.of main_call2_c_3 : StableHlo.TRef sig ⟨S_, .i1⟩) (constantI S_ 1 1#1),
    StableHlo.TRef.binary (.of main_call2_v10 : StableHlo.TRef sig ⟨S4x1024x1, .i1⟩) (.of main_call2_c_3 : StableHlo.TRef sig ⟨S_, .i1⟩) (.of main_call2_v11 : StableHlo.TRef sig ⟨S4x1024, .i1⟩) (fun x v => Host.reduce IntOp.andi x v reducesTo_S4x1024x1_S4x1024_d2 h_S_),
    StableHlo.TRef.binary (.of main_arg0 : StableHlo.TRef sig ⟨S4x8192x3, .f32⟩) (.of main_call2_v4 : StableHlo.TRef sig ⟨S4x1024x1, .i32⟩) (.of main_call2_v12 : StableHlo.TRef sig ⟨S4x1024x3, .f32⟩) (fun x i => Host.gather gather_S4x8192x3_S4x1024x1_S4x1024x3_2_1_0_0_1_2_113 x i),
    StableHlo.TRef.unary (.of main_call2_v11 : StableHlo.TRef sig ⟨S4x1024, .i1⟩) (.of main_call2_v13 : StableHlo.TRef sig ⟨S4x1024x3, .i1⟩) (broadcastInDim S4x1024x3 ![0, 1] bcast_S4x1024_S4x1024x3_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4x1024x3, .f32⟩) (broadcastInDim S4x1024x3 ![] bcast_S_S4x1024x3),
    StableHlo.TRef.ternary (.of main_call2_v13 : StableHlo.TRef sig ⟨S4x1024x3, .i1⟩) (.of main_call2_v12 : StableHlo.TRef sig ⟨S4x1024x3, .f32⟩) (.of main_call2_v14 : StableHlo.TRef sig ⟨S4x1024x3, .f32⟩) (.of main_v6 : StableHlo.TRef sig ⟨S4x1024x3, .f32⟩) select ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 22 host operations of @main, in order. -/
abbrev hostOps0_3 : List (HloOp τ sig (Elt F)) :=
  [ StableHlo.binary main_v6 main_v6 main_v7 (mulf : (⟨S4x1024x3, .f32⟩ : BufTy).Contents (Elt F) → (⟨S4x1024x3, .f32⟩ : BufTy).Contents (Elt F) → (⟨S4x1024x3, .f32⟩ : BufTy).Contents (Elt F)),
    StableHlo.nullary main_cst_2 (constant S_ .f32 0x00000000#32),
    StableHlo.binary main_v7 main_cst_2 main_v8 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    StableHlo.unary main_v8 main_v9 (broadcastInDim S4x1024x1 ![0, 1] bcast_S4x1024_S4x1024x1_0_1 : (⟨S4x1024, .f32⟩ : BufTy).Contents (Elt F) → (⟨S4x1024x1, .f32⟩ : BufTy).Contents (Elt F)),
    StableHlo.binary main_arg0 main_arg0 main_v10 (mulf : (⟨S4x8192x3, .f32⟩ : BufTy).Contents (Elt F) → (⟨S4x8192x3, .f32⟩ : BufTy).Contents (Elt F) → (⟨S4x8192x3, .f32⟩ : BufTy).Contents (Elt F)),
    StableHlo.nullary main_cst_3 (constant S_ .f32 0x00000000#32),
    StableHlo.binary main_v10 main_cst_3 main_v11 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    StableHlo.unary main_v11 main_v12 (broadcastInDim S4x1x8192 ![0, 2] bcast_S4x8192_S4x1x8192_0_2 : (⟨S4x8192, .f32⟩ : BufTy).Contents (Elt F) → (⟨S4x1x8192, .f32⟩ : BufTy).Contents (Elt F)),
    StableHlo.unary main_v9 main_v13 (broadcastInDim S4x1024x8192 ![0, 1, 2] bcast_S4x1024x1_S4x1024x8192_0_1_2 : (⟨S4x1024x1, .f32⟩ : BufTy).Contents (Elt F) → (⟨S4x1024x8192, .f32⟩ : BufTy).Contents (Elt F)),
    StableHlo.unary main_v12 main_v14 (broadcastInDim S4x1024x8192 ![0, 1, 2] bcast_S4x1x8192_S4x1024x8192_0_1_2 : (⟨S4x1x8192, .f32⟩ : BufTy).Contents (Elt F) → (⟨S4x1024x8192, .f32⟩ : BufTy).Contents (Elt F)),
    StableHlo.binary main_v13 main_v14 main_v15 (addf : (⟨S4x1024x8192, .f32⟩ : BufTy).Contents (Elt F) → (⟨S4x1024x8192, .f32⟩ : BufTy).Contents (Elt F) → (⟨S4x1024x8192, .f32⟩ : BufTy).Contents (Elt F)),
    StableHlo.binary main_v6 main_arg0 main_v16 ((fun l r => Host.dotGeneral dot_S4x1024x3_S4x8192x3_S4x1024x8192_2_2_1_1_0_0 none l r) : (⟨S4x1024x3, .f32⟩ : BufTy).Contents (Elt F) → (⟨S4x8192x3, .f32⟩ : BufTy).Contents (Elt F) → (⟨S4x1024x8192, .f32⟩ : BufTy).Contents (Elt F)),
    StableHlo.nullary main_cst_4 (constant S_ .f32 0x40000000#32),
    StableHlo.unary main_cst_4 main_v17 (broadcastInDim S4x1024x8192 ![] bcast_S_S4x1024x8192 : (⟨S_, .f32⟩ : BufTy).Contents (Elt F) → (⟨S4x1024x8192, .f32⟩ : BufTy).Contents (Elt F)),
    StableHlo.binary main_v17 main_v16 main_v18 (mulf : (⟨S4x1024x8192, .f32⟩ : BufTy).Contents (Elt F) → (⟨S4x1024x8192, .f32⟩ : BufTy).Contents (Elt F) → (⟨S4x1024x8192, .f32⟩ : BufTy).Contents (Elt F)),
    StableHlo.binary main_v15 main_v18 main_v19 (subf : (⟨S4x1024x8192, .f32⟩ : BufTy).Contents (Elt F) → (⟨S4x1024x8192, .f32⟩ : BufTy).Contents (Elt F) → (⟨S4x1024x8192, .f32⟩ : BufTy).Contents (Elt F)),
    StableHlo.nullary main_v20 (iotaInDim S8192 32 0),
    StableHlo.unary main_v20 main_v21 (broadcastInDim S4x1024x8192 ![2] bcast_S8192_S4x1024x8192_2 : (⟨S8192, .i32⟩ : BufTy).Contents (Elt F) → (⟨S4x1024x8192, .i32⟩ : BufTy).Contents (Elt F)),
    StableHlo.nullary main_cst_5 (constant S_ .f32 0x3C23D70A#32),
    StableHlo.unary main_cst_5 main_v22 (broadcastInDim S4x1024x8192 ![] bcast_S_S4x1024x8192 : (⟨S_, .f32⟩ : BufTy).Contents (Elt F) → (⟨S4x1024x8192, .f32⟩ : BufTy).Contents (Elt F)),
    StableHlo.binary main_v19 main_v22 main_v23 (cmpf .ogt : (⟨S4x1024x8192, .f32⟩ : BufTy).Contents (Elt F) → (⟨S4x1024x8192, .f32⟩ : BufTy).Contents (Elt F) → (⟨S4x1024x8192, .i1⟩ : BufTy).Contents (Elt F)),
    StableHlo.nullary main_c_6 (constantI S_ 32 8192#32) ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub ..⟩
/-- 3 host operations of @_where (main_call3), in order. -/
abbrev hostOps0_4 : List (HloOp τ sig (Elt F)) :=
  [ StableHlo.TRef.unary (.of main_c_6 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S4x1024x8192, .i32⟩) (broadcastInDim S4x1024x8192 ![] bcast_S_S4x1024x8192),
    StableHlo.TRef.ternary (.of main_v23 : StableHlo.TRef sig ⟨S4x1024x8192, .i1⟩) (.of main_call3_v1 : StableHlo.TRef sig ⟨S4x1024x8192, .i32⟩) (.of main_v21 : StableHlo.TRef sig ⟨S4x1024x8192, .i32⟩) (.of main_v24 : StableHlo.TRef sig ⟨S4x1024x8192, .i32⟩) select ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @sort (main_call4), in order. -/
abbrev hostOps0_5 : List (HloOp τ sig (Elt F)) :=
  [ StableHlo.TRef.unary (.of main_v24 : StableHlo.TRef sig ⟨S4x1024x8192, .i32⟩) (.of main_v25 : StableHlo.TRef sig ⟨S4x1024x8192, .i32⟩) (fun x => Host.sort S4x1024x8192 2 comparator_i32_d2 x) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  StableHlo.unary_bufs_sub ..
/-- 5 host operations of @main, in order. -/
abbrev hostOps0_6 : List (HloOp τ sig (Elt F)) :=
  [ StableHlo.unary main_v25 main_v26 ((extractStridedSlice S4x1024x32 ![0, 0, 0] · slices_S4x1024x8192_S4x1024x32_0_0_0) : (⟨S4x1024x8192, .i32⟩ : BufTy).Contents (Elt F) → (⟨S4x1024x32, .i32⟩ : BufTy).Contents (Elt F)),
    StableHlo.unary main_v26 main_v27 ((extractStridedSlice S4x1024x1 ![0, 0, 0] · slices_S4x1024x32_S4x1024x1_0_0_0) : (⟨S4x1024x32, .i32⟩ : BufTy).Contents (Elt F) → (⟨S4x1024x1, .i32⟩ : BufTy).Contents (Elt F)),
    StableHlo.nullary main_c_7 (constantI S_ 32 8192#32),
    StableHlo.unary main_c_7 main_v28 (broadcastInDim S4x1024x32 ![] bcast_S_S4x1024x32 : (⟨S_, .i32⟩ : BufTy).Contents (Elt F) → (⟨S4x1024x32, .i32⟩ : BufTy).Contents (Elt F)),
    StableHlo.binary main_v26 main_v28 main_v29 (cmpi .eq : (⟨S4x1024x32, .i32⟩ : BufTy).Contents (Elt F) → (⟨S4x1024x32, .i32⟩ : BufTy).Contents (Elt F) → (⟨S4x1024x32, .i1⟩ : BufTy).Contents (Elt F)) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub ..⟩
/-- 2 host operations of @_where_1 (main_call5), in order. -/
abbrev hostOps0_7 : List (HloOp τ sig (Elt F)) :=
  [ StableHlo.TRef.unary (.of main_v27 : StableHlo.TRef sig ⟨S4x1024x1, .i32⟩) (.of main_call5_v0 : StableHlo.TRef sig ⟨S4x1024x32, .i32⟩) (broadcastInDim S4x1024x32 ![0, 1, 2] bcast_S4x1024x1_S4x1024x32_0_1_2),
    StableHlo.TRef.ternary (.of main_v29 : StableHlo.TRef sig ⟨S4x1024x32, .i1⟩) (.of main_call5_v0 : StableHlo.TRef sig ⟨S4x1024x32, .i32⟩) (.of main_v26 : StableHlo.TRef sig ⟨S4x1024x32, .i32⟩) (.of main_v30 : StableHlo.TRef sig ⟨S4x1024x32, .i32⟩) select ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.unary_bufs_sub .., StableHlo.ternary_bufs_sub ..⟩
/-- 49 host operations of @main, in order. -/
abbrev hostOps0_8 : List (HloOp τ sig (Elt F)) :=
  ( StableHlo.nullary main_v31 (iotaInDim S4 32 0)
  :: StableHlo.unary main_v31 main_v32 (broadcastInDim S4x1x1 ![0] bcast_S4_S4x1x1_0 : (⟨S4, .i32⟩ : BufTy).Contents (Elt F) → (⟨S4x1x1, .i32⟩ : BufTy).Contents (Elt F))
  :: StableHlo.nullary main_c_8 (constantI S_ 32 0#32)
  :: StableHlo.unary main_c_8 main_v33 (broadcastInDim S4x1x1 ![] bcast_S_S4x1x1 : (⟨S_, .i32⟩ : BufTy).Contents (Elt F) → (⟨S4x1x1, .i32⟩ : BufTy).Contents (Elt F))
  :: StableHlo.binary main_v32 main_v33 main_v34 (cmpi .slt : (⟨S4x1x1, .i32⟩ : BufTy).Contents (Elt F) → (⟨S4x1x1, .i32⟩ : BufTy).Contents (Elt F) → (⟨S4x1x1, .i1⟩ : BufTy).Contents (Elt F))
  :: StableHlo.nullary main_c_9 (constantI S_ 32 4#32)
  :: StableHlo.unary main_c_9 main_v35 (broadcastInDim S4x1x1 ![] bcast_S_S4x1x1 : (⟨S_, .i32⟩ : BufTy).Contents (Elt F) → (⟨S4x1x1, .i32⟩ : BufTy).Contents (Elt F))
  :: StableHlo.binary main_v32 main_v35 main_v36 (addi : (⟨S4x1x1, .i32⟩ : BufTy).Contents (Elt F) → (⟨S4x1x1, .i32⟩ : BufTy).Contents (Elt F) → (⟨S4x1x1, .i32⟩ : BufTy).Contents (Elt F))
  :: StableHlo.ternary main_v34 main_v36 main_v32 main_v37 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F))
  :: StableHlo.nullary main_c_10 (constantI S_ 32 0#32)
  :: StableHlo.unary main_c_10 main_v38 (broadcastInDim S4x1024x32 ![] bcast_S_S4x1024x32 : (⟨S_, .i32⟩ : BufTy).Contents (Elt F) → (⟨S4x1024x32, .i32⟩ : BufTy).Contents (Elt F))
  :: StableHlo.binary main_v30 main_v38 main_v39 (cmpi .slt : (⟨S4x1024x32, .i32⟩ : BufTy).Contents (Elt F) → (⟨S4x1024x32, .i32⟩ : BufTy).Contents (Elt F) → (⟨S4x1024x32, .i1⟩ : BufTy).Contents (Elt F))
  :: StableHlo.nullary main_c_11 (constantI S_ 32 8192#32)
  :: StableHlo.unary main_c_11 main_v40 (broadcastInDim S4x1024x32 ![] bcast_S_S4x1024x32 : (⟨S_, .i32⟩ : BufTy).Contents (Elt F) → (⟨S4x1024x32, .i32⟩ : BufTy).Contents (Elt F))
  :: StableHlo.binary main_v30 main_v40 main_v41 (addi : (⟨S4x1024x32, .i32⟩ : BufTy).Contents (Elt F) → (⟨S4x1024x32, .i32⟩ : BufTy).Contents (Elt F) → (⟨S4x1024x32, .i32⟩ : BufTy).Contents (Elt F))
  :: StableHlo.ternary main_v39 main_v41 main_v30 main_v42 (select : (⟨S4x1024x32, .i1⟩ : BufTy).Contents (Elt F) → (⟨S4x1024x32, .i32⟩ : BufTy).Contents (Elt F) → (⟨S4x1024x32, .i32⟩ : BufTy).Contents (Elt F) → (⟨S4x1024x32, .i32⟩ : BufTy).Contents (Elt F))
  :: StableHlo.unary main_v37 main_v43 (broadcastInDim S4x1024x32 ![0, 1, 2] bcast_S4x1x1_S4x1024x32_0_1_2 : (⟨S4x1x1, .i32⟩ : BufTy).Contents (Elt F) → (⟨S4x1024x32, .i32⟩ : BufTy).Contents (Elt F))
  :: StableHlo.unary main_v43 main_v44 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F))
  :: StableHlo.unary main_v42 main_v45 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F))
  :: StableHlo.binary main_v44 main_v45 main_v46 ((fun a b => concatenate S4x1024x32x2 3 [⟨S4x1024x32x1, a⟩, ⟨S4x1024x32x1, b⟩] concatenates_S4x1024x32x1_S4x1024x32x1_S4x1024x32x2_d3) : (⟨S4x1024x32x1, .i32⟩ : BufTy).Contents (Elt F) → (⟨S4x1024x32x1, .i32⟩ : BufTy).Contents (Elt F) → (⟨S4x1024x32x2, .i32⟩ : BufTy).Contents (Elt F))
  :: StableHlo.binary main_arg0 main_v46 main_v47 ((fun x i => Host.gather gather_S4x8192x3_S4x1024x32x2_S4x1024x32x3_3_01_n_n_01_3_113 x i) : (⟨S4x8192x3, .f32⟩ : BufTy).Contents (Elt F) → (⟨S4x1024x32x2, .i32⟩ : BufTy).Contents (Elt F) → (⟨S4x1024x32x3, .f32⟩ : BufTy).Contents (Elt F))
  :: StableHlo.unary main_v6 main_v48 (broadcastInDim S4x1024x1x3 ![0, 1, 3] bcast_S4x1024x3_S4x1024x1x3_0_1_3 : (⟨S4x1024x3, .f32⟩ : BufTy).Contents (Elt F) → (⟨S4x1024x1x3, .f32⟩ : BufTy).Contents (Elt F))
  :: StableHlo.unary main_v48 main_v49 (broadcastInDim S4x1024x32x3 ![0, 1, 2, 3] bcast_S4x1024x1x3_S4x1024x32x3_0_1_2_3 : (⟨S4x1024x1x3, .f32⟩ : BufTy).Contents (Elt F) → (⟨S4x1024x32x3, .f32⟩ : BufTy).Contents (Elt F))
  :: StableHlo.binary main_v47 main_v49 main_v50 (subf : (⟨S4x1024x32x3, .f32⟩ : BufTy).Contents (Elt F) → (⟨S4x1024x32x3, .f32⟩ : BufTy).Contents (Elt F) → (⟨S4x1024x32x3, .f32⟩ : BufTy).Contents (Elt F))
  :: StableHlo.unary main_arg1 main_v51 ((transpose S4x8192x64 [0, 2, 1] · transposes_S4x64x8192_S4x8192x64_0_2_1) : (⟨S4x64x8192, .f32⟩ : BufTy).Contents (Elt F) → (⟨S4x8192x64, .f32⟩ : BufTy).Contents (Elt F))
  :: StableHlo.nullary main_c_12 (constantI S_ 32 0#32)
  :: StableHlo.unary main_c_12 main_v52 (broadcastInDim S4x1x1 ![] bcast_S_S4x1x1 : (⟨S_, .i32⟩ : BufTy).Contents (Elt F) → (⟨S4x1x1, .i32⟩ : BufTy).Contents (Elt F))
  :: StableHlo.binary main_v32 main_v52 main_v53 (cmpi .slt : (⟨S4x1x1, .i32⟩ : BufTy).Contents (Elt F) → (⟨S4x1x1, .i32⟩ : BufTy).Contents (Elt F) → (⟨S4x1x1, .i1⟩ : BufTy).Contents (Elt F))
  :: StableHlo.nullary main_c_13 (constantI S_ 32 4#32)
  :: StableHlo.unary main_c_13 main_v54 (broadcastInDim S4x1x1 ![] bcast_S_S4x1x1 : (⟨S_, .i32⟩ : BufTy).Contents (Elt F) → (⟨S4x1x1, .i32⟩ : BufTy).Contents (Elt F))
  :: StableHlo.binary main_v32 main_v54 main_v55 (addi : (⟨S4x1x1, .i32⟩ : BufTy).Contents (Elt F) → (⟨S4x1x1, .i32⟩ : BufTy).Contents (Elt F) → (⟨S4x1x1, .i32⟩ : BufTy).Contents (Elt F))
  :: StableHlo.ternary main_v53 main_v55 main_v32 main_v56 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F))
  :: StableHlo.nullary main_c_14 (constantI S_ 32 0#32)
  :: StableHlo.unary main_c_14 main_v57 (broadcastInDim S4x1024x32 ![] bcast_S_S4x1024x32 : (⟨S_, .i32⟩ : BufTy).Contents (Elt F) → (⟨S4x1024x32, .i32⟩ : BufTy).Contents (Elt F))
  :: StableHlo.binary main_v30 main_v57 main_v58 (cmpi .slt : (⟨S4x1024x32, .i32⟩ : BufTy).Contents (Elt F) → (⟨S4x1024x32, .i32⟩ : BufTy).Contents (Elt F) → (⟨S4x1024x32, .i1⟩ : BufTy).Contents (Elt F))
  :: StableHlo.nullary main_c_15 (constantI S_ 32 8192#32)
  :: StableHlo.unary main_c_15 main_v59 (broadcastInDim S4x1024x32 ![] bcast_S_S4x1024x32 : (⟨S_, .i32⟩ : BufTy).Contents (Elt F) → (⟨S4x1024x32, .i32⟩ : BufTy).Contents (Elt F))
  :: StableHlo.binary main_v30 main_v59 main_v60 (addi : (⟨S4x1024x32, .i32⟩ : BufTy).Contents (Elt F) → (⟨S4x1024x32, .i32⟩ : BufTy).Contents (Elt F) → (⟨S4x1024x32, .i32⟩ : BufTy).Contents (Elt F))
  :: StableHlo.ternary main_v58 main_v60 main_v30 main_v61 (select : (⟨S4x1024x32, .i1⟩ : BufTy).Contents (Elt F) → (⟨S4x1024x32, .i32⟩ : BufTy).Contents (Elt F) → (⟨S4x1024x32, .i32⟩ : BufTy).Contents (Elt F) → (⟨S4x1024x32, .i32⟩ : BufTy).Contents (Elt F))
  :: StableHlo.unary main_v56 main_v62 (broadcastInDim S4x1024x32 ![0, 1, 2] bcast_S4x1x1_S4x1024x32_0_1_2 : (⟨S4x1x1, .i32⟩ : BufTy).Contents (Elt F) → (⟨S4x1024x32, .i32⟩ : BufTy).Contents (Elt F))
  :: StableHlo.unary main_v62 main_v63 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F))
  :: StableHlo.unary main_v61 main_v64 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F))
  :: StableHlo.binary main_v63 main_v64 main_v65 ((fun a b => concatenate S4x1024x32x2 3 [⟨S4x1024x32x1, a⟩, ⟨S4x1024x32x1, b⟩] concatenates_S4x1024x32x1_S4x1024x32x1_S4x1024x32x2_d3) : (⟨S4x1024x32x1, .i32⟩ : BufTy).Contents (Elt F) → (⟨S4x1024x32x1, .i32⟩ : BufTy).Contents (Elt F) → (⟨S4x1024x32x2, .i32⟩ : BufTy).Contents (Elt F))
  :: StableHlo.binary main_v51 main_v65 main_v66 ((fun x i => Host.gather gather_S4x8192x64_S4x1024x32x2_S4x1024x32x64_3_01_n_n_01_3_1164 x i) : (⟨S4x8192x64, .f32⟩ : BufTy).Contents (Elt F) → (⟨S4x1024x32x2, .i32⟩ : BufTy).Contents (Elt F) → (⟨S4x1024x32x64, .f32⟩ : BufTy).Contents (Elt F))
  :: StableHlo.binary main_v50 main_v66 main_v67 ((fun a b => concatenate S4x1024x32x67 3 [⟨S4x1024x32x3, a⟩, ⟨S4x1024x32x64, b⟩] concatenates_S4x1024x32x3_S4x1024x32x64_S4x1024x32x67_d3) : (⟨S4x1024x32x3, .f32⟩ : BufTy).Contents (Elt F) → (⟨S4x1024x32x64, .f32⟩ : BufTy).Contents (Elt F) → (⟨S4x1024x32x67, .f32⟩ : BufTy).Contents (Elt F))
  :: StableHlo.binary main_v67 main_arg2 main_v68 ((fun l r => Host.dotGeneral dot_S4x1024x32x67_S64x67_S4x1024x32x64_3_1_012_0_n_n none l r) : (⟨S4x1024x32x67, .f32⟩ : BufTy).Contents (Elt F) → (⟨S64x67, .f32⟩ : BufTy).Contents (Elt F) → (⟨S4x1024x32x64, .f32⟩ : BufTy).Contents (Elt F))
  :: StableHlo.unary main_arg3 main_v69 (broadcastInDim S1x1x1x64 ![3] bcast_S64_S1x1x1x64_3 : (⟨S64, .f32⟩ : BufTy).Contents (Elt F) → (⟨S1x1x1x64, .f32⟩ : BufTy).Contents (Elt F))
  :: StableHlo.unary main_v69 main_v70 (broadcastInDim S4x1024x32x64 ![0, 1, 2, 3] bcast_S1x1x1x64_S4x1024x32x64_0_1_2_3 : (⟨S1x1x1x64, .f32⟩ : BufTy).Contents (Elt F) → (⟨S4x1024x32x64, .f32⟩ : BufTy).Contents (Elt F))
  :: StableHlo.binary main_v68 main_v70 main_v71 (addf : (⟨S4x1024x32x64, .f32⟩ : BufTy).Contents (Elt F) → (⟨S4x1024x32x64, .f32⟩ : BufTy).Contents (Elt F) → (⟨S4x1024x32x64, .f32⟩ : BufTy).Contents (Elt F))
  :: [] )
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub ..⟩
/-- 3 host operations of @relu (main_call6), in order. -/
abbrev hostOps0_9 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S4x1024x32x64, .f32⟩) (broadcastInDim S4x1024x32x64 ![] bcast_S_S4x1024x32x64),
    StableHlo.TRef.binary (.of main_v71 : StableHlo.TRef sig ⟨S4x1024x32x64, .f32⟩) (.of main_call6_v0 : StableHlo.TRef sig ⟨S4x1024x32x64, .f32⟩) (.of main_v72 : StableHlo.TRef sig ⟨S4x1024x32x64, .f32⟩) maximumf ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.nullary_bufs_sub .., StableHlo.unary_bufs_sub .., StableHlo.binary_bufs_sub ..⟩
/-- 3 host operations of @main, in order. -/
abbrev hostOps0_10 : List (HloOp τ sig (Elt F)) :=
  [ StableHlo.nullary main_cst_16 (constant S_ .f32 0xFF800000#32),
    StableHlo.binary main_v72 main_cst_16 main_v73 ((fun x v => Host.reduce FloatOps.maximumf x v reducesTo_S4x1024x32x64_S4x1024x64_d2 h_S_) : (⟨S4x1024x32x64, .f32⟩ : BufTy).Contents (Elt F) → (⟨S_, .f32⟩ : BufTy).Contents (Elt F) → (⟨S4x1024x64, .f32⟩ : BufTy).Contents (Elt F)),
    StableHlo.unary main_v73 main_v74 ((transpose S4x64x1024 [0, 2, 1] · transposes_S4x1024x64_S4x64x1024_0_2_1) : (⟨S4x1024x64, .f32⟩ : BufTy).Contents (Elt F) → (⟨S4x64x1024, .f32⟩ : BufTy).Contents (Elt F)) ]
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  ⟨StableHlo.nullary_bufs_sub .., StableHlo.binary_bufs_sub .., StableHlo.unary_bufs_sub ..⟩
/-- 14 host operations of @main, window 0 (statements 1 … 60), in order. -/
abbrev main_part0_ops0 : List (HloOp τ sig (Elt F)) :=
  [ StableHlo.nullary main_c (constantI S_ 32 0#32),
    StableHlo.unary main_c main_v0 (broadcastInDim S4x1024 ![] bcast_S_S4x1024 : (⟨S_, .i32⟩ : BufTy).Contents (Elt F) → (⟨S4x1024, .i32⟩ : BufTy).Contents (Elt F)),
    StableHlo.nullary main_cst (constant S_ .f32 0x501502F9#32),
    StableHlo.unary main_cst main_v1 (broadcastInDim S4x8192 ![] bcast_S_S4x8192 : (⟨S_, .f32⟩ : BufTy).Contents (Elt F) → (⟨S4x8192, .f32⟩ : BufTy).Contents (Elt F)),
    StableHlo.nullary main_c_0 (constantI S_ 32 0#32),
    StableHlo.unary main_c_0 main_v2 (broadcastInDim S4 ![] bcast_S_S4 : (⟨S_, .i32⟩ : BufTy).Contents (Elt F) → (⟨S4, .i32⟩ : BufTy).Contents (Elt F)),
    StableHlo.nullary main_v3 (iotaInDim S1024 32 0),
    StableHlo.nullary main_c_1 (constantI S_ 32 0#32),
    StableHlo.unary main_v3 main_v4_0 id,
    StableHlo.unary main_arg0 main_v4_1 id,
    StableHlo.unary main_c_1 main_v4_2 id,
    StableHlo.unary main_v0 main_v4_3 id,
    StableHlo.unary main_v1 main_v4_4 id,
    StableHlo.unary main_v2 main_v4_5 id ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, window 0 (statements 1 … 60), in order. -/
abbrev main_part0_ops1 : List (HloOp τ sig (Elt F)) :=
  [ StableHlo.unary main_v4_3 main_v5 (broadcastInDim S4x1024x1 ![0, 1] bcast_S4x1024_S4x1024x1_0_1 : (⟨S4x1024, .i32⟩ : BufTy).Contents (Elt F) → (⟨S4x1024x1, .i32⟩ : BufTy).Contents (Elt F)) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  StableHlo.unary_bufs_sub ..
/-- 22 host operations of @take_along_axis_0 (main_call2), window 0 (statements 1 … 60), in order. -/
abbrev main_part0_ops2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S4x1024x1, .i32⟩) (broadcastInDim S4x1024x1 ![] bcast_S_S4x1024x1),
    StableHlo.TRef.binary (.of main_v5 : StableHlo.TRef sig ⟨S4x1024x1, .i32⟩) (.of main_call2_v0 : StableHlo.TRef sig ⟨S4x1024x1, .i32⟩) (.of main_call2_v1 : StableHlo.TRef sig ⟨S4x1024x1, .i1⟩) (cmpi .slt),
    StableHlo.TRef.nullary (.of main_call2_c_0 : StableHlo.TRef sig ⟨S_, .i32⟩) (constantI S_ 32 8192#32),
    StableHlo.TRef.unary (.of main_call2_c_0 : StableHlo.TRef sig ⟨S_, .i32⟩) (.of main_call2_v2 : StableHlo.TRef sig ⟨S4x1024x1, .i32⟩) (broadcastInDim S4x1024x1 ![] bcast_S_S4x1024x1),
    StableHlo.TRef.binary (.of main_v5 : StableHlo.TRef sig ⟨S4x1024x1, .i32⟩) (.of main_call2_v2 : StableHlo.TRef sig ⟨S4x1024x1, .i32⟩) (.of main_call2_v3 : StableHlo.TRef sig ⟨S4x1024x1, .i32⟩) addi,
    StableHlo.TRef.ternary (.of main_call2_v1 : StableHlo.TRef sig ⟨S4x1024x1, .i1⟩) (.of main_call2_v3 : StableHlo.TRef sig ⟨S4x1024x1, .i32⟩) (.of main_v5 : StableHlo.TRef sig ⟨S4x1024x1, .i32⟩) (.of main_call2_v4 : StableHlo.TRef sig ⟨S4x1024x1, .i32⟩) select,
    StableHlo.TRef.nullary (.of main_call2_c_1 : StableHlo.TRef sig ⟨S1, .i32⟩) (constantI S1 32 8191#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S4x1024x1, .i32⟩) (broadcastInDim S4x1024x1 ![] bcast_S_S4x1024x1),
    StableHlo.TRef.binary (.of main_call2_v4 : StableHlo.TRef sig ⟨S4x1024x1, .i32⟩) (.of main_call2_v5 : StableHlo.TRef sig ⟨S4x1024x1, .i32⟩) (.of main_call2_v6 : StableHlo.TRef sig ⟨S4x1024x1, .i1⟩) (cmpi .sge),
    StableHlo.TRef.unary (.of main_call2_c_1 : StableHlo.TRef sig ⟨S1, .i32⟩) (.of main_call2_v7 : StableHlo.TRef sig ⟨S1x1x1, .i32⟩) (broadcastInDim S1x1x1 ![2] bcast_S1_S1x1x1_2),
    StableHlo.TRef.unary (.of main_call2_v7 : StableHlo.TRef sig ⟨S1x1x1, .i32⟩) (.of main_call2_v8 : StableHlo.TRef sig ⟨S4x1024x1, .i32⟩) (broadcastInDim S4x1024x1 ![0, 1, 2] bcast_S1x1x1_S4x1024x1_0_1_2),
    StableHlo.TRef.binary (.of main_call2_v4 : StableHlo.TRef sig ⟨S4x1024x1, .i32⟩) (.of main_call2_v8 : StableHlo.TRef sig ⟨S4x1024x1, .i32⟩) (.of main_call2_v9 : StableHlo.TRef sig ⟨S4x1024x1, .i1⟩) (cmpi .sle),
    StableHlo.TRef.binary (.of main_call2_v6 : StableHlo.TRef sig ⟨S4x1024x1, .i1⟩) (.of main_call2_v9 : StableHlo.TRef sig ⟨S4x1024x1, .i1⟩) (.of main_call2_v10 : StableHlo.TRef sig ⟨S4x1024x1, .i1⟩) andi,
    StableHlo.TRef.nullary (.of main_call2_c_3 : StableHlo.TRef sig ⟨S_, .i1⟩) (constantI S_ 1 1#1),
    StableHlo.TRef.binary (.of main_call2_v10 : StableHlo.TRef sig ⟨S4x1024x1, .i1⟩) (.of main_call2_c_3 : StableHlo.TRef sig ⟨S_, .i1⟩) (.of main_call2_v11 : StableHlo.TRef sig ⟨S4x1024, .i1⟩) (fun x v => Host.reduce IntOp.andi x v reducesTo_S4x1024x1_S4x1024_d2 h_S_),
    StableHlo.TRef.binary (.of main_arg0 : StableHlo.TRef sig ⟨S4x8192x3, .f32⟩) (.of main_call2_v4 : StableHlo.TRef sig ⟨S4x1024x1, .i32⟩) (.of main_call2_v12 : StableHlo.TRef sig ⟨S4x1024x3, .f32⟩) (fun x i => Host.gather gather_S4x8192x3_S4x1024x1_S4x1024x3_2_1_0_0_1_2_113 x i),
    StableHlo.TRef.unary (.of main_call2_v11 : StableHlo.TRef sig ⟨S4x1024, .i1⟩) (.of main_call2_v13 : StableHlo.TRef sig ⟨S4x1024x3, .i1⟩) (broadcastInDim S4x1024x3 ![0, 1] bcast_S4x1024_S4x1024x3_0_1),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v14 : StableHlo.TRef sig ⟨S4x1024x3, .f32⟩) (broadcastInDim S4x1024x3 ![] bcast_S_S4x1024x3),
    StableHlo.TRef.ternary (.of main_call2_v13 : StableHlo.TRef sig ⟨S4x1024x3, .i1⟩) (.of main_call2_v12 : StableHlo.TRef sig ⟨S4x1024x3, .f32⟩) (.of main_call2_v14 : StableHlo.TRef sig ⟨S4x1024x3, .f32⟩) (.of main_v6 : StableHlo.TRef sig ⟨S4x1024x3, .f32⟩) select ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 22 host operations of @main, window 0 (statements 1 … 60), in order. -/
abbrev main_part0_ops3 : List (HloOp τ sig (Elt F)) :=
  [ StableHlo.binary main_v6 main_v6 main_v7 (mulf : (⟨S4x1024x3, .f32⟩ : BufTy).Contents (Elt F) → (⟨S4x1024x3, .f32⟩ : BufTy).Contents (Elt F) → (⟨S4x1024x3, .f32⟩ : BufTy).Contents (Elt F)),
    StableHlo.nullary main_cst_2 (constant S_ .f32 0x00000000#32),
    StableHlo.binary main_v7 main_cst_2 main_v8 ((fun x v => Host.reduceAdd x v reducesTo_S4x1024x3_S4x1024_d2 h_S_) : (⟨S4x1024x3, .f32⟩ : BufTy).Contents (Elt F) → (⟨S_, .f32⟩ : BufTy).Contents (Elt F) → (⟨S4x1024, .f32⟩ : BufTy).Contents (Elt F)),
    StableHlo.unary main_v8 main_v9 (broadcastInDim S4x1024x1 ![0, 1] bcast_S4x1024_S4x1024x1_0_1 : (⟨S4x1024, .f32⟩ : BufTy).Contents (Elt F) → (⟨S4x1024x1, .f32⟩ : BufTy).Contents (Elt F)),
    StableHlo.binary main_arg0 main_arg0 main_v10 (mulf : (⟨S4x8192x3, .f32⟩ : BufTy).Contents (Elt F) → (⟨S4x8192x3, .f32⟩ : BufTy).Contents (Elt F) → (⟨S4x8192x3, .f32⟩ : BufTy).Contents (Elt F)),
    StableHlo.nullary main_cst_3 (constant S_ .f32 0x00000000#32),
    StableHlo.binary main_v10 main_cst_3 main_v11 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    StableHlo.unary main_v11 main_v12 (broadcastInDim S4x1x8192 ![0, 2] bcast_S4x8192_S4x1x8192_0_2 : (⟨S4x8192, .f32⟩ : BufTy).Contents (Elt F) → (⟨S4x1x8192, .f32⟩ : BufTy).Contents (Elt F)),
    StableHlo.unary main_v9 main_v13 (broadcastInDim S4x1024x8192 ![0, 1, 2] bcast_S4x1024x1_S4x1024x8192_0_1_2 : (⟨S4x1024x1, .f32⟩ : BufTy).Contents (Elt F) → (⟨S4x1024x8192, .f32⟩ : BufTy).Contents (Elt F)),
    StableHlo.unary main_v12 main_v14 (broadcastInDim S4x1024x8192 ![0, 1, 2] bcast_S4x1x8192_S4x1024x8192_0_1_2 : (⟨S4x1x8192, .f32⟩ : BufTy).Contents (Elt F) → (⟨S4x1024x8192, .f32⟩ : BufTy).Contents (Elt F)),
    StableHlo.binary main_v13 main_v14 main_v15 (addf : (⟨S4x1024x8192, .f32⟩ : BufTy).Contents (Elt F) → (⟨S4x1024x8192, .f32⟩ : BufTy).Contents (Elt F) → (⟨S4x1024x8192, .f32⟩ : BufTy).Contents (Elt F)),
    StableHlo.binary main_v6 main_arg0 main_v16 ((fun l r => Host.dotGeneral dot_S4x1024x3_S4x8192x3_S4x1024x8192_2_2_1_1_0_0 none l r) : (⟨S4x1024x3, .f32⟩ : BufTy).Contents (Elt F) → (⟨S4x8192x3, .f32⟩ : BufTy).Contents (Elt F) → (⟨S4x1024x8192, .f32⟩ : BufTy).Contents (Elt F)),
    StableHlo.nullary main_cst_4 (constant S_ .f32 0x40000000#32),
    StableHlo.unary main_cst_4 main_v17 (broadcastInDim S4x1024x8192 ![] bcast_S_S4x1024x8192 : (⟨S_, .f32⟩ : BufTy).Contents (Elt F) → (⟨S4x1024x8192, .f32⟩ : BufTy).Contents (Elt F)),
    StableHlo.binary main_v17 main_v16 main_v18 (mulf : (⟨S4x1024x8192, .f32⟩ : BufTy).Contents (Elt F) → (⟨S4x1024x8192, .f32⟩ : BufTy).Contents (Elt F) → (⟨S4x1024x8192, .f32⟩ : BufTy).Contents (Elt F)),
    StableHlo.binary main_v15 main_v18 main_v19 (subf : (⟨S4x1024x8192, .f32⟩ : BufTy).Contents (Elt F) → (⟨S4x1024x8192, .f32⟩ : BufTy).Contents (Elt F) → (⟨S4x1024x8192, .f32⟩ : BufTy).Contents (Elt F)),
    StableHlo.nullary main_v20 (iotaInDim S8192 32 0),
    StableHlo.unary main_v20 main_v21 (broadcastInDim S4x1024x8192 ![2] bcast_S8192_S4x1024x8192_2 : (⟨S8192, .i32⟩ : BufTy).Contents (Elt F) → (⟨S4x1024x8192, .i32⟩ : BufTy).Contents (Elt F)),
    StableHlo.nullary main_cst_5 (constant S_ .f32 0x3C23D70A#32),
    StableHlo.unary main_cst_5 main_v22 (broadcastInDim S4x1024x8192 ![] bcast_S_S4x1024x8192 : (⟨S_, .f32⟩ : BufTy).Contents (Elt F) → (⟨S4x1024x8192, .f32⟩ : BufTy).Contents (Elt F)),
    StableHlo.binary main_v19 main_v22 main_v23 (cmpf .ogt : (⟨S4x1024x8192, .f32⟩ : BufTy).Contents (Elt F) → (⟨S4x1024x8192, .f32⟩ : BufTy).Contents (Elt F) → (⟨S4x1024x8192, .i1⟩ : BufTy).Contents (Elt F)),
    StableHlo.nullary main_c_6 (constantI S_ 32 8192#32) ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub ..⟩
/-- 3 host operations of @_where (main_call3), window 0 (statements 1 … 60), in order. -/
abbrev main_part0_ops4 : List (HloOp τ sig (Elt F)) :=
  [ StableHlo.TRef.unary (.of main_c_6 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S4x1024x8192, .i32⟩) (broadcastInDim S4x1024x8192 ![] bcast_S_S4x1024x8192),
    StableHlo.TRef.ternary (.of main_v23 : StableHlo.TRef sig ⟨S4x1024x8192, .i1⟩) (.of main_call3_v1 : StableHlo.TRef sig ⟨S4x1024x8192, .i32⟩) (.of main_v21 : StableHlo.TRef sig ⟨S4x1024x8192, .i32⟩) (.of main_v24 : StableHlo.TRef sig ⟨S4x1024x8192, .i32⟩) select ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.unary_bufs_sub .., StableHlo.unary_bufs_sub .., StableHlo.ternary_bufs_sub ..⟩
/-- 1 host operation of @sort (main_call4), window 0 (statements 1 … 60), in order. -/
abbrev main_part0_ops5 : List (HloOp τ sig (Elt F)) :=
  [ StableHlo.TRef.unary (.of main_v24 : StableHlo.TRef sig ⟨S4x1024x8192, .i32⟩) (.of main_v25 : StableHlo.TRef sig ⟨S4x1024x8192, .i32⟩) (fun x => Host.sort S4x1024x8192 2 comparator_i32_d2 x) ]
/-- Each touches TensorCore references only (`HostSeg.ofOps` over `StableHlo.tcRefs`, or a subset by `sub_ucRefs`). -/
theorem main_part0_ops5_sub : (main_part0_ops5 : List (HloOp τ sig (Elt F))).Forall fun op => op.bufs ⊆ StableHlo.tcRefs τ sig :=
  StableHlo.unary_bufs_sub ..
/-- 5 host operations of @main, window 0 (statements 1 … 60), in order. -/
abbrev main_part0_ops6 : List (HloOp τ sig (Elt F)) :=
  [ StableHlo.unary main_v25 main_v26 ((extractStridedSlice S4x1024x32 ![0, 0, 0] · slices_S4x1024x8192_S4x1024x32_0_0_0) : (⟨S4x1024x8192, .i32⟩ : BufTy).Contents (Elt F) → (⟨S4x1024x32, .i32⟩ : BufTy).Contents (Elt F)),
    StableHlo.unary main_v26 main_v27 ((extractStridedSlice S4x1024x1 ![0, 0, 0] · slices_S4x1024x32_S4x1024x1_0_0_0) : (⟨S4x1024x32, .i32⟩ : BufTy).Contents (Elt F) → (⟨S4x1024x1, .i32⟩ : BufTy).Contents (Elt F)),
    StableHlo.nullary main_c_7 (constantI S_ 32 8192#32),
    StableHlo.unary main_c_7 main_v28 (broadcastInDim S4x1024x32 ![] bcast_S_S4x1024x32 : (⟨S_, .i32⟩ : BufTy).Contents (Elt F) → (⟨S4x1024x32, .i32⟩ : BufTy).Contents (Elt F)),
    StableHlo.binary main_v26 main_v28 main_v29 (cmpi .eq : (⟨S4x1024x32, .i32⟩ : BufTy).Contents (Elt F) → (⟨S4x1024x32, .i32⟩ : BufTy).Contents (Elt F) → (⟨S4x1024x32, .i1⟩ : BufTy).Contents (Elt F)) ]
/-- Each touches TensorCore references only (`HostSeg.ofOps` over `StableHlo.tcRefs`, or a subset by `sub_ucRefs`). -/
theorem main_part0_ops6_sub : (main_part0_ops6 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub ..⟩
/-- 2 host operations of @_where_1 (main_call5), window 0 (statements 1 … 60), in order. -/
abbrev main_part0_ops7 : List (HloOp τ sig (Elt F)) :=
  [ StableHlo.TRef.unary (.of main_v27 : StableHlo.TRef sig ⟨S4x1024x1, .i32⟩) (.of main_call5_v0 : StableHlo.TRef sig ⟨S4x1024x32, .i32⟩) (broadcastInDim S4x1024x32 ![0, 1, 2] bcast_S4x1024x1_S4x1024x32_0_1_2),
    StableHlo.TRef.ternary (.of main_v29 : StableHlo.TRef sig ⟨S4x1024x32, .i1⟩) (.of main_call5_v0 : StableHlo.TRef sig ⟨S4x1024x32, .i32⟩) (.of main_v26 : StableHlo.TRef sig ⟨S4x1024x32, .i32⟩) (.of main_v30 : StableHlo.TRef sig ⟨S4x1024x32, .i32⟩) select ]
/-- Each touches TensorCore references only (`HostSeg.ofOps` over `StableHlo.tcRefs`, or a subset by `sub_ucRefs`). -/
theorem main_part0_ops7_sub : (main_part0_ops7 : List (HloOp τ sig (Elt F))).Forall fun op => op.bufs ⊆ StableHlo.tcRefs τ sig :=
  ⟨StableHlo.unary_bufs_sub .., StableHlo.ternary_bufs_sub ..⟩
/-- 13 host operations of @main, window 0 (statements 1 … 60), in order. -/
abbrev main_part0_ops8 : List (HloOp τ sig (Elt F)) :=
  [ StableHlo.nullary main_v31 (iotaInDim S4 32 0),
    StableHlo.unary main_v31 main_v32 (broadcastInDim S4x1x1 ![0] bcast_S4_S4x1x1_0 : (⟨S4, .i32⟩ : BufTy).Contents (Elt F) → (⟨S4x1x1, .i32⟩ : BufTy).Contents (Elt F)),
    StableHlo.nullary main_c_8 (constantI S_ 32 0#32),
    StableHlo.unary main_c_8 main_v33 (broadcastInDim S4x1x1 ![] bcast_S_S4x1x1 : (⟨S_, .i32⟩ : BufTy).Contents (Elt F) → (⟨S4x1x1, .i32⟩ : BufTy).Contents (Elt F)),
    StableHlo.binary main_v32 main_v33 main_v34 (cmpi .slt : (⟨S4x1x1, .i32⟩ : BufTy).Contents (Elt F) → (⟨S4x1x1, .i32⟩ : BufTy).Contents (Elt F) → (⟨S4x1x1, .i1⟩ : BufTy).Contents (Elt F)),
    StableHlo.nullary main_c_9 (constantI S_ 32 4#32),
    StableHlo.unary main_c_9 main_v35 (broadcastInDim S4x1x1 ![] bcast_S_S4x1x1 : (⟨S_, .i32⟩ : BufTy).Contents (Elt F) → (⟨S4x1x1, .i32⟩ : BufTy).Contents (Elt F)),
    StableHlo.binary main_v32 main_v35 main_v36 (addi : (⟨S4x1x1, .i32⟩ : BufTy).Contents (Elt F) → (⟨S4x1x1, .i32⟩ : BufTy).Contents (Elt F) → (⟨S4x1x1, .i32⟩ : BufTy).Contents (Elt F)),
    StableHlo.ternary main_v34 main_v36 main_v32 main_v37 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F)),
    StableHlo.nullary main_c_10 (constantI S_ 32 0#32),
    StableHlo.unary main_c_10 main_v38 (broadcastInDim S4x1024x32 ![] bcast_S_S4x1024x32 : (⟨S_, .i32⟩ : BufTy).Contents (Elt F) → (⟨S4x1024x32, .i32⟩ : BufTy).Contents (Elt F)),
    StableHlo.binary main_v30 main_v38 main_v39 (cmpi .slt : (⟨S4x1024x32, .i32⟩ : BufTy).Contents (Elt F) → (⟨S4x1024x32, .i32⟩ : BufTy).Contents (Elt F) → (⟨S4x1024x32, .i1⟩ : BufTy).Contents (Elt F)),
    StableHlo.nullary main_c_11 (constantI S_ 32 8192#32) ]
/-- Each touches TensorCore references only (`HostSeg.ofOps` over `StableHlo.tcRefs`, or a subset by `sub_ucRefs`). -/
theorem main_part0_ops8_sub : (main_part0_ops8 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7 ]
  (StableHlo.seq main_part0_ops8) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons, StableHlo.chainK_seq_cons, Pipeline.chainK_cons, Pipeline.chainK_cons, StableHlo.chainK_seq_cons, Pipeline.chainK_cons]
  chain_rfl

/-- 36 host operations of @main, window 1 (statements 61 … 101), in order. -/
abbrev main_part1_ops0 : List (HloOp τ sig (Elt F)) :=
  ( StableHlo.unary main_c_11 main_v40 (broadcastInDim S4x1024x32 ![] bcast_S_S4x1024x32 : (⟨S_, .i32⟩ : BufTy).Contents (Elt F) → (⟨S4x1024x32, .i32⟩ : BufTy).Contents (Elt F))
  :: StableHlo.binary main_v30 main_v40 main_v41 (addi : (⟨S4x1024x32, .i32⟩ : BufTy).Contents (Elt F) → (⟨S4x1024x32, .i32⟩ : BufTy).Contents (Elt F) → (⟨S4x1024x32, .i32⟩ : BufTy).Contents (Elt F))
  :: StableHlo.ternary main_v39 main_v41 main_v30 main_v42 (select : (⟨S4x1024x32, .i1⟩ : BufTy).Contents (Elt F) → (⟨S4x1024x32, .i32⟩ : BufTy).Contents (Elt F) → (⟨S4x1024x32, .i32⟩ : BufTy).Contents (Elt F) → (⟨S4x1024x32, .i32⟩ : BufTy).Contents (Elt F))
  :: StableHlo.unary main_v37 main_v43 (broadcastInDim S4x1024x32 ![0, 1, 2] bcast_S4x1x1_S4x1024x32_0_1_2 : (⟨S4x1x1, .i32⟩ : BufTy).Contents (Elt F) → (⟨S4x1024x32, .i32⟩ : BufTy).Contents (Elt F))
  :: StableHlo.unary main_v43 main_v44 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F))
  :: StableHlo.unary main_v42 main_v45 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F))
  :: StableHlo.binary main_v44 main_v45 main_v46 ((fun a b => concatenate S4x1024x32x2 3 [⟨S4x1024x32x1, a⟩, ⟨S4x1024x32x1, b⟩] concatenates_S4x1024x32x1_S4x1024x32x1_S4x1024x32x2_d3) : (⟨S4x1024x32x1, .i32⟩ : BufTy).Contents (Elt F) → (⟨S4x1024x32x1, .i32⟩ : BufTy).Contents (Elt F) → (⟨S4x1024x32x2, .i32⟩ : BufTy).Contents (Elt F))
  :: StableHlo.binary main_arg0 main_v46 main_v47 ((fun x i => Host.gather gather_S4x8192x3_S4x1024x32x2_S4x1024x32x3_3_01_n_n_01_3_113 x i) : (⟨S4x8192x3, .f32⟩ : BufTy).Contents (Elt F) → (⟨S4x1024x32x2, .i32⟩ : BufTy).Contents (Elt F) → (⟨S4x1024x32x3, .f32⟩ : BufTy).Contents (Elt F))
  :: StableHlo.unary main_v6 main_v48 (broadcastInDim S4x1024x1x3 ![0, 1, 3] bcast_S4x1024x3_S4x1024x1x3_0_1_3 : (⟨S4x1024x3, .f32⟩ : BufTy).Contents (Elt F) → (⟨S4x1024x1x3, .f32⟩ : BufTy).Contents (Elt F))
  :: StableHlo.unary main_v48 main_v49 (broadcastInDim S4x1024x32x3 ![0, 1, 2, 3] bcast_S4x1024x1x3_S4x1024x32x3_0_1_2_3 : (⟨S4x1024x1x3, .f32⟩ : BufTy).Contents (Elt F) → (⟨S4x1024x32x3, .f32⟩ : BufTy).Contents (Elt F))
  :: StableHlo.binary main_v47 main_v49 main_v50 (subf : (⟨S4x1024x32x3, .f32⟩ : BufTy).Contents (Elt F) → (⟨S4x1024x32x3, .f32⟩ : BufTy).Contents (Elt F) → (⟨S4x1024x32x3, .f32⟩ : BufTy).Contents (Elt F))
  :: StableHlo.unary main_arg1 main_v51 ((transpose S4x8192x64 [0, 2, 1] · transposes_S4x64x8192_S4x8192x64_0_2_1) : (⟨S4x64x8192, .f32⟩ : BufTy).Contents (Elt F) → (⟨S4x8192x64, .f32⟩ : BufTy).Contents (Elt F))
  :: StableHlo.nullary main_c_12 (constantI S_ 32 0#32)
  :: StableHlo.unary main_c_12 main_v52 (broadcastInDim S4x1x1 ![] bcast_S_S4x1x1 : (⟨S_, .i32⟩ : BufTy).Contents (Elt F) → (⟨S4x1x1, .i32⟩ : BufTy).Contents (Elt F))
  :: StableHlo.binary main_v32 main_v52 main_v53 (cmpi .slt : (⟨S4x1x1, .i32⟩ : BufTy).Contents (Elt F) → (⟨S4x1x1, .i32⟩ : BufTy).Contents (Elt F) → (⟨S4x1x1, .i1⟩ : BufTy).Contents (Elt F))
  :: StableHlo.nullary main_c_13 (constantI S_ 32 4#32)
  :: StableHlo.unary main_c_13 main_v54 (broadcastInDim S4x1x1 ![] bcast_S_S4x1x1 : (⟨S_, .i32⟩ : BufTy).Contents (Elt F) → (⟨S4x1x1, .i32⟩ : BufTy).Contents (Elt F))
  :: StableHlo.binary main_v32 main_v54 main_v55 (addi : (⟨S4x1x1, .i32⟩ : BufTy).Contents (Elt F) → (⟨S4x1x1, .i32⟩ : BufTy).Contents (Elt F) → (⟨S4x1x1, .i32⟩ : BufTy).Contents (Elt F))
  :: StableHlo.ternary main_v53 main_v55 main_v32 main_v56 (select : (⟨S4x1x1, .i1⟩ : BufTy).Contents (Elt F) → (⟨S4x1x1, .i32⟩ : BufTy).Contents (Elt F) → (⟨S4x1x1, .i32⟩ : BufTy).Contents (Elt F) → (⟨S4x1x1, .i32⟩ : BufTy).Contents (Elt F))
  :: StableHlo.nullary main_c_14 (constantI S_ 32 0#32)
  :: StableHlo.unary main_c_14 main_v57 (broadcastInDim S4x1024x32 ![] bcast_S_S4x1024x32 : (⟨S_, .i32⟩ : BufTy).Contents (Elt F) → (⟨S4x1024x32, .i32⟩ : BufTy).Contents (Elt F))
  :: StableHlo.binary main_v30 main_v57 main_v58 (cmpi .slt : (⟨S4x1024x32, .i32⟩ : BufTy).Contents (Elt F) → (⟨S4x1024x32, .i32⟩ : BufTy).Contents (Elt F) → (⟨S4x1024x32, .i1⟩ : BufTy).Contents (Elt F))
  :: StableHlo.nullary main_c_15 (constantI S_ 32 8192#32)
  :: StableHlo.unary main_c_15 main_v59 (broadcastInDim S4x1024x32 ![] bcast_S_S4x1024x32 : (⟨S_, .i32⟩ : BufTy).Contents (Elt F) → (⟨S4x1024x32, .i32⟩ : BufTy).Contents (Elt F))
  :: StableHlo.binary main_v30 main_v59 main_v60 (addi : (⟨S4x1024x32, .i32⟩ : BufTy).Contents (Elt F) → (⟨S4x1024x32, .i32⟩ : BufTy).Contents (Elt F) → (⟨S4x1024x32, .i32⟩ : BufTy).Contents (Elt F))
  :: StableHlo.ternary main_v58 main_v60 main_v30 main_v61 (select : (⟨S4x1024x32, .i1⟩ : BufTy).Contents (Elt F) → (⟨S4x1024x32, .i32⟩ : BufTy).Contents (Elt F) → (⟨S4x1024x32, .i32⟩ : BufTy).Contents (Elt F) → (⟨S4x1024x32, .i32⟩ : BufTy).Contents (Elt F))
  :: StableHlo.unary main_v56 main_v62 (broadcastInDim S4x1024x32 ![0, 1, 2] bcast_S4x1x1_S4x1024x32_0_1_2 : (⟨S4x1x1, .i32⟩ : BufTy).Contents (Elt F) → (⟨S4x1024x32, .i32⟩ : BufTy).Contents (Elt F))
  :: StableHlo.unary main_v62 main_v63 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F))
  :: StableHlo.unary main_v61 main_v64 (broadcastInDim S4x1024x32x1 ![0, 1, 2] bcast_S4x1024x32_S4x1024x32x1_0_1_2 : (⟨S4x1024x32, .i32⟩ : BufTy).Contents (Elt F) → (⟨S4x1024x32x1, .i32⟩ : BufTy).Contents (Elt F))
  :: StableHlo.binary main_v63 main_v64 main_v65 ((fun a b => concatenate S4x1024x32x2 3 [⟨S4x1024x32x1, a⟩, ⟨S4x1024x32x1, b⟩] concatenates_S4x1024x32x1_S4x1024x32x1_S4x1024x32x2_d3) : (⟨S4x1024x32x1, .i32⟩ : BufTy).Contents (Elt F) → (⟨S4x1024x32x1, .i32⟩ : BufTy).Contents (Elt F) → (⟨S4x1024x32x2, .i32⟩ : BufTy).Contents (Elt F))
  :: StableHlo.binary main_v51 main_v65 main_v66 ((fun x i => Host.gather gather_S4x8192x64_S4x1024x32x2_S4x1024x32x64_3_01_n_n_01_3_1164 x i) : (⟨S4x8192x64, .f32⟩ : BufTy).Contents (Elt F) → (⟨S4x1024x32x2, .i32⟩ : BufTy).Contents (Elt F) → (⟨S4x1024x32x64, .f32⟩ : BufTy).Contents (Elt F))
  :: StableHlo.binary main_v50 main_v66 main_v67 ((fun a b => concatenate S4x1024x32x67 3 [⟨S4x1024x32x3, a⟩, ⟨S4x1024x32x64, b⟩] concatenates_S4x1024x32x3_S4x1024x32x64_S4x1024x32x67_d3) : (⟨S4x1024x32x3, .f32⟩ : BufTy).Contents (Elt F) → (⟨S4x1024x32x64, .f32⟩ : BufTy).Contents (Elt F) → (⟨S4x1024x32x67, .f32⟩ : BufTy).Contents (Elt F))
  :: StableHlo.binary main_v67 main_arg2 main_v68 ((fun l r => Host.dotGeneral dot_S4x1024x32x67_S64x67_S4x1024x32x64_3_1_012_0_n_n none l r) : (⟨S4x1024x32x67, .f32⟩ : BufTy).Contents (Elt F) → (⟨S64x67, .f32⟩ : BufTy).Contents (Elt F) → (⟨S4x1024x32x64, .f32⟩ : BufTy).Contents (Elt F))
  :: StableHlo.unary main_arg3 main_v69 (broadcastInDim S1x1x1x64 ![3] bcast_S64_S1x1x1x64_3 : (⟨S64, .f32⟩ : BufTy).Contents (Elt F) → (⟨S1x1x1x64, .f32⟩ : BufTy).Contents (Elt F))
  :: StableHlo.unary main_v69 main_v70 (broadcastInDim S4x1024x32x64 ![0, 1, 2, 3] bcast_S1x1x1x64_S4x1024x32x64_0_1_2_3 : (⟨S1x1x1x64, .f32⟩ : BufTy).Contents (Elt F) → (⟨S4x1024x32x64, .f32⟩ : BufTy).Contents (Elt F))
  :: StableHlo.binary main_v68 main_v70 main_v71 (addf : (⟨S4x1024x32x64, .f32⟩ : BufTy).Contents (Elt F) → (⟨S4x1024x32x64, .f32⟩ : BufTy).Contents (Elt F) → (⟨S4x1024x32x64, .f32⟩ : BufTy).Contents (Elt F))
  :: [] )
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub ..⟩
/-- 3 host operations of @relu (main_call6), window 1 (statements 61 … 101), in order. -/
abbrev main_part1_ops1 : List (HloOp τ sig (Elt F)) :=
  [ StableHlo.TRef.nullary (.of main_call6_cst : StableHlo.TRef sig ⟨S_, .f32⟩) (constant S_ .f32 0x00000000#32),
    StableHlo.TRef.unary (.of main_call6_cst : StableHlo.TRef sig ⟨S_, .f32⟩) (.of main_call6_v0 : StableHlo.TRef sig ⟨S4x1024x32x64, .f32⟩) (broadcastInDim S4x1024x32x64 ![] bcast_S_S4x1024x32x64),
    StableHlo.TRef.binary (.of main_v71 : StableHlo.TRef sig ⟨S4x1024x32x64, .f32⟩) (.of main_call6_v0 : StableHlo.TRef sig ⟨S4x1024x32x64, .f32⟩) (.of main_v72 : StableHlo.TRef sig ⟨S4x1024x32x64, .f32⟩) maximumf ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  ⟨StableHlo.nullary_bufs_sub .., StableHlo.unary_bufs_sub .., StableHlo.binary_bufs_sub ..⟩
/-- 3 host operations of @main, window 1 (statements 61 … 101), in order. -/
abbrev main_part1_ops2 : List (HloOp τ sig (Elt F)) :=
  [ StableHlo.nullary main_cst_16 (constant S_ .f32 0xFF800000#32),
    StableHlo.binary main_v72 main_cst_16 main_v73 ((fun x v => Host.reduce FloatOps.maximumf x v reducesTo_S4x1024x32x64_S4x1024x64_d2 h_S_) : (⟨S4x1024x32x64, .f32⟩ : BufTy).Contents (Elt F) → (⟨S_, .f32⟩ : BufTy).Contents (Elt F) → (⟨S4x1024x64, .f32⟩ : BufTy).Contents (Elt F)),
    StableHlo.unary main_v73 main_v74 ((transpose S4x64x1024 [0, 2, 1] · transposes_S4x1024x64_S4x64x1024_0_2_1) : (⟨S4x1024x64, .f32⟩ : BufTy).Contents (Elt F) → (⟨S4x64x1024, .f32⟩ : BufTy).Contents (Elt F)) ]
/-- Each touches TensorCore references only (`HostSeg.ofOps` over `StableHlo.tcRefs`, or a subset by `sub_ucRefs`). -/
theorem main_part1_ops2_sub : (main_part1_ops2 : List (HloOp τ sig (Elt F))).Forall fun op => op.bufs ⊆ StableHlo.tcRefs τ sig :=
  ⟨StableHlo.nullary_bufs_sub .., StableHlo.binary_bufs_sub .., StableHlo.unary_bufs_sub ..⟩
/-- The last window of `main` (`main_part1`, statements 61 … 101) is the chain of ITS items, each item aligned with the window's
    statements, then `chain_rfl`. -/
theorem main_part1_chain (c : Dev nD) : main_part1 (F := F) c = (Pipeline.chain
  [ StableHlo.seq main_part1_ops0,
    StableHlo.seq main_part1_ops1,
    StableHlo.seq main_part1_ops2 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    StableHlo.seq main_part1_ops1,
    StableHlo.seq main_part1_ops2 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .prog (HostLoop.enter 0),
    .ops [main_part0_ops1],
    .ops [main_part0_ops2],
    .ops [main_part0_ops3],
    .ops [main_part0_ops4],
    .ops [main_part0_ops5],
    .ops [main_part0_ops6],
    .ops [main_part0_ops7],
    .ops [main_part0_ops8, main_part1_ops0],
    .ops [main_part1_ops1],
    .ops [main_part1_ops2] ]

/-- The windows' item list is `main_groups` with each stretch cut into its window pieces (`StableHlo.Group.cut`): the two
    lists are the same, by `chain_rfl`. -/
theorem main_chain_cut (c : Dev nD) : (Pipeline.chain
  [ StableHlo.seq main_part0_ops0,
    HostLoop.enter 0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part1_ops0,
    StableHlo.seq main_part1_ops1,
    StableHlo.seq main_part1_ops2 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    HostLoop.enter 0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 2 host operations of @dynamic_index_in_dim (main_while0b_call0), in order. -/
abbrev while0Ops0 : List (HloOp τ sig (Elt F)) :=
  [ StableHlo.TRef.unaryIndexed (.of main_v4_0 : StableHlo.TRef sig ⟨S1024, .i32⟩) ![(.of main_v4_2 : StableHlo.TRef sig ⟨S_, .i32⟩)] (.of main_while0b_call0_v0 : StableHlo.TRef sig ⟨S1, .i32⟩) (fun x i => Host.dynamicSlice S1 x (fun k => (i k (Shape.Idx.first h_S_)).toInt) sliceFits_S1024_S1),
    StableHlo.TRef.reshape (.of main_while0b_call0_v0 : StableHlo.TRef sig ⟨S1, .i32⟩) (.of main_while0b_v75 : StableHlo.TRef sig ⟨S_, .i32⟩) (rfl : (.i32 : EltTy) = .i32) shapeCasts_S1_S_ ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.unaryIndexed_bufs_sub .., StableHlo.reshape_bufs_sub ..⟩
/-- 8 host operations of host loop 0's body region, in order. -/
abbrev while0Ops0_1 : List (HloOp τ sig (Elt F)) :=
  [ StableHlo.nullary main_while0b_c_22 (constantI S_ 32 0#32),
    StableHlo.binary main_while0b_v75 main_while0b_c_22 main_while0b_v76 (cmpi .slt : (⟨S_, .i32⟩ : BufTy).Contents (Elt F) → (⟨S_, .i32⟩ : BufTy).Contents (Elt F) → (⟨S_, .i1⟩ : BufTy).Contents (Elt F)),
    StableHlo.nullary main_while0b_c_23 (constantI S_ 32 1024#32),
    StableHlo.binary main_while0b_v75 main_while0b_c_23 main_while0b_v77 (addi : (⟨S_, .i32⟩ : BufTy).Contents (Elt F) → (⟨S_, .i32⟩ : BufTy).Contents (Elt F) → (⟨S_, .i32⟩ : BufTy).Contents (Elt F)),
    StableHlo.ternary main_while0b_v76 main_while0b_v77 main_while0b_v75 main_while0b_v78 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v78 main_while0b_v79 (broadcastInDim S1 ![] bcast_S_S1 : (⟨S_, .i32⟩ : BufTy).Contents (Elt F) → (⟨S1, .i32⟩ : BufTy).Contents (Elt F)),
    StableHlo.ternary main_v4_3 main_while0b_v79 main_v4_5 main_while0b_v80 ((fun x i u => Host.scatter scatter_S4x1024_S1_S4_0_1_1_0 (fun _ b => b) x i u) : (⟨S4x1024, .i32⟩ : BufTy).Contents (Elt F) → (⟨S1, .i32⟩ : BufTy).Contents (Elt F) → (⟨S4, .i32⟩ : BufTy).Contents (Elt F) → (⟨S4x1024, .i32⟩ : BufTy).Contents (Elt F)),
    StableHlo.unary main_v4_5 main_while0b_v81 (broadcastInDim S4x1x1 ![0] bcast_S4_S4x1x1_0 : (⟨S4, .i32⟩ : BufTy).Contents (Elt F) → (⟨S4x1x1, .i32⟩ : BufTy).Contents (Elt F)) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.ternary_bufs_sub .., StableHlo.unary_bufs_sub .., StableHlo.ternary_bufs_sub .., StableHlo.unary_bufs_sub ..⟩
/-- 22 host operations of @take_along_axis (main_while0b_call1), in order. -/
abbrev while0Ops0_2 : List (HloOp τ sig (Elt F)) :=
  [ StableHlo.TRef.nullary (.of main_while0b_call1_c : StableHlo.TRef sig ⟨S_, .i32⟩) (constantI S_ 32 0#32),
    StableHlo.TRef.unary (.of main_while0b_call1_c : StableHlo.TRef sig ⟨S_, .i32⟩) (.of main_while0b_call1_v0 : StableHlo.TRef sig ⟨S4x1x1, .i32⟩) (broadcastInDim S4x1x1 ![] bcast_S_S4x1x1),
    StableHlo.TRef.binary (.of main_while0b_v81 : StableHlo.TRef sig ⟨S4x1x1, .i32⟩) (.of main_while0b_call1_v0 : StableHlo.TRef sig ⟨S4x1x1, .i32⟩) (.of main_while0b_call1_v1 : StableHlo.TRef sig ⟨S4x1x1, .i1⟩) (cmpi .slt),
    StableHlo.TRef.nullary (.of main_while0b_call1_c_0 : StableHlo.TRef sig ⟨S_, .i32⟩) (constantI S_ 32 8192#32),
    StableHlo.TRef.unary (.of main_while0b_call1_c_0 : StableHlo.TRef sig ⟨S_, .i32⟩) (.of main_while0b_call1_v2 : StableHlo.TRef sig ⟨S4x1x1, .i32⟩) (broadcastInDim S4x1x1 ![] bcast_S_S4x1x1),
    StableHlo.TRef.binary (.of main_while0b_v81 : StableHlo.TRef sig ⟨S4x1x1, .i32⟩) (.of main_while0b_call1_v2 : StableHlo.TRef sig ⟨S4x1x1, .i32⟩) (.of main_while0b_call1_v3 : StableHlo.TRef sig ⟨S4x1x1, .i32⟩) addi,
    StableHlo.TRef.ternary (.of main_while0b_call1_v1 : StableHlo.TRef sig ⟨S4x1x1, .i1⟩) (.of main_while0b_call1_v3 : StableHlo.TRef sig ⟨S4x1x1, .i32⟩) (.of main_while0b_v81 : StableHlo.TRef sig ⟨S4x1x1, .i32⟩) (.of main_while0b_call1_v4 : StableHlo.TRef sig ⟨S4x1x1, .i32⟩) select,
    StableHlo.TRef.nullary (.of main_while0b_call1_c_1 : StableHlo.TRef sig ⟨S1, .i32⟩) (constantI S1 32 8191#32),
    StableHlo.TRef.nullary (.of main_while0b_call1_c_2 : StableHlo.TRef sig ⟨S_, .i32⟩) (constantI S_ 32 0#32),
    StableHlo.TRef.unary (.of main_while0b_call1_c_2 : StableHlo.TRef sig ⟨S_, .i32⟩) (.of main_while0b_call1_v5 : StableHlo.TRef sig ⟨S4x1x1, .i32⟩) (broadcastInDim S4x1x1 ![] bcast_S_S4x1x1),
    StableHlo.TRef.binary (.of main_while0b_call1_v4 : StableHlo.TRef sig ⟨S4x1x1, .i32⟩) (.of main_while0b_call1_v5 : StableHlo.TRef sig ⟨S4x1x1, .i32⟩) (.of main_while0b_call1_v6 : StableHlo.TRef sig ⟨S4x1x1, .i1⟩) (cmpi .sge),
    StableHlo.TRef.unary (.of main_while0b_call1_c_1 : StableHlo.TRef sig ⟨S1, .i32⟩) (.of main_while0b_call1_v7 : StableHlo.TRef sig ⟨S1x1x1, .i32⟩) (broadcastInDim S1x1x1 ![2] bcast_S1_S1x1x1_2),
    StableHlo.TRef.unary (.of main_while0b_call1_v7 : StableHlo.TRef sig ⟨S1x1x1, .i32⟩) (.of main_while0b_call1_v8 : StableHlo.TRef sig ⟨S4x1x1, .i32⟩) (broadcastInDim S4x1x1 ![0, 1, 2] bcast_S1x1x1_S4x1x1_0_1_2),
    StableHlo.TRef.binary (.of main_while0b_call1_v4 : StableHlo.TRef sig ⟨S4x1x1, .i32⟩) (.of main_while0b_call1_v8 : StableHlo.TRef sig ⟨S4x1x1, .i32⟩) (.of main_while0b_call1_v9 : StableHlo.TRef sig ⟨S4x1x1, .i1⟩) (cmpi .sle),
    StableHlo.TRef.binary (.of main_while0b_call1_v6 : StableHlo.TRef sig ⟨S4x1x1, .i1⟩) (.of main_while0b_call1_v9 : StableHlo.TRef sig ⟨S4x1x1, .i1⟩) (.of main_while0b_call1_v10 : StableHlo.TRef sig ⟨S4x1x1, .i1⟩) andi,
    StableHlo.TRef.nullary (.of main_while0b_call1_c_3 : StableHlo.TRef sig ⟨S_, .i1⟩) (constantI S_ 1 1#1),
    StableHlo.TRef.binary (.of main_while0b_call1_v10 : StableHlo.TRef sig ⟨S4x1x1, .i1⟩) (.of main_while0b_call1_c_3 : StableHlo.TRef sig ⟨S_, .i1⟩) (.of main_while0b_call1_v11 : StableHlo.TRef sig ⟨S4x1, .i1⟩) (fun x v => Host.reduce IntOp.andi x v reducesTo_S4x1x1_S4x1_d2 h_S_),
    StableHlo.TRef.binary (.of main_v4_1 : StableHlo.TRef sig ⟨S4x8192x3, .f32⟩) (.of main_while0b_call1_v4 : StableHlo.TRef sig ⟨S4x1x1, .i32⟩) (.of main_while0b_call1_v12 : StableHlo.TRef sig ⟨S4x1x3, .f32⟩) (fun x i => Host.gather gather_S4x8192x3_S4x1x1_S4x1x3_2_1_0_0_1_2_113 x i),
    StableHlo.TRef.unary (.of main_while0b_call1_v11 : StableHlo.TRef sig ⟨S4x1, .i1⟩) (.of main_while0b_call1_v13 : StableHlo.TRef sig ⟨S4x1x3, .i1⟩) (broadcastInDim S4x1x3 ![0, 1] bcast_S4x1_S4x1x3_0_1),
    StableHlo.TRef.nullary (.of main_while0b_call1_cst : StableHlo.TRef sig ⟨S_, .f32⟩) (constant S_ .f32 0x7FC00000#32),
    StableHlo.TRef.unary (.of main_while0b_call1_cst : StableHlo.TRef sig ⟨S_, .f32⟩) (.of main_while0b_call1_v14 : StableHlo.TRef sig ⟨S4x1x3, .f32⟩) (broadcastInDim S4x1x3 ![] bcast_S_S4x1x3),
    StableHlo.TRef.ternary (.of main_while0b_call1_v13 : StableHlo.TRef sig ⟨S4x1x3, .i1⟩) (.of main_while0b_call1_v12 : StableHlo.TRef sig ⟨S4x1x3, .f32⟩) (.of main_while0b_call1_v14 : StableHlo.TRef sig ⟨S4x1x3, .f32⟩) (.of main_while0b_v82 : StableHlo.TRef sig ⟨S4x1x3, .f32⟩) select ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- 15 host operations of host loop 0's body region, in order. -/
abbrev while0Ops0_3 : List (HloOp τ sig (Elt F)) :=
  [ StableHlo.unary main_while0b_v82 main_while0b_v83 (broadcastInDim S4x8192x3 ![0, 1, 2] bcast_S4x1x3_S4x8192x3_0_1_2 : (⟨S4x1x3, .f32⟩ : BufTy).Contents (Elt F) → (⟨S4x8192x3, .f32⟩ : BufTy).Contents (Elt F)),
    StableHlo.binary main_v4_1 main_while0b_v83 main_while0b_v84 (subf : (⟨S4x8192x3, .f32⟩ : BufTy).Contents (Elt F) → (⟨S4x8192x3, .f32⟩ : BufTy).Contents (Elt F) → (⟨S4x8192x3, .f32⟩ : BufTy).Contents (Elt F)),
    StableHlo.binary main_while0b_v84 main_while0b_v84 main_while0b_v85 (mulf : (⟨S4x8192x3, .f32⟩ : BufTy).Contents (Elt F) → (⟨S4x8192x3, .f32⟩ : BufTy).Contents (Elt F) → (⟨S4x8192x3, .f32⟩ : BufTy).Contents (Elt F)),
    StableHlo.nullary main_while0b_cst_24 (constant S_ .f32 0x00000000#32),
    StableHlo.binary main_while0b_v85 main_while0b_cst_24 main_while0b_v86 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    StableHlo.binary main_v4_4 main_while0b_v86 main_while0b_v87 (minimumf : (⟨S4x8192, .f32⟩ : BufTy).Contents (Elt F) → (⟨S4x8192, .f32⟩ : BufTy).Contents (Elt F) → (⟨S4x8192, .f32⟩ : BufTy).Contents (Elt F)),
    StableHlo.unary main_while0b_v87 main_while0b_values ((fun x => (Host.topK S4x1 1 (FloatOps.cmpfTotal .gt) x sliceFits_S4x8192_S4x1).1) : (⟨S4x8192, .f32⟩ : BufTy).Contents (Elt F) → (⟨S4x1, .f32⟩ : BufTy).Contents (Elt F)),
    StableHlo.unary main_while0b_v87 main_while0b_indices ((fun x => (Host.topK S4x1 1 (FloatOps.cmpfTotal .gt) x sliceFits_S4x8192_S4x1).2) : (⟨S4x8192, .f32⟩ : BufTy).Contents (Elt F) → (⟨S4x1, .i32⟩ : BufTy).Contents (Elt F)),
    StableHlo.reshape main_while0b_indices main_while0b_v88 (rfl : (.i32 : EltTy) = .i32) shapeCasts_S4x1_S4,
    StableHlo.nullary main_while0b_c_25 (constantI S_ 32 1#32),
    StableHlo.binary main_v4_2 main_while0b_c_25 main_while0b_v89 (addi : (⟨S_, .i32⟩ : BufTy).Contents (Elt F) → (⟨S_, .i32⟩ : BufTy).Contents (Elt F) → (⟨S_, .i32⟩ : BufTy).Contents (Elt F)),
    StableHlo.unary main_while0b_v89 main_v4_2 id,
    StableHlo.unary main_while0b_v80 main_v4_3 id,
    StableHlo.unary main_while0b_v87 main_v4_4 id,
    StableHlo.unary main_while0b_v88 main_v4_5 id ]
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.unary_bufs_sub .., StableHlo.reshape_bufs_sub .., StableHlo.nullary_bufs_sub .., StableHlo.binary_bufs_sub .., StableHlo.unary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons]
  chain_rfl

end Cert.ReferenceIdeal.Gen

end
-- ==== Proof.Reference.Fold.lean ====
/- The run of the reference: every execution ends with the contents that the operations, taken in order, make of the memory it starts from. -/
module

public import proofs.«01_k».proof.Proof.Reference.Stretches

@[expose] public section

-- a long stretch's list of operations recurses past the default depth
set_option maxRecDepth 1208

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_c, main_v0, main_cst, main_v1, main_c_0, main_v2, main_v3, main_c_1, main_v4_0, main_v4_1, main_v4_2, main_v4_3, main_v4_4, main_v4_5]
theorem hostOps0_writes : (hostOps0 : List (HloOp τ sig (Elt F))).Forall fun op => op.writes ⊆ (hostOps0_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call0_v0, main_while0b_v75]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_c_22, main_while0b_v76, main_while0b_c_23, main_while0b_v77, main_while0b_v78, main_while0b_v79, main_while0b_v80, main_while0b_v81]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call1_c, main_while0b_call1_v0, main_while0b_call1_v1, main_while0b_call1_c_0, main_while0b_call1_v2, main_while0b_call1_v3, main_while0b_call1_v4, main_while0b_call1_c_1, main_while0b_call1_c_2, main_while0b_call1_v5, main_while0b_call1_v6, main_while0b_call1_v7, main_while0b_call1_v8, main_while0b_call1_v9, main_while0b_call1_v10, main_while0b_call1_c_3, main_while0b_call1_v11, main_while0b_call1_v12, main_while0b_call1_v13, main_while0b_call1_cst, main_while0b_call1_v14, main_while0b_v82]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v83, main_while0b_v84, main_while0b_v85, main_while0b_cst_24, main_while0b_v86, main_while0b_v87, main_while0b_values, main_while0b_indices, main_while0b_v88, main_while0b_c_25, main_while0b_v89, main_v4_2, main_v4_3, main_v4_4, main_v4_5]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- No operation of `hostOps0_2` allocates a buffer. -/
theorem hostOps0_2_fresh : (hostOps0_2 : List (HloOp τ sig (Elt F))).Forall fun op => op.fresh = ∅ :=
  StableHlo.forall_fresh_of_map rfl
/-- No operation of `hostOps0_3` allocates a buffer. -/
theorem hostOps0_3_fresh : (hostOps0_3 : List (HloOp τ sig (Elt F))).Forall fun op => op.fresh = ∅ :=
  StableHlo.forall_fresh_of_map rfl
/-- No operation of `hostOps0_4` allocates a buffer. -/
theorem hostOps0_4_fresh : (hostOps0_4 : List (HloOp τ sig (Elt F))).Forall fun op => op.fresh = ∅ :=
  StableHlo.forall_fresh_of_map rfl
/-- No operation of `hostOps0_5` allocates a buffer. -/
theorem hostOps0_5_fresh : (hostOps0_5 : List (HloOp τ sig (Elt F))).Forall fun op => op.fresh = ∅ :=
  StableHlo.forall_fresh_of_map rfl
/-- No operation of `hostOps0_6` allocates a buffer. -/
theorem hostOps0_6_fresh : (hostOps0_6 : List (HloOp τ sig (Elt F))).Forall fun op => op.fresh = ∅ :=
  StableHlo.forall_fresh_of_map rfl
/-- No operation of `hostOps0_7` allocates a buffer. -/
theorem hostOps0_7_fresh : (hostOps0_7 : List (HloOp τ sig (Elt F))).Forall fun op => op.fresh = ∅ :=
  StableHlo.forall_fresh_of_map rfl
/-- No operation of `hostOps0_8` allocates a buffer. -/
theorem hostOps0_8_fresh : (hostOps0_8 : List (HloOp τ sig (Elt F))).Forall fun op => op.fresh = ∅ :=
  StableHlo.forall_fresh_of_map rfl
/-- No operation of `hostOps0_9` allocates a buffer. -/
theorem hostOps0_9_fresh : (hostOps0_9 : List (HloOp τ sig (Elt F))).Forall fun op => op.fresh = ∅ :=
  StableHlo.forall_fresh_of_map rfl
/-- No operation of `hostOps0_10` allocates a buffer. -/
theorem hostOps0_10_fresh : (hostOps0_10 : List (HloOp τ sig (Elt F))).Forall fun op => op.fresh = ∅ :=
  StableHlo.forall_fresh_of_map rfl
/-- The reference each operation of `hostOps0_1` writes, in order. -/
abbrev hostOps0_1_W : List (Ref sig .tc) := [main_v5]
theorem hostOps0_1_writes : (hostOps0_1 : List (HloOp τ sig (Elt F))).Forall fun op => op.writes ⊆ (hostOps0_1_W.map (Proc.devRef (τ := τ) .tc)).toFinset :=
  StableHlo.forall_writes_sub_of_map rfl
/-- The reference each operation of `hostOps0_2` writes, in order. -/
abbrev hostOps0_2_W : List (Ref sig .tc) := [main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v6]
theorem hostOps0_2_writes : (hostOps0_2 : List (HloOp τ sig (Elt F))).Forall fun op => op.writes ⊆ (hostOps0_2_W.map (Proc.devRef (τ := τ) .tc)).toFinset :=
  StableHlo.forall_writes_sub_of_map rfl
/-- The reference each operation of `hostOps0_3` writes, in order. -/
abbrev hostOps0_3_W : List (Ref sig .tc) := [main_v7, main_cst_2, main_v8, main_v9, main_v10, main_cst_3, main_v11, main_v12, main_v13, main_v14, main_v15, main_v16, main_cst_4, main_v17, main_v18, main_v19, main_v20, main_v21, main_cst_5, main_v22, main_v23, main_c_6]
theorem hostOps0_3_writes : (hostOps0_3 : List (HloOp τ sig (Elt F))).Forall fun op => op.writes ⊆ (hostOps0_3_W.map (Proc.devRef (τ := τ) .tc)).toFinset :=
  StableHlo.forall_writes_sub_of_map rfl
/-- The reference each operation of `hostOps0_4` writes, in order. -/
abbrev hostOps0_4_W : List (Ref sig .tc) := [main_call3_v0, main_call3_v1, main_v24]
theorem hostOps0_4_writes : (hostOps0_4 : List (HloOp τ sig (Elt F))).Forall fun op => op.writes ⊆ (hostOps0_4_W.map (Proc.devRef (τ := τ) .tc)).toFinset :=
  StableHlo.forall_writes_sub_of_map rfl
/-- The reference each operation of `hostOps0_5` writes, in order. -/
abbrev hostOps0_5_W : List (Ref sig .tc) := [main_v25]
theorem hostOps0_5_writes : (hostOps0_5 : List (HloOp τ sig (Elt F))).Forall fun op => op.writes ⊆ (hostOps0_5_W.map (Proc.devRef (τ := τ) .tc)).toFinset :=
  StableHlo.forall_writes_sub_of_map rfl
/-- The reference each operation of `hostOps0_6` writes, in order. -/
abbrev hostOps0_6_W : List (Ref sig .tc) := [main_v26, main_v27, main_c_7, main_v28, main_v29]
theorem hostOps0_6_writes : (hostOps0_6 : List (HloOp τ sig (Elt F))).Forall fun op => op.writes ⊆ (hostOps0_6_W.map (Proc.devRef (τ := τ) .tc)).toFinset :=
  StableHlo.forall_writes_sub_of_map rfl
/-- The reference each operation of `hostOps0_7` writes, in order. -/
abbrev hostOps0_7_W : List (Ref sig .tc) := [main_call5_v0, main_v30]
theorem hostOps0_7_writes : (hostOps0_7 : List (HloOp τ sig (Elt F))).Forall fun op => op.writes ⊆ (hostOps0_7_W.map (Proc.devRef (τ := τ) .tc)).toFinset :=
  StableHlo.forall_writes_sub_of_map rfl
/-- The reference each operation of `hostOps0_8` writes, in order. -/
abbrev hostOps0_8_W : List (Ref sig .tc) := [main_v31, main_v32, main_c_8, main_v33, main_v34, main_c_9, main_v35, main_v36, main_v37, main_c_10, main_v38, main_v39, main_c_11, main_v40, main_v41, main_v42, main_v43, main_v44, main_v45, main_v46, main_v47, main_v48, main_v49, main_v50, main_v51, main_c_12, main_v52, main_v53, main_c_13, main_v54, main_v55, main_v56, main_c_14, main_v57, main_v58, main_c_15, main_v59, main_v60, main_v61, main_v62, main_v63, main_v64, main_v65, main_v66, main_v67, main_v68, main_v69, main_v70, main_v71]
theorem hostOps0_8_writes : (hostOps0_8 : List (HloOp τ sig (Elt F))).Forall fun op => op.writes ⊆ (hostOps0_8_W.map (Proc.devRef (τ := τ) .tc)).toFinset :=
  StableHlo.forall_writes_sub_of_map rfl
/-- The reference each operation of `hostOps0_9` writes, in order. -/
abbrev hostOps0_9_W : List (Ref sig .tc) := [main_call6_cst, main_call6_v0, main_v72]
theorem hostOps0_9_writes : (hostOps0_9 : List (HloOp τ sig (Elt F))).Forall fun op => op.writes ⊆ (hostOps0_9_W.map (Proc.devRef (τ := τ) .tc)).toFinset :=
  StableHlo.forall_writes_sub_of_map rfl
/-- The reference each operation of `hostOps0_10` writes, in order. -/
abbrev hostOps0_10_W : List (Ref sig .tc) := [main_cst_16, main_v73, main_v74]
theorem hostOps0_10_writes : (hostOps0_10 : List (HloOp τ sig (Elt F))).Forall fun op => op.writes ⊆ (hostOps0_10_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_22 (constantI S_ 32 1024#32),
    StableHlo.binary main_v4_2 main_while0c_c_22 main_while0c_v75 (cmpi .slt) ]

/-- @main's stretches before the loop, the loop body's, and @main's after the loop. -/
abbrev preI : List (List (HloOp τ sig (Elt F))) := [hostOps0]
abbrev bodyI : List (List (HloOp τ sig (Elt F))) := [while0Ops0, while0Ops0_1, while0Ops0_2, while0Ops0_3]
abbrev postI : List (List (HloOp τ sig (Elt F))) := [hostOps0_1, hostOps0_2, hostOps0_3, hostOps0_4, hostOps0_5, hostOps0_6, hostOps0_7, hostOps0_8, hostOps0_9, hostOps0_10]

theorem hpre : Plain (preI (F := F)) := .cons hostOps0_sub (hf := List.forall_iff_forall_mem.mp hostOps0_fresh) (.nil)
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.nil))))
theorem hpost : Plain (postI (F := F)) := .cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.cons hostOps0_5_sub (hf := List.forall_iff_forall_mem.mp hostOps0_5_fresh) (.cons hostOps0_6_sub (hf := List.forall_iff_forall_mem.mp hostOps0_6_fresh) (.cons hostOps0_7_sub (hf := List.forall_iff_forall_mem.mp hostOps0_7_fresh) (.cons hostOps0_8_sub (hf := List.forall_iff_forall_mem.mp hostOps0_8_fresh) (.cons hostOps0_9_sub (hf := List.forall_iff_forall_mem.mp hostOps0_9_fresh) (.cons hostOps0_10_sub (hf := List.forall_iff_forall_mem.mp hostOps0_10_fresh) (.nil))))))))))

/-- The reference each operation of `condOps` writes, in order. -/
abbrev condOps_W : List (Ref sig .tc) := [main_while0c_c_22, main_while0c_v75]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v4_2`) is written by one stretch of the body, `while0Ops0_3`: not by the condition, nor by the
    body's other stretches. -/
theorem ctr_cond (V : Valuation τ sig (Elt F)) : after condOps V (Proc.devRef .tc main_v4_2) = V (Proc.devRef .tc main_v4_2) :=
  after_of_writes_sub condOps V condOps_writes (by decide +kernel)
theorem ctr_while0Ops0 (V : Valuation τ sig (Elt F)) : after while0Ops0 V (Proc.devRef .tc main_v4_2) = V (Proc.devRef .tc main_v4_2) :=
  after_of_writes_sub while0Ops0 V while0Ops0_writes (by decide +kernel)
theorem ctr_while0Ops0_1 (V : Valuation τ sig (Elt F)) : after while0Ops0_1 V (Proc.devRef .tc main_v4_2) = V (Proc.devRef .tc main_v4_2) :=
  after_of_writes_sub while0Ops0_1 V while0Ops0_1_writes (by decide +kernel)
theorem ctr_while0Ops0_2 (V : Valuation τ sig (Elt F)) : after while0Ops0_2 V (Proc.devRef .tc main_v4_2) = V (Proc.devRef .tc main_v4_2) :=
  after_of_writes_sub while0Ops0_2 V while0Ops0_2_writes (by decide +kernel)

/-- The body's operations 1 … 1 of 47. -/
abbrev trip_w0 : List (HloOp τ sig (Elt F)) :=
  [ StableHlo.TRef.unaryIndexed (.of main_v4_0 : StableHlo.TRef sig ⟨S1024, .i32⟩) ![(.of main_v4_2 : StableHlo.TRef sig ⟨S_, .i32⟩)] (.of main_while0b_call0_v0 : StableHlo.TRef sig ⟨S1, .i32⟩) (fun x i => Host.dynamicSlice S1 x (fun k => (i k (Shape.Idx.first h_S_)).toInt) sliceFits_S1024_S1) ]

/-- The body's operations 2 … 2 of 47. -/
abbrev trip_w1 : List (HloOp τ sig (Elt F)) :=
  [ StableHlo.TRef.reshape (.of main_while0b_call0_v0 : StableHlo.TRef sig ⟨S1, .i32⟩) (.of main_while0b_v75 : StableHlo.TRef sig ⟨S_, .i32⟩) (rfl : (.i32 : EltTy) = .i32) shapeCasts_S1_S_ ]

/-- The body's operations 3 … 10 of 47. -/
abbrev trip_w2 : List (HloOp τ sig (Elt F)) :=
  [ StableHlo.nullary main_while0b_c_22 (constantI S_ 32 0#32),
    StableHlo.binary main_while0b_v75 main_while0b_c_22 main_while0b_v76 (cmpi .slt : (⟨S_, .i32⟩ : BufTy).Contents (Elt F) → (⟨S_, .i32⟩ : BufTy).Contents (Elt F) → (⟨S_, .i1⟩ : BufTy).Contents (Elt F)),
    StableHlo.nullary main_while0b_c_23 (constantI S_ 32 1024#32),
    StableHlo.binary main_while0b_v75 main_while0b_c_23 main_while0b_v77 (addi : (⟨S_, .i32⟩ : BufTy).Contents (Elt F) → (⟨S_, .i32⟩ : BufTy).Contents (Elt F) → (⟨S_, .i32⟩ : BufTy).Contents (Elt F)),
    StableHlo.ternary main_while0b_v76 main_while0b_v77 main_while0b_v75 main_while0b_v78 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v78 main_while0b_v79 (broadcastInDim S1 ![] bcast_S_S1 : (⟨S_, .i32⟩ : BufTy).Contents (Elt F) → (⟨S1, .i32⟩ : BufTy).Contents (Elt F)),
    StableHlo.ternary main_v4_3 main_while0b_v79 main_v4_5 main_while0b_v80 ((fun x i u => Host.scatter scatter_S4x1024_S1_S4_0_1_1_0 (fun _ b => b) x i u) : (⟨S4x1024, .i32⟩ : BufTy).Contents (Elt F) → (⟨S1, .i32⟩ : BufTy).Contents (Elt F) → (⟨S4, .i32⟩ : BufTy).Contents (Elt F) → (⟨S4x1024, .i32⟩ : BufTy).Contents (Elt F)),
    StableHlo.unary main_v4_5 main_while0b_v81 (broadcastInDim S4x1x1 ![0] bcast_S4_S4x1x1_0 : (⟨S4, .i32⟩ : BufTy).Contents (Elt F) → (⟨S4x1x1, .i32⟩ : BufTy).Contents (Elt F)) ]

/-- The body's operations 11 … 32 of 47. -/
abbrev trip_w3 : List (HloOp τ sig (Elt F)) :=
  [ StableHlo.TRef.nullary (.of main_while0b_call1_c : StableHlo.TRef sig ⟨S_, .i32⟩) (constantI S_ 32 0#32),
    StableHlo.TRef.unary (.of main_while0b_call1_c : StableHlo.TRef sig ⟨S_, .i32⟩) (.of main_while0b_call1_v0 : StableHlo.TRef sig ⟨S4x1x1, .i32⟩) (broadcastInDim S4x1x1 ![] bcast_S_S4x1x1),
    StableHlo.TRef.binary (.of main_while0b_v81 : StableHlo.TRef sig ⟨S4x1x1, .i32⟩) (.of main_while0b_call1_v0 : StableHlo.TRef sig ⟨S4x1x1, .i32⟩) (.of main_while0b_call1_v1 : StableHlo.TRef sig ⟨S4x1x1, .i1⟩) (cmpi .slt),
    StableHlo.TRef.nullary (.of main_while0b_call1_c_0 : StableHlo.TRef sig ⟨S_, .i32⟩) (constantI S_ 32 8192#32),
    StableHlo.TRef.unary (.of main_while0b_call1_c_0 : StableHlo.TRef sig ⟨S_, .i32⟩) (.of main_while0b_call1_v2 : StableHlo.TRef sig ⟨S4x1x1, .i32⟩) (broadcastInDim S4x1x1 ![] bcast_S_S4x1x1),
    StableHlo.TRef.binary (.of main_while0b_v81 : StableHlo.TRef sig ⟨S4x1x1, .i32⟩) (.of main_while0b_call1_v2 : StableHlo.TRef sig ⟨S4x1x1, .i32⟩) (.of main_while0b_call1_v3 : StableHlo.TRef sig ⟨S4x1x1, .i32⟩) addi,
    StableHlo.TRef.ternary (.of main_while0b_call1_v1 : StableHlo.TRef sig ⟨S4x1x1, .i1⟩) (.of main_while0b_call1_v3 : StableHlo.TRef sig ⟨S4x1x1, .i32⟩) (.of main_while0b_v81 : StableHlo.TRef sig ⟨S4x1x1, .i32⟩) (.of main_while0b_call1_v4 : StableHlo.TRef sig ⟨S4x1x1, .i32⟩) select,
    StableHlo.TRef.nullary (.of main_while0b_call1_c_1 : StableHlo.TRef sig ⟨S1, .i32⟩) (constantI S1 32 8191#32),
    StableHlo.TRef.nullary (.of main_while0b_call1_c_2 : StableHlo.TRef sig ⟨S_, .i32⟩) (constantI S_ 32 0#32),
    StableHlo.TRef.unary (.of main_while0b_call1_c_2 : StableHlo.TRef sig ⟨S_, .i32⟩) (.of main_while0b_call1_v5 : StableHlo.TRef sig ⟨S4x1x1, .i32⟩) (broadcastInDim S4x1x1 ![] bcast_S_S4x1x1),
    StableHlo.TRef.binary (.of main_while0b_call1_v4 : StableHlo.TRef sig ⟨S4x1x1, .i32⟩) (.of main_while0b_call1_v5 : StableHlo.TRef sig ⟨S4x1x1, .i32⟩) (.of main_while0b_call1_v6 : StableHlo.TRef sig ⟨S4x1x1, .i1⟩) (cmpi .sge),
    StableHlo.TRef.unary (.of main_while0b_call1_c_1 : StableHlo.TRef sig ⟨S1, .i32⟩) (.of main_while0b_call1_v7 : StableHlo.TRef sig ⟨S1x1x1, .i32⟩) (broadcastInDim S1x1x1 ![2] bcast_S1_S1x1x1_2),
    StableHlo.TRef.unary (.of main_while0b_call1_v7 : StableHlo.TRef sig ⟨S1x1x1, .i32⟩) (.of main_while0b_call1_v8 : StableHlo.TRef sig ⟨S4x1x1, .i32⟩) (broadcastInDim S4x1x1 ![0, 1, 2] bcast_S1x1x1_S4x1x1_0_1_2),
    StableHlo.TRef.binary (.of main_while0b_call1_v4 : StableHlo.TRef sig ⟨S4x1x1, .i32⟩) (.of main_while0b_call1_v8 : StableHlo.TRef sig ⟨S4x1x1, .i32⟩) (.of main_while0b_call1_v9 : StableHlo.TRef sig ⟨S4x1x1, .i1⟩) (cmpi .sle),
    StableHlo.TRef.binary (.of main_while0b_call1_v6 : StableHlo.TRef sig ⟨S4x1x1, .i1⟩) (.of main_while0b_call1_v9 : StableHlo.TRef sig ⟨S4x1x1, .i1⟩) (.of main_while0b_call1_v10 : StableHlo.TRef sig ⟨S4x1x1, .i1⟩) andi,
    StableHlo.TRef.nullary (.of main_while0b_call1_c_3 : StableHlo.TRef sig ⟨S_, .i1⟩) (constantI S_ 1 1#1),
    StableHlo.TRef.binary (.of main_while0b_call1_v10 : StableHlo.TRef sig ⟨S4x1x1, .i1⟩) (.of main_while0b_call1_c_3 : StableHlo.TRef sig ⟨S_, .i1⟩) (.of main_while0b_call1_v11 : StableHlo.TRef sig ⟨S4x1, .i1⟩) (fun x v => Host.reduce IntOp.andi x v reducesTo_S4x1x1_S4x1_d2 h_S_),
    StableHlo.TRef.binary (.of main_v4_1 : StableHlo.TRef sig ⟨S4x8192x3, .f32⟩) (.of main_while0b_call1_v4 : StableHlo.TRef sig ⟨S4x1x1, .i32⟩) (.of main_while0b_call1_v12 : StableHlo.TRef sig ⟨S4x1x3, .f32⟩) (fun x i => Host.gather gather_S4x8192x3_S4x1x1_S4x1x3_2_1_0_0_1_2_113 x i),
    StableHlo.TRef.unary (.of main_while0b_call1_v11 : StableHlo.TRef sig ⟨S4x1, .i1⟩) (.of main_while0b_call1_v13 : StableHlo.TRef sig ⟨S4x1x3, .i1⟩) (broadcastInDim S4x1x3 ![0, 1] bcast_S4x1_S4x1x3_0_1),
    StableHlo.TRef.nullary (.of main_while0b_call1_cst : StableHlo.TRef sig ⟨S_, .f32⟩) (constant S_ .f32 0x7FC00000#32),
    StableHlo.TRef.unary (.of main_while0b_call1_cst : StableHlo.TRef sig ⟨S_, .f32⟩) (.of main_while0b_call1_v14 : StableHlo.TRef sig ⟨S4x1x3, .f32⟩) (broadcastInDim S4x1x3 ![] bcast_S_S4x1x3),
    StableHlo.TRef.ternary (.of main_while0b_call1_v13 : StableHlo.TRef sig ⟨S4x1x3, .i1⟩) (.of main_while0b_call1_v12 : StableHlo.TRef sig ⟨S4x1x3, .f32⟩) (.of main_while0b_call1_v14 : StableHlo.TRef sig ⟨S4x1x3, .f32⟩) (.of main_while0b_v82 : StableHlo.TRef sig ⟨S4x1x3, .f32⟩) select ]

/-- The body's operations 33 … 41 of 47. -/
abbrev trip_w4 : List (HloOp τ sig (Elt F)) :=
  [ StableHlo.unary main_while0b_v82 main_while0b_v83 (broadcastInDim S4x8192x3 ![0, 1, 2] bcast_S4x1x3_S4x8192x3_0_1_2 : (⟨S4x1x3, .f32⟩ : BufTy).Contents (Elt F) → (⟨S4x8192x3, .f32⟩ : BufTy).Contents (Elt F)),
    StableHlo.binary main_v4_1 main_while0b_v83 main_while0b_v84 (subf : (⟨S4x8192x3, .f32⟩ : BufTy).Contents (Elt F) → (⟨S4x8192x3, .f32⟩ : BufTy).Contents (Elt F) → (⟨S4x8192x3, .f32⟩ : BufTy).Contents (Elt F)),
    StableHlo.binary main_while0b_v84 main_while0b_v84 main_while0b_v85 (mulf : (⟨S4x8192x3, .f32⟩ : BufTy).Contents (Elt F) → (⟨S4x8192x3, .f32⟩ : BufTy).Contents (Elt F) → (⟨S4x8192x3, .f32⟩ : BufTy).Contents (Elt F)),
    StableHlo.nullary main_while0b_cst_24 (constant S_ .f32 0x00000000#32),
    StableHlo.binary main_while0b_v85 main_while0b_cst_24 main_while0b_v86 ((fun x v => Host.reduceAdd x v reducesTo_S4x8192x3_S4x8192_d2 h_S_) : (⟨S4x8192x3, .f32⟩ : BufTy).Contents (Elt F) → (⟨S_, .f32⟩ : BufTy).Contents (Elt F) → (⟨S4x8192, .f32⟩ : BufTy).Contents (Elt F)),
    StableHlo.binary main_v4_4 main_while0b_v86 main_while0b_v87 (minimumf : (⟨S4x8192, .f32⟩ : BufTy).Contents (Elt F) → (⟨S4x8192, .f32⟩ : BufTy).Contents (Elt F) → (⟨S4x8192, .f32⟩ : BufTy).Contents (Elt F)),
    StableHlo.unary main_while0b_v87 main_while0b_values ((fun x => (Host.topK S4x1 1 (FloatOps.cmpfTotal .gt) x sliceFits_S4x8192_S4x1).1) : (⟨S4x8192, .f32⟩ : BufTy).Contents (Elt F) → (⟨S4x1, .f32⟩ : BufTy).Contents (Elt F)),
    StableHlo.unary main_while0b_v87 main_while0b_indices ((fun x => (Host.topK S4x1 1 (FloatOps.cmpfTotal .gt) x sliceFits_S4x8192_S4x1).2) : (⟨S4x8192, .f32⟩ : BufTy).Contents (Elt F) → (⟨S4x1, .i32⟩ : BufTy).Contents (Elt F)),
    StableHlo.reshape main_while0b_indices main_while0b_v88 (rfl : (.i32 : EltTy) = .i32) shapeCasts_S4x1_S4 ]

/-- The body's operations 42 … 47 of 47: the counter's step and the copies back into the carried buffers. -/
abbrev while0Ops0_3_step : List (HloOp τ sig (Elt F)) :=
  [ StableHlo.nullary main_while0b_c_25 (constantI S_ 32 1#32),
    StableHlo.binary main_v4_2 main_while0b_c_25 main_while0b_v89 (addi : (⟨S_, .i32⟩ : BufTy).Contents (Elt F) → (⟨S_, .i32⟩ : BufTy).Contents (Elt F) → (⟨S_, .i32⟩ : BufTy).Contents (Elt F)),
    StableHlo.unary main_while0b_v89 main_v4_2 id,
    StableHlo.unary main_while0b_v80 main_v4_3 id,
    StableHlo.unary main_while0b_v87 main_v4_4 id,
    StableHlo.unary main_while0b_v88 main_v4_5 id ]

set_option maxRecDepth 5000 in
/-- `while0Ops0` is its windows in order. -/
theorem while0Ops0_cut : (while0Ops0 : List (HloOp τ sig (Elt F))) = trip_w0 ++ (trip_w1) := rfl
set_option maxRecDepth 5000 in
/-- `while0Ops0_1` is its windows in order. -/
theorem while0Ops0_1_cut : (while0Ops0_1 : List (HloOp τ sig (Elt F))) = trip_w2 := rfl
set_option maxRecDepth 5000 in
/-- `while0Ops0_2` is its windows in order. -/
theorem while0Ops0_2_cut : (while0Ops0_2 : List (HloOp τ sig (Elt F))) = trip_w3 := rfl
set_option maxRecDepth 5000 in
/-- `while0Ops0_3` is its windows in order, then the step. -/
theorem while0Ops0_3_cut : (while0Ops0_3 : List (HloOp τ sig (Elt F))) = trip_w4 ++ (while0Ops0_3_step) := rfl

/-- The buffers that window `trip_w0`'s operations write. -/
abbrev trip_w0_W : List (Ref sig .tc) := [main_while0b_call0_v0]
set_option maxRecDepth 8192 in
theorem trip_w0_writes : (trip_w0 : List (HloOp τ sig (Elt F))).Forall fun op => op.writes ⊆ (trip_w0_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w1`'s operations write. -/
abbrev trip_w1_W : List (Ref sig .tc) := [main_while0b_v75]
set_option maxRecDepth 8192 in
theorem trip_w1_writes : (trip_w1 : List (HloOp τ sig (Elt F))).Forall fun op => op.writes ⊆ (trip_w1_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- The buffers that window `trip_w2`'s operations write. -/
abbrev trip_w2_W : List (Ref sig .tc) := [main_while0b_c_22, main_while0b_v76, main_while0b_c_23, main_while0b_v77, main_while0b_v78, main_while0b_v79, main_while0b_v80, main_while0b_v81]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w3`'s operations write. -/
abbrev trip_w3_W : List (Ref sig .tc) := [main_while0b_call1_c, main_while0b_call1_v0, main_while0b_call1_v1, main_while0b_call1_c_0, main_while0b_call1_v2, main_while0b_call1_v3, main_while0b_call1_v4, main_while0b_call1_c_1, main_while0b_call1_c_2, main_while0b_call1_v5, main_while0b_call1_v6, main_while0b_call1_v7, main_while0b_call1_v8, main_while0b_call1_v9, main_while0b_call1_v10, main_while0b_call1_c_3, main_while0b_call1_v11, main_while0b_call1_v12, main_while0b_call1_v13, main_while0b_call1_cst, main_while0b_call1_v14, main_while0b_v82]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- The buffers that window `trip_w4`'s operations write. -/
abbrev trip_w4_W : List (Ref sig .tc) := [main_while0b_v83, main_while0b_v84, main_while0b_v85, main_while0b_cst_24, main_while0b_v86, main_while0b_v87, main_while0b_values, main_while0b_indices, main_while0b_v88]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem ctr_trip_w4 (V : Valuation τ sig (Elt F)) : after trip_w4 V (Proc.devRef .tc main_v4_2) = V (Proc.devRef .tc main_v4_2) :=
  after_of_writes_sub trip_w4 V trip_w4_writes (by decide +kernel)

set_option maxRecDepth 100000 in
/-- `while0Ops0_3_step` leaves the counter one step on. -/
theorem ctr_while0Ops0_3_step (Y : Valuation τ sig (Elt F)) :
    after while0Ops0_3_step Y (Proc.devRef .tc main_v4_2) = addi (Y (Proc.devRef .tc main_v4_2)) (constantI S_ 32 1#32) := by
  after_results
  rfl

set_option maxRecDepth 100000 in
/-- `while0Ops0_3` leaves the counter one step on: its windows do not write the counter, and `while0Ops0_3_step` steps it. -/
theorem ctr_step (X : Valuation τ sig (Elt F)) :
    after while0Ops0_3 X (Proc.devRef .tc main_v4_2) = addi (X (Proc.devRef .tc main_v4_2)) (constantI S_ 32 1#32) := by
  simp only [while0Ops0_3_cut, after_append]
  rw [ctr_while0Ops0_3_step, ctr_trip_w4]

/-- The counter is the loop's lower bound at the loop's entry: its last writer before the loop read back. -/
theorem ctr_entry (c : Dev nD) : entryContents preI m c (Proc.devRef .tc main_v4_2) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v4_2) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 1024 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v4_2 HostLoop.idx0)
        (HloOp.result _ (atK m k c) main_while0c_c_22 HostLoop.idx0) = 1#1) (k < 1024)
    rw [nullary_result_ne _ _ _ _ (by decide), nullary_result, hctr]
    exact Scf.cmpi_slt_iv_ub_iff (lb := 0#32) (ub := 1024#32) (st := 1#32) (by decide) (show k ≤ Scf.trips 0#32 1024#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 1024 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 1024 m ρ (cond_spec m)

end Cert.ReferenceIdeal.Value

end
-- ==== Proof.Reference.Trips.lean ====
/- One trip of the reference loop as a function of the contents it starts from, iterated; the arguments are kept throughout. -/
module

public import proofs.«01_k».proof.Proof.Reference.Fold

@[expose] public section

-- a long stretch's list of operations recurses past the default depth
set_option maxRecDepth 1208

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

set_option maxRecDepth 8192 in
/-- `main_while0b_v75`'s composed term of the carried buffers (named: it is used 3 times). -/
def res_main_while0b_v75 (V0 : Valuation τ sig (Elt F)) : (Proc.devRef .tc main_while0b_v75 : DevRef τ sig).ty.Contents (Elt F) :=
  shapeCast S_ (Host.dynamicSlice S1 (V0 (Proc.devRef .tc main_v4_0)) (fun k => (((![V0 (Proc.devRef .tc main_v4_2)] : Fin 1 → (⟨S_, .i32⟩ : BufTy).Contents (Elt F))) k (Shape.Idx.first h_S_)).toInt) sliceFits_S1024_S1) shapeCasts_S1_S_

set_option maxRecDepth 8192 in
/-- `main_while0b_v81`'s composed term of the carried buffers (named: it is used 3 times). -/
def res_main_while0b_v81 (V0 : Valuation τ sig (Elt F)) : (Proc.devRef .tc main_while0b_v81 : DevRef τ sig).ty.Contents (Elt F) :=
  broadcastInDim S4x1x1 ![0] bcast_S4_S4x1x1_0 (V0 (Proc.devRef .tc main_v4_5))

set_option maxRecDepth 8192 in
/-- `main_while0b_call1_v4`'s composed term of the carried buffers (named: it is used 3 times). -/
def res_main_while0b_call1_v4 (V0 : Valuation τ sig (Elt F)) : (Proc.devRef .tc main_while0b_call1_v4 : DevRef τ sig).ty.Contents (Elt F) :=
  select (cmpi .slt (res_main_while0b_v81 V0) (broadcastInDim S4x1x1 ![] bcast_S_S4x1x1 (constantI S_ 32 0#32))) (addi (res_main_while0b_v81 V0) (broadcastInDim S4x1x1 ![] bcast_S_S4x1x1 (constantI S_ 32 8192#32))) (res_main_while0b_v81 V0)

set_option maxRecDepth 8192 in
/-- `main_while0b_v84`'s composed term of the carried buffers (named: it is used 2 times). -/
def res_main_while0b_v84 (V0 : Valuation τ sig (Elt F)) : (Proc.devRef .tc main_while0b_v84 : DevRef τ sig).ty.Contents (Elt F) :=
  subf (V0 (Proc.devRef .tc main_v4_1)) (broadcastInDim S4x8192x3 ![0, 1, 2] bcast_S4x1x3_S4x8192x3_0_1_2 (select (broadcastInDim S4x1x3 ![0, 1] bcast_S4x1_S4x1x3_0_1 (Host.reduce IntOp.andi (andi (cmpi .sge (res_main_while0b_call1_v4 V0) (broadcastInDim S4x1x1 ![] bcast_S_S4x1x1 (constantI S_ 32 0#32))) (cmpi .sle (res_main_while0b_call1_v4 V0) (broadcastInDim S4x1x1 ![0, 1, 2] bcast_S1x1x1_S4x1x1_0_1_2 (broadcastInDim S1x1x1 ![2] bcast_S1_S1x1x1_2 (constantI S1 32 8191#32))))) (constantI S_ 1 1#1) reducesTo_S4x1x1_S4x1_d2 h_S_)) (Host.gather gather_S4x8192x3_S4x1x1_S4x1x3_2_1_0_0_1_2_113 (V0 (Proc.devRef .tc main_v4_1)) (res_main_while0b_call1_v4 V0)) (broadcastInDim S4x1x3 ![] bcast_S_S4x1x3 (constant S_ .f32 0x7FC00000#32))))

set_option maxRecDepth 8192 in
/-- `main_while0b_v87`'s composed term of the carried buffers (named: it is used 3 times). -/
def res_main_while0b_v87 (V0 : Valuation τ sig (Elt F)) : (Proc.devRef .tc main_while0b_v87 : DevRef τ sig).ty.Contents (Elt F) :=
  minimumf (V0 (Proc.devRef .tc main_v4_4)) (Host.reduceAdd (mulf (res_main_while0b_v84 V0) (res_main_while0b_v84 V0)) (constant S_ .f32 0x00000000#32) reducesTo_S4x8192x3_S4x8192_d2 h_S_)

/-- The device's buffer contents before the body's first window. -/
def val0 (V0 : Valuation τ sig (Elt F)) : Valuation τ sig (Elt F) := V0
theorem val0_main_v4_0 (V0 : Valuation τ sig (Elt F)) : val0 V0 (no_index (Proc.devRef .tc main_v4_0)) = V0 (Proc.devRef .tc main_v4_0) := rfl
theorem val0_main_v4_2 (V0 : Valuation τ sig (Elt F)) : val0 V0 (no_index (Proc.devRef .tc main_v4_2)) = V0 (Proc.devRef .tc main_v4_2) := rfl
theorem val0_main_v4_3 (V0 : Valuation τ sig (Elt F)) : val0 V0 (no_index (Proc.devRef .tc main_v4_3)) = V0 (Proc.devRef .tc main_v4_3) := rfl
theorem val0_main_v4_5 (V0 : Valuation τ sig (Elt F)) : val0 V0 (no_index (Proc.devRef .tc main_v4_5)) = V0 (Proc.devRef .tc main_v4_5) := rfl
theorem val0_main_v4_1 (V0 : Valuation τ sig (Elt F)) : val0 V0 (no_index (Proc.devRef .tc main_v4_1)) = V0 (Proc.devRef .tc main_v4_1) := rfl
theorem val0_main_v4_4 (V0 : Valuation τ sig (Elt F)) : val0 V0 (no_index (Proc.devRef .tc main_v4_4)) = V0 (Proc.devRef .tc main_v4_4) := rfl

/-- The device's buffer contents after the body's first 1 window. -/
def val1 (V0 : Valuation τ sig (Elt F)) : Valuation τ sig (Elt F) := after trip_w0 (val0 V0)
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v4_0 (V0 : Valuation τ sig (Elt F)) : val1 V0 (no_index (Proc.devRef .tc main_v4_0)) = V0 (Proc.devRef .tc main_v4_0) :=
  (val1_keep V0 main_v4_0 (by decide)).trans (val0_main_v4_0 V0)
theorem val1_main_v4_2 (V0 : Valuation τ sig (Elt F)) : val1 V0 (no_index (Proc.devRef .tc main_v4_2)) = V0 (Proc.devRef .tc main_v4_2) :=
  (val1_keep V0 main_v4_2 (by decide)).trans (val0_main_v4_2 V0)
theorem val1_main_v4_3 (V0 : Valuation τ sig (Elt F)) : val1 V0 (no_index (Proc.devRef .tc main_v4_3)) = V0 (Proc.devRef .tc main_v4_3) :=
  (val1_keep V0 main_v4_3 (by decide)).trans (val0_main_v4_3 V0)
theorem val1_main_v4_5 (V0 : Valuation τ sig (Elt F)) : val1 V0 (no_index (Proc.devRef .tc main_v4_5)) = V0 (Proc.devRef .tc main_v4_5) :=
  (val1_keep V0 main_v4_5 (by decide)).trans (val0_main_v4_5 V0)
theorem val1_main_v4_1 (V0 : Valuation τ sig (Elt F)) : val1 V0 (no_index (Proc.devRef .tc main_v4_1)) = V0 (Proc.devRef .tc main_v4_1) :=
  (val1_keep V0 main_v4_1 (by decide)).trans (val0_main_v4_1 V0)
theorem val1_main_v4_4 (V0 : Valuation τ sig (Elt F)) : val1 V0 (no_index (Proc.devRef .tc main_v4_4)) = V0 (Proc.devRef .tc main_v4_4) :=
  (val1_keep V0 main_v4_4 (by decide)).trans (val0_main_v4_4 V0)
set_option maxRecDepth 8192 in
theorem val1_main_while0b_call0_v0 (V0 : Valuation τ sig (Elt F)) : val1 V0 (no_index (Proc.devRef .tc main_while0b_call0_v0)) = Host.dynamicSlice S1 (V0 (Proc.devRef .tc main_v4_0)) (fun k => (((![V0 (Proc.devRef .tc main_v4_2)] : Fin 1 → (⟨S_, .i32⟩ : BufTy).Contents (Elt F))) k (Shape.Idx.first h_S_)).toInt) sliceFits_S1024_S1 := by
  unfold val1
  simp only [trip_w0]
  after_results_entrywise [val0_main_v4_2, val0_main_v4_0, cast_eq]

/-- The device's buffer contents after the body's first 2 windows. -/
def val2 (V0 : Valuation τ sig (Elt F)) : Valuation τ sig (Elt F) := after trip_w1 (val1 V0)
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v4_0 (V0 : Valuation τ sig (Elt F)) : val2 V0 (no_index (Proc.devRef .tc main_v4_0)) = V0 (Proc.devRef .tc main_v4_0) :=
  (val2_keep V0 main_v4_0 (by decide)).trans (val1_main_v4_0 V0)
theorem val2_main_v4_2 (V0 : Valuation τ sig (Elt F)) : val2 V0 (no_index (Proc.devRef .tc main_v4_2)) = V0 (Proc.devRef .tc main_v4_2) :=
  (val2_keep V0 main_v4_2 (by decide)).trans (val1_main_v4_2 V0)
theorem val2_main_v4_3 (V0 : Valuation τ sig (Elt F)) : val2 V0 (no_index (Proc.devRef .tc main_v4_3)) = V0 (Proc.devRef .tc main_v4_3) :=
  (val2_keep V0 main_v4_3 (by decide)).trans (val1_main_v4_3 V0)
theorem val2_main_v4_5 (V0 : Valuation τ sig (Elt F)) : val2 V0 (no_index (Proc.devRef .tc main_v4_5)) = V0 (Proc.devRef .tc main_v4_5) :=
  (val2_keep V0 main_v4_5 (by decide)).trans (val1_main_v4_5 V0)
theorem val2_main_v4_1 (V0 : Valuation τ sig (Elt F)) : val2 V0 (no_index (Proc.devRef .tc main_v4_1)) = V0 (Proc.devRef .tc main_v4_1) :=
  (val2_keep V0 main_v4_1 (by decide)).trans (val1_main_v4_1 V0)
theorem val2_main_v4_4 (V0 : Valuation τ sig (Elt F)) : val2 V0 (no_index (Proc.devRef .tc main_v4_4)) = V0 (Proc.devRef .tc main_v4_4) :=
  (val2_keep V0 main_v4_4 (by decide)).trans (val1_main_v4_4 V0)
set_option maxRecDepth 8192 in
theorem val2_main_while0b_v75 (V0 : Valuation τ sig (Elt F)) : val2 V0 (no_index (Proc.devRef .tc main_while0b_v75)) = res_main_while0b_v75 V0 := by
  unfold val2
  simp only [trip_w1]
  after_results_entrywise [val1_main_while0b_call0_v0, res_main_while0b_v75, cast_eq]

/-- The device's buffer contents after the body's first 3 windows. -/
def val3 (V0 : Valuation τ sig (Elt F)) : Valuation τ sig (Elt F) := after trip_w2 (val2 V0)
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v4_0 (V0 : Valuation τ sig (Elt F)) : val3 V0 (no_index (Proc.devRef .tc main_v4_0)) = V0 (Proc.devRef .tc main_v4_0) :=
  (val3_keep V0 main_v4_0 (by decide)).trans (val2_main_v4_0 V0)
theorem val3_main_v4_2 (V0 : Valuation τ sig (Elt F)) : val3 V0 (no_index (Proc.devRef .tc main_v4_2)) = V0 (Proc.devRef .tc main_v4_2) :=
  (val3_keep V0 main_v4_2 (by decide)).trans (val2_main_v4_2 V0)
theorem val3_main_v4_3 (V0 : Valuation τ sig (Elt F)) : val3 V0 (no_index (Proc.devRef .tc main_v4_3)) = V0 (Proc.devRef .tc main_v4_3) :=
  (val3_keep V0 main_v4_3 (by decide)).trans (val2_main_v4_3 V0)
theorem val3_main_v4_5 (V0 : Valuation τ sig (Elt F)) : val3 V0 (no_index (Proc.devRef .tc main_v4_5)) = V0 (Proc.devRef .tc main_v4_5) :=
  (val3_keep V0 main_v4_5 (by decide)).trans (val2_main_v4_5 V0)
theorem val3_main_v4_1 (V0 : Valuation τ sig (Elt F)) : val3 V0 (no_index (Proc.devRef .tc main_v4_1)) = V0 (Proc.devRef .tc main_v4_1) :=
  (val3_keep V0 main_v4_1 (by decide)).trans (val2_main_v4_1 V0)
theorem val3_main_v4_4 (V0 : Valuation τ sig (Elt F)) : val3 V0 (no_index (Proc.devRef .tc main_v4_4)) = V0 (Proc.devRef .tc main_v4_4) :=
  (val3_keep V0 main_v4_4 (by decide)).trans (val2_main_v4_4 V0)
set_option maxRecDepth 8192 in
theorem val3_main_while0b_v80 (V0 : Valuation τ sig (Elt F)) : val3 V0 (no_index (Proc.devRef .tc main_while0b_v80)) = Host.scatter scatter_S4x1024_S1_S4_0_1_1_0 (fun _ b => b) (V0 (Proc.devRef .tc main_v4_3)) (broadcastInDim S1 ![] bcast_S_S1 (select (cmpi .slt (res_main_while0b_v75 V0) (constantI S_ 32 0#32)) (addi (res_main_while0b_v75 V0) (constantI S_ 32 1024#32)) (res_main_while0b_v75 V0))) (V0 (Proc.devRef .tc main_v4_5)) := by
  unfold val3
  simp only [trip_w2]
  after_results_entrywise [val2_main_v4_5, val2_main_while0b_v75, val2_main_v4_3, cast_eq]
set_option maxRecDepth 8192 in
theorem val3_main_while0b_v81 (V0 : Valuation τ sig (Elt F)) : val3 V0 (no_index (Proc.devRef .tc main_while0b_v81)) = res_main_while0b_v81 V0 := by
  unfold val3
  simp only [trip_w2]
  after_results_entrywise [val2_main_v4_5, res_main_while0b_v81, cast_eq]

/-- The device's buffer contents after the body's first 4 windows. -/
def val4 (V0 : Valuation τ sig (Elt F)) : Valuation τ sig (Elt F) := after trip_w3 (val3 V0)
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v4_0 (V0 : Valuation τ sig (Elt F)) : val4 V0 (no_index (Proc.devRef .tc main_v4_0)) = V0 (Proc.devRef .tc main_v4_0) :=
  (val4_keep V0 main_v4_0 (by decide)).trans (val3_main_v4_0 V0)
theorem val4_main_v4_2 (V0 : Valuation τ sig (Elt F)) : val4 V0 (no_index (Proc.devRef .tc main_v4_2)) = V0 (Proc.devRef .tc main_v4_2) :=
  (val4_keep V0 main_v4_2 (by decide)).trans (val3_main_v4_2 V0)
theorem val4_main_v4_3 (V0 : Valuation τ sig (Elt F)) : val4 V0 (no_index (Proc.devRef .tc main_v4_3)) = V0 (Proc.devRef .tc main_v4_3) :=
  (val4_keep V0 main_v4_3 (by decide)).trans (val3_main_v4_3 V0)
theorem val4_main_v4_5 (V0 : Valuation τ sig (Elt F)) : val4 V0 (no_index (Proc.devRef .tc main_v4_5)) = V0 (Proc.devRef .tc main_v4_5) :=
  (val4_keep V0 main_v4_5 (by decide)).trans (val3_main_v4_5 V0)
theorem val4_main_v4_1 (V0 : Valuation τ sig (Elt F)) : val4 V0 (no_index (Proc.devRef .tc main_v4_1)) = V0 (Proc.devRef .tc main_v4_1) :=
  (val4_keep V0 main_v4_1 (by decide)).trans (val3_main_v4_1 V0)
theorem val4_main_v4_4 (V0 : Valuation τ sig (Elt F)) : val4 V0 (no_index (Proc.devRef .tc main_v4_4)) = V0 (Proc.devRef .tc main_v4_4) :=
  (val4_keep V0 main_v4_4 (by decide)).trans (val3_main_v4_4 V0)
theorem val4_main_while0b_v80 (V0 : Valuation τ sig (Elt F)) : val4 V0 (no_index (Proc.devRef .tc main_while0b_v80)) = Host.scatter scatter_S4x1024_S1_S4_0_1_1_0 (fun _ b => b) (V0 (Proc.devRef .tc main_v4_3)) (broadcastInDim S1 ![] bcast_S_S1 (select (cmpi .slt (res_main_while0b_v75 V0) (constantI S_ 32 0#32)) (addi (res_main_while0b_v75 V0) (constantI S_ 32 1024#32)) (res_main_while0b_v75 V0))) (V0 (Proc.devRef .tc main_v4_5)) :=
  (val4_keep V0 main_while0b_v80 (by decide)).trans (val3_main_while0b_v80 V0)
set_option maxRecDepth 8192 in
set_option maxHeartbeats 2000000 in
theorem val4_main_while0b_v82 (V0 : Valuation τ sig (Elt F)) : val4 V0 (no_index (Proc.devRef .tc main_while0b_v82)) = select (broadcastInDim S4x1x3 ![0, 1] bcast_S4x1_S4x1x3_0_1 (Host.reduce IntOp.andi (andi (cmpi .sge (res_main_while0b_call1_v4 V0) (broadcastInDim S4x1x1 ![] bcast_S_S4x1x1 (constantI S_ 32 0#32))) (cmpi .sle (res_main_while0b_call1_v4 V0) (broadcastInDim S4x1x1 ![0, 1, 2] bcast_S1x1x1_S4x1x1_0_1_2 (broadcastInDim S1x1x1 ![2] bcast_S1_S1x1x1_2 (constantI S1 32 8191#32))))) (constantI S_ 1 1#1) reducesTo_S4x1x1_S4x1_d2 h_S_)) (Host.gather gather_S4x8192x3_S4x1x1_S4x1x3_2_1_0_0_1_2_113 (V0 (Proc.devRef .tc main_v4_1)) (res_main_while0b_call1_v4 V0)) (broadcastInDim S4x1x3 ![] bcast_S_S4x1x3 (constant S_ .f32 0x7FC00000#32)) := by
  unfold val4
  simp only [trip_w3]
  after_results_entrywise [val3_main_while0b_v81, val3_main_v4_1, res_main_while0b_call1_v4, cast_eq]

/-- The device's buffer contents after the body's first 5 windows. -/
def val5 (V0 : Valuation τ sig (Elt F)) : Valuation τ sig (Elt F) := after trip_w4 (val4 V0)
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v4_0 (V0 : Valuation τ sig (Elt F)) : val5 V0 (no_index (Proc.devRef .tc main_v4_0)) = V0 (Proc.devRef .tc main_v4_0) :=
  (val5_keep V0 main_v4_0 (by decide)).trans (val4_main_v4_0 V0)
theorem val5_main_v4_2 (V0 : Valuation τ sig (Elt F)) : val5 V0 (no_index (Proc.devRef .tc main_v4_2)) = V0 (Proc.devRef .tc main_v4_2) :=
  (val5_keep V0 main_v4_2 (by decide)).trans (val4_main_v4_2 V0)
theorem val5_main_v4_3 (V0 : Valuation τ sig (Elt F)) : val5 V0 (no_index (Proc.devRef .tc main_v4_3)) = V0 (Proc.devRef .tc main_v4_3) :=
  (val5_keep V0 main_v4_3 (by decide)).trans (val4_main_v4_3 V0)
theorem val5_main_v4_5 (V0 : Valuation τ sig (Elt F)) : val5 V0 (no_index (Proc.devRef .tc main_v4_5)) = V0 (Proc.devRef .tc main_v4_5) :=
  (val5_keep V0 main_v4_5 (by decide)).trans (val4_main_v4_5 V0)
theorem val5_main_v4_1 (V0 : Valuation τ sig (Elt F)) : val5 V0 (no_index (Proc.devRef .tc main_v4_1)) = V0 (Proc.devRef .tc main_v4_1) :=
  (val5_keep V0 main_v4_1 (by decide)).trans (val4_main_v4_1 V0)
theorem val5_main_v4_4 (V0 : Valuation τ sig (Elt F)) : val5 V0 (no_index (Proc.devRef .tc main_v4_4)) = V0 (Proc.devRef .tc main_v4_4) :=
  (val5_keep V0 main_v4_4 (by decide)).trans (val4_main_v4_4 V0)
theorem val5_main_while0b_v80 (V0 : Valuation τ sig (Elt F)) : val5 V0 (no_index (Proc.devRef .tc main_while0b_v80)) = Host.scatter scatter_S4x1024_S1_S4_0_1_1_0 (fun _ b => b) (V0 (Proc.devRef .tc main_v4_3)) (broadcastInDim S1 ![] bcast_S_S1 (select (cmpi .slt (res_main_while0b_v75 V0) (constantI S_ 32 0#32)) (addi (res_main_while0b_v75 V0) (constantI S_ 32 1024#32)) (res_main_while0b_v75 V0))) (V0 (Proc.devRef .tc main_v4_5)) :=
  (val5_keep V0 main_while0b_v80 (by decide)).trans (val4_main_while0b_v80 V0)
set_option maxRecDepth 8192 in
set_option maxHeartbeats 900000 in
theorem val5_main_while0b_v87 (V0 : Valuation τ sig (Elt F)) : val5 V0 (no_index (Proc.devRef .tc main_while0b_v87)) = res_main_while0b_v87 V0 := by
  unfold val5
  simp only [trip_w4]
  after_results_entrywise [val4_main_while0b_v82, val4_main_v4_1, val4_main_v4_4, res_main_while0b_v84, res_main_while0b_v87, cast_eq]
set_option maxRecDepth 8192 in
set_option maxHeartbeats 900000 in
theorem val5_main_while0b_v88 (V0 : Valuation τ sig (Elt F)) : val5 V0 (no_index (Proc.devRef .tc main_while0b_v88)) = shapeCast S4 ((Host.topK S4x1 1 (FloatOps.cmpfTotal .gt) (res_main_while0b_v87 V0) sliceFits_S4x8192_S4x1).2) shapeCasts_S4x1_S4 := by
  unfold val5
  simp only [trip_w4]
  after_results_entrywise [val4_main_while0b_v82, val4_main_v4_1, val4_main_v4_4, res_main_while0b_v84, res_main_while0b_v87, cast_eq]

set_option maxRecDepth 8192 in
/-- The body's stretches, from any contents: the trip's windows in order, then `while0Ops0_3`'s step. -/
theorem trip_windows (V0 : Valuation τ sig (Elt F)) : after while0Ops0_3 (after while0Ops0_2 (after while0Ops0_1 (after while0Ops0 (V0)))) = after while0Ops0_3_step (val5 V0) := by
  simp only [while0Ops0_cut, while0Ops0_1_cut, while0Ops0_2_cut, while0Ops0_3_cut, after_append]
  rfl

set_option maxRecDepth 8192 in
set_option maxHeartbeats 2000000 in
/-- `main_v4_0` after one trip's body, from any contents. -/
theorem trip_main_v4_0 (V0 : Valuation τ sig (Elt F)) : afterL bodyI V0 (no_index (Proc.devRef .tc main_v4_0)) = V0 (Proc.devRef .tc main_v4_0) := by
  simp only [bodyI, afterL_cons, afterL_nil, trip_windows]
  after_results
  all_goals (try simp only [val5_main_while0b_v80, val5_main_while0b_v87, val5_main_while0b_v88, val5_main_v4_0, val5_main_v4_1, val5_main_v4_2, val5_main_v4_3, val5_main_v4_4, val5_main_v4_5]) <;> rfl
set_option maxRecDepth 8192 in
set_option maxHeartbeats 2000000 in
/-- `main_v4_1` after one trip's body, from any contents. -/
theorem trip_main_v4_1 (V0 : Valuation τ sig (Elt F)) : afterL bodyI V0 (no_index (Proc.devRef .tc main_v4_1)) = V0 (Proc.devRef .tc main_v4_1) := by
  simp only [bodyI, afterL_cons, afterL_nil, trip_windows]
  after_results
  all_goals (try simp only [val5_main_while0b_v80, val5_main_while0b_v87, val5_main_while0b_v88, val5_main_v4_0, val5_main_v4_1, val5_main_v4_2, val5_main_v4_3, val5_main_v4_4, val5_main_v4_5]) <;> rfl
set_option maxRecDepth 8192 in
set_option maxHeartbeats 2000000 in
/-- `main_v4_2` after one trip's body, from any contents. -/
theorem trip_main_v4_2 (V0 : Valuation τ sig (Elt F)) : afterL bodyI V0 (no_index (Proc.devRef .tc main_v4_2)) = id (addi (V0 (Proc.devRef .tc main_v4_2)) (constantI S_ 32 1#32)) := by
  simp only [bodyI, afterL_cons, afterL_nil, trip_windows]
  after_results
  all_goals (try simp only [val5_main_while0b_v80, val5_main_while0b_v87, val5_main_while0b_v88, val5_main_v4_0, val5_main_v4_1, val5_main_v4_2, val5_main_v4_3, val5_main_v4_4, val5_main_v4_5]) <;> rfl
set_option maxRecDepth 8192 in
set_option maxHeartbeats 2000000 in
/-- `main_v4_3` after one trip's body, from any contents. -/
theorem trip_main_v4_3 (V0 : Valuation τ sig (Elt F)) : afterL bodyI V0 (no_index (Proc.devRef .tc main_v4_3)) = id (Host.scatter scatter_S4x1024_S1_S4_0_1_1_0 (fun _ b => b) (V0 (Proc.devRef .tc main_v4_3)) (broadcastInDim S1 ![] bcast_S_S1 (select (cmpi .slt (res_main_while0b_v75 V0) (constantI S_ 32 0#32)) (addi (res_main_while0b_v75 V0) (constantI S_ 32 1024#32)) (res_main_while0b_v75 V0))) (V0 (Proc.devRef .tc main_v4_5))) := by
  simp only [bodyI, afterL_cons, afterL_nil, trip_windows]
  after_results
  all_goals (try simp only [val5_main_while0b_v80, val5_main_while0b_v87, val5_main_while0b_v88, val5_main_v4_0, val5_main_v4_1, val5_main_v4_2, val5_main_v4_3, val5_main_v4_4, val5_main_v4_5]) <;> rfl
set_option maxRecDepth 8192 in
set_option maxHeartbeats 2000000 in
/-- `main_v4_4` after one trip's body, from any contents. -/
theorem trip_main_v4_4 (V0 : Valuation τ sig (Elt F)) : afterL bodyI V0 (no_index (Proc.devRef .tc main_v4_4)) = id (res_main_while0b_v87 V0) := by
  simp only [bodyI, afterL_cons, afterL_nil, trip_windows]
  after_results
  all_goals (try simp only [val5_main_while0b_v80, val5_main_while0b_v87, val5_main_while0b_v88, val5_main_v4_0, val5_main_v4_1, val5_main_v4_2, val5_main_v4_3, val5_main_v4_4, val5_main_v4_5]) <;> rfl
set_option maxRecDepth 8192 in
set_option maxHeartbeats 2000000 in
/-- `main_v4_5` after one trip's body, from any contents. -/
theorem trip_main_v4_5 (V0 : Valuation τ sig (Elt F)) : afterL bodyI V0 (no_index (Proc.devRef .tc main_v4_5)) = id (shapeCast S4 ((Host.topK S4x1 1 (FloatOps.cmpfTotal .gt) (res_main_while0b_v87 V0) sliceFits_S4x8192_S4x1).2) shapeCasts_S4x1_S4) := by
  simp only [bodyI, afterL_cons, afterL_nil, trip_windows]
  after_results
  all_goals (try simp only [val5_main_while0b_v80, val5_main_while0b_v87, val5_main_while0b_v88, val5_main_v4_0, val5_main_v4_1, val5_main_v4_2, val5_main_v4_3, val5_main_v4_4, val5_main_v4_5]) <;> rfl

/-- The loop's carried buffers. -/
abbrev carriedRefs : List (Ref sig .tc) := [main_v4_0, main_v4_1, main_v4_2, main_v4_3, main_v4_4, main_v4_5]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_v75_congr {V0 V0' : Valuation τ sig (Elt F)} (h : Agree V0 V0') : res_main_while0b_v75 V0 = res_main_while0b_v75 V0' := by
  unfold res_main_while0b_v75
  rw [h main_v4_0 (by decide), h main_v4_2 (by decide)]
set_option maxRecDepth 8192 in
theorem res_main_while0b_v81_congr {V0 V0' : Valuation τ sig (Elt F)} (h : Agree V0 V0') : res_main_while0b_v81 V0 = res_main_while0b_v81 V0' := by
  unfold res_main_while0b_v81
  rw [h main_v4_5 (by decide)]
set_option maxRecDepth 8192 in
theorem res_main_while0b_call1_v4_congr {V0 V0' : Valuation τ sig (Elt F)} (h : Agree V0 V0') : res_main_while0b_call1_v4 V0 = res_main_while0b_call1_v4 V0' := by
  unfold res_main_while0b_call1_v4
  rw [res_main_while0b_v81_congr h]
set_option maxRecDepth 8192 in
theorem res_main_while0b_v84_congr {V0 V0' : Valuation τ sig (Elt F)} (h : Agree V0 V0') : res_main_while0b_v84 V0 = res_main_while0b_v84 V0' := by
  unfold res_main_while0b_v84
  rw [res_main_while0b_call1_v4_congr h, h main_v4_1 (by decide)]
set_option maxRecDepth 8192 in
theorem res_main_while0b_v87_congr {V0 V0' : Valuation τ sig (Elt F)} (h : Agree V0 V0') : res_main_while0b_v87 V0 = res_main_while0b_v87 V0' := by
  unfold res_main_while0b_v87
  rw [res_main_while0b_v84_congr h, h main_v4_4 (by decide)]

set_option maxRecDepth 8192 in
/-- `main_v4_2` after one trip, of the contents before it. -/
def step_main_v4_2 (V0 : Valuation τ sig (Elt F)) : (Proc.devRef .tc main_v4_2 : DevRef τ sig).ty.Contents (Elt F) :=
  id (addi (V0 (Proc.devRef .tc main_v4_2)) (constantI S_ 32 1#32))
set_option maxRecDepth 8192 in
theorem step_main_v4_2_congr {V0 V0' : Valuation τ sig (Elt F)} (h : Agree V0 V0') : step_main_v4_2 V0 = step_main_v4_2 V0' := by
  unfold step_main_v4_2
  rw [h main_v4_2 (by decide)]
set_option maxRecDepth 8192 in
/-- `main_v4_3` after one trip, of the contents before it. -/
def step_main_v4_3 (V0 : Valuation τ sig (Elt F)) : (Proc.devRef .tc main_v4_3 : DevRef τ sig).ty.Contents (Elt F) :=
  id (Host.scatter scatter_S4x1024_S1_S4_0_1_1_0 (fun _ b => b) (V0 (Proc.devRef .tc main_v4_3)) (broadcastInDim S1 ![] bcast_S_S1 (select (cmpi .slt (res_main_while0b_v75 V0) (constantI S_ 32 0#32)) (addi (res_main_while0b_v75 V0) (constantI S_ 32 1024#32)) (res_main_while0b_v75 V0))) (V0 (Proc.devRef .tc main_v4_5)))
set_option maxRecDepth 8192 in
theorem step_main_v4_3_congr {V0 V0' : Valuation τ sig (Elt F)} (h : Agree V0 V0') : step_main_v4_3 V0 = step_main_v4_3 V0' := by
  unfold step_main_v4_3
  rw [res_main_while0b_v75_congr h, h main_v4_3 (by decide), h main_v4_5 (by decide)]
set_option maxRecDepth 8192 in
/-- `main_v4_4` after one trip, of the contents before it. -/
def step_main_v4_4 (V0 : Valuation τ sig (Elt F)) : (Proc.devRef .tc main_v4_4 : DevRef τ sig).ty.Contents (Elt F) :=
  id (res_main_while0b_v87 V0)
set_option maxRecDepth 8192 in
theorem step_main_v4_4_congr {V0 V0' : Valuation τ sig (Elt F)} (h : Agree V0 V0') : step_main_v4_4 V0 = step_main_v4_4 V0' := by
  unfold step_main_v4_4
  rw [res_main_while0b_v87_congr h]
set_option maxRecDepth 8192 in
/-- `main_v4_5` after one trip, of the contents before it. -/
def step_main_v4_5 (V0 : Valuation τ sig (Elt F)) : (Proc.devRef .tc main_v4_5 : DevRef τ sig).ty.Contents (Elt F) :=
  id (shapeCast S4 ((Host.topK S4x1 1 (FloatOps.cmpfTotal .gt) (res_main_while0b_v87 V0) sliceFits_S4x8192_S4x1).2) shapeCasts_S4x1_S4)
set_option maxRecDepth 8192 in
theorem step_main_v4_5_congr {V0 V0' : Valuation τ sig (Elt F)} (h : Agree V0 V0') : step_main_v4_5 V0 = step_main_v4_5 V0' := by
  unfold step_main_v4_5
  rw [res_main_while0b_v87_congr h]

/-- ONE TRIP on the carried buffers: the buffers the body writes step, everything else is as it was. -/
def STEP (V0 : Valuation τ sig (Elt F)) : Valuation τ sig (Elt F) :=
  Function.update (Function.update (Function.update (Function.update (V0) (Proc.devRef .tc main_v4_2) (step_main_v4_2 V0)) (Proc.devRef .tc main_v4_3) (step_main_v4_3 V0)) (Proc.devRef .tc main_v4_4) (step_main_v4_4 V0)) (Proc.devRef .tc main_v4_5) (step_main_v4_5 V0)

theorem STEP_main_v4_0 (V0 : Valuation τ sig (Elt F)) : STEP V0 (Proc.devRef .tc main_v4_0) = V0 (Proc.devRef .tc main_v4_0) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v4_1 (V0 : Valuation τ sig (Elt F)) : STEP V0 (Proc.devRef .tc main_v4_1) = V0 (Proc.devRef .tc main_v4_1) := by
  unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]
theorem STEP_main_v4_2 (V0 : Valuation τ sig (Elt F)) : STEP V0 (Proc.devRef .tc main_v4_2) = step_main_v4_2 V0 := by
  unfold STEP; rw [Function.update_of_ne (devRef_ne_of_ne (by decide))]; rw [Function.update_of_ne (devRef_ne_of_ne (by decide))]; rw [Function.update_of_ne (devRef_ne_of_ne (by decide))]; rw [Function.update_self]
theorem STEP_main_v4_3 (V0 : Valuation τ sig (Elt F)) : STEP V0 (Proc.devRef .tc main_v4_3) = step_main_v4_3 V0 := by
  unfold STEP; rw [Function.update_of_ne (devRef_ne_of_ne (by decide))]; rw [Function.update_of_ne (devRef_ne_of_ne (by decide))]; rw [Function.update_self]
theorem STEP_main_v4_4 (V0 : Valuation τ sig (Elt F)) : STEP V0 (Proc.devRef .tc main_v4_4) = step_main_v4_4 V0 := by
  unfold STEP; rw [Function.update_of_ne (devRef_ne_of_ne (by decide))]; rw [Function.update_self]
theorem STEP_main_v4_5 (V0 : Valuation τ sig (Elt F)) : STEP V0 (Proc.devRef .tc main_v4_5) = step_main_v4_5 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v4_0 (after condOps X)).trans ((hc main_v4_0 (by decide)).trans (STEP_main_v4_0 X).symm)
  · exact (trip_main_v4_1 (after condOps X)).trans ((hc main_v4_1 (by decide)).trans (STEP_main_v4_1 X).symm)
  · exact (trip_main_v4_2 (after condOps X)).trans ((step_main_v4_2_congr hc).trans (STEP_main_v4_2 X).symm)
  · exact (trip_main_v4_3 (after condOps X)).trans ((step_main_v4_3_congr hc).trans (STEP_main_v4_3 X).symm)
  · exact (trip_main_v4_4 (after condOps X)).trans ((step_main_v4_4_congr hc).trans (STEP_main_v4_4 X).symm)
  · exact (trip_main_v4_5 (after condOps X)).trans ((step_main_v4_5_congr hc).trans (STEP_main_v4_5 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v4_0, STEP_main_v4_0]; exact h main_v4_0 (by decide)
  · rw [STEP_main_v4_1, STEP_main_v4_1]; exact h main_v4_1 (by decide)
  · rw [STEP_main_v4_2, STEP_main_v4_2]; exact step_main_v4_2_congr h
  · rw [STEP_main_v4_3, STEP_main_v4_3]; exact step_main_v4_3_congr h
  · rw [STEP_main_v4_4, STEP_main_v4_4]; exact step_main_v4_4_congr h
  · rw [STEP_main_v4_5, STEP_main_v4_5]; exact step_main_v4_5_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
theorem keep_main_arg0_hostOps0_6 (V : Valuation τ sig (Elt F)) : after hostOps0_6 V (Proc.devRef .tc main_arg0) = V (Proc.devRef .tc main_arg0) :=
  after_of_writes_sub hostOps0_6 V hostOps0_6_writes (by decide +kernel)
theorem keep_main_arg0_hostOps0_7 (V : Valuation τ sig (Elt F)) : after hostOps0_7 V (Proc.devRef .tc main_arg0) = V (Proc.devRef .tc main_arg0) :=
  after_of_writes_sub hostOps0_7 V hostOps0_7_writes (by decide +kernel)
theorem keep_main_arg0_hostOps0_8 (V : Valuation τ sig (Elt F)) : after hostOps0_8 V (Proc.devRef .tc main_arg0) = V (Proc.devRef .tc main_arg0) :=
  after_of_writes_sub hostOps0_8 V hostOps0_8_writes (by decide +kernel)
theorem keep_main_arg0_hostOps0_9 (V : Valuation τ sig (Elt F)) : after hostOps0_9 V (Proc.devRef .tc main_arg0) = V (Proc.devRef .tc main_arg0) :=
  after_of_writes_sub hostOps0_9 V hostOps0_9_writes (by decide +kernel)
theorem keep_main_arg0_hostOps0_10 (V : Valuation τ sig (Elt F)) : after hostOps0_10 V (Proc.devRef .tc main_arg0) = V (Proc.devRef .tc main_arg0) :=
  after_of_writes_sub hostOps0_10 V hostOps0_10_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0]
  | k + 1 => by
    rw [show atK m (k + 1) c = afterL bodyI (after condOps (atK m k c)) from rfl]
    simp only [afterL_cons, afterL_nil]
    rw [keep_main_arg0_while0Ops0_3, keep_main_arg0_while0Ops0_2, keep_main_arg0_while0Ops0_1, keep_main_arg0_while0Ops0, keep_main_arg0_condOps, atK_main_arg0 c k]

theorem keep_main_arg1_hostOps0 (V : Valuation τ sig (Elt F)) : after hostOps0 V (Proc.devRef .tc main_arg1) = V (Proc.devRef .tc main_arg1) :=
  after_of_writes_sub hostOps0 V hostOps0_writes (by decide +kernel)
theorem keep_main_arg1_condOps (V : Valuation τ sig (Elt F)) : after condOps V (Proc.devRef .tc main_arg1) = V (Proc.devRef .tc main_arg1) :=
  after_of_writes_sub condOps V condOps_writes (by decide +kernel)
theorem keep_main_arg1_while0Ops0 (V : Valuation τ sig (Elt F)) : after while0Ops0 V (Proc.devRef .tc main_arg1) = V (Proc.devRef .tc main_arg1) :=
  after_of_writes_sub while0Ops0 V while0Ops0_writes (by decide +kernel)
theorem keep_main_arg1_while0Ops0_1 (V : Valuation τ sig (Elt F)) : after while0Ops0_1 V (Proc.devRef .tc main_arg1) = V (Proc.devRef .tc main_arg1) :=
  after_of_writes_sub while0Ops0_1 V while0Ops0_1_writes (by decide +kernel)
theorem keep_main_arg1_while0Ops0_2 (V : Valuation τ sig (Elt F)) : after while0Ops0_2 V (Proc.devRef .tc main_arg1) = V (Proc.devRef .tc main_arg1) :=
  after_of_writes_sub while0Ops0_2 V while0Ops0_2_writes (by decide +kernel)
theorem keep_main_arg1_while0Ops0_3 (V : Valuation τ sig (Elt F)) : after while0Ops0_3 V (Proc.devRef .tc main_arg1) = V (Proc.devRef .tc main_arg1) :=
  after_of_writes_sub while0Ops0_3 V while0Ops0_3_writes (by decide +kernel)
theorem keep_main_arg1_hostOps0_1 (V : Valuation τ sig (Elt F)) : after hostOps0_1 V (Proc.devRef .tc main_arg1) = V (Proc.devRef .tc main_arg1) :=
  after_of_writes_sub hostOps0_1 V hostOps0_1_writes (by decide +kernel)
theorem keep_main_arg1_hostOps0_2 (V : Valuation τ sig (Elt F)) : after hostOps0_2 V (Proc.devRef .tc main_arg1) = V (Proc.devRef .tc main_arg1) :=
  after_of_writes_sub hostOps0_2 V hostOps0_2_writes (by decide +kernel)
theorem keep_main_arg1_hostOps0_3 (V : Valuation τ sig (Elt F)) : after hostOps0_3 V (Proc.devRef .tc main_arg1) = V (Proc.devRef .tc main_arg1) :=
  after_of_writes_sub hostOps0_3 V hostOps0_3_writes (by decide +kernel)
theorem keep_main_arg1_hostOps0_4 (V : Valuation τ sig (Elt F)) : after hostOps0_4 V (Proc.devRef .tc main_arg1) = V (Proc.devRef .tc main_arg1) :=
  after_of_writes_sub hostOps0_4 V hostOps0_4_writes (by decide +kernel)
theorem keep_main_arg1_hostOps0_5 (V : Valuation τ sig (Elt F)) : after hostOps0_5 V (Proc.devRef .tc main_arg1) = V (Proc.devRef .tc main_arg1) :=
  after_of_writes_sub hostOps0_5 V hostOps0_5_writes (by decide +kernel)
theorem keep_main_arg1_hostOps0_6 (V : Valuation τ sig (Elt F)) : after hostOps0_6 V (Proc.devRef .tc main_arg1) = V (Proc.devRef .tc main_arg1) :=
  after_of_writes_sub hostOps0_6 V hostOps0_6_writes (by decide +kernel)
theorem keep_main_arg1_hostOps0_7 (V : Valuation τ sig (Elt F)) : after hostOps0_7 V (Proc.devRef .tc main_arg1) = V (Proc.devRef .tc main_arg1) :=
  after_of_writes_sub hostOps0_7 V hostOps0_7_writes (by decide +kernel)
theorem keep_main_arg1_hostOps0_8 (V : Valuation τ sig (Elt F)) : after hostOps0_8 V (Proc.devRef .tc main_arg1) = V (Proc.devRef .tc main_arg1) :=
  after_of_writes_sub hostOps0_8 V hostOps0_8_writes (by decide +kernel)
theorem keep_main_arg1_hostOps0_9 (V : Valuation τ sig (Elt F)) : after hostOps0_9 V (Proc.devRef .tc main_arg1) = V (Proc.devRef .tc main_arg1) :=
  after_of_writes_sub hostOps0_9 V hostOps0_9_writes (by decide +kernel)
theorem keep_main_arg1_hostOps0_10 (V : Valuation τ sig (Elt F)) : after hostOps0_10 V (Proc.devRef .tc main_arg1) = V (Proc.devRef .tc main_arg1) :=
  after_of_writes_sub hostOps0_10 V hostOps0_10_writes (by decide +kernel)
/-- The argument `main_arg1` is written by nothing: it holds its launch contents before every condition. -/
theorem atK_main_arg1 (c : Dev nD) : ∀ k, atK m k c (Proc.devRef .tc main_arg1) = m ((c.tc : Thread nD τ).loc main_arg1)
  | 0 => by
    rw [show atK m 0 c = entryContents preI m c from rfl]
    simp only [entryContents, afterL_cons, afterL_nil]
    rw [keep_main_arg1_hostOps0]
  | k + 1 => by
    rw [show atK m (k + 1) c = afterL bodyI (after condOps (atK m k c)) from rfl]
    simp only [afterL_cons, afterL_nil]
    rw [keep_main_arg1_while0Ops0_3, keep_main_arg1_while0Ops0_2, keep_main_arg1_while0Ops0_1, keep_main_arg1_while0Ops0, keep_main_arg1_condOps, atK_main_arg1 c k]

theorem keep_main_arg2_hostOps0 (V : Valuation τ sig (Elt F)) : after hostOps0 V (Proc.devRef .tc main_arg2) = V (Proc.devRef .tc main_arg2) :=
  after_of_writes_sub hostOps0 V hostOps0_writes (by decide +kernel)
theorem keep_main_arg2_condOps (V : Valuation τ sig (Elt F)) : after condOps V (Proc.devRef .tc main_arg2) = V (Proc.devRef .tc main_arg2) :=
  after_of_writes_sub condOps V condOps_writes (by decide +kernel)
theorem keep_main_arg2_while0Ops0 (V : Valuation τ sig (Elt F)) : after while0Ops0 V (Proc.devRef .tc main_arg2) = V (Proc.devRef .tc main_arg2) :=
  after_of_writes_sub while0Ops0 V while0Ops0_writes (by decide +kernel)
theorem keep_main_arg2_while0Ops0_1 (V : Valuation τ sig (Elt F)) : after while0Ops0_1 V (Proc.devRef .tc main_arg2) = V (Proc.devRef .tc main_arg2) :=
  after_of_writes_sub while0Ops0_1 V while0Ops0_1_writes (by decide +kernel)
theorem keep_main_arg2_while0Ops0_2 (V : Valuation τ sig (Elt F)) : after while0Ops0_2 V (Proc.devRef .tc main_arg2) = V (Proc.devRef .tc main_arg2) :=
  after_of_writes_sub while0Ops0_2 V while0Ops0_2_writes (by decide +kernel)
theorem keep_main_arg2_while0Ops0_3 (V : Valuation τ sig (Elt F)) : after while0Ops0_3 V (Proc.devRef .tc main_arg2) = V (Proc.devRef .tc main_arg2) :=
  after_of_writes_sub while0Ops0_3 V while0Ops0_3_writes (by decide +kernel)
theorem keep_main_arg2_hostOps0_1 (V : Valuation τ sig (Elt F)) : after hostOps0_1 V (Proc.devRef .tc main_arg2) = V (Proc.devRef .tc main_arg2) :=
  after_of_writes_sub hostOps0_1 V hostOps0_1_writes (by decide +kernel)
theorem keep_main_arg2_hostOps0_2 (V : Valuation τ sig (Elt F)) : after hostOps0_2 V (Proc.devRef .tc main_arg2) = V (Proc.devRef .tc main_arg2) :=
  after_of_writes_sub hostOps0_2 V hostOps0_2_writes (by decide +kernel)
theorem keep_main_arg2_hostOps0_3 (V : Valuation τ sig (Elt F)) : after hostOps0_3 V (Proc.devRef .tc main_arg2) = V (Proc.devRef .tc main_arg2) :=
  after_of_writes_sub hostOps0_3 V hostOps0_3_writes (by decide +kernel)
theorem keep_main_arg2_hostOps0_4 (V : Valuation τ sig (Elt F)) : after hostOps0_4 V (Proc.devRef .tc main_arg2) = V (Proc.devRef .tc main_arg2) :=
  after_of_writes_sub hostOps0_4 V hostOps0_4_writes (by decide +kernel)
theorem keep_main_arg2_hostOps0_5 (V : Valuation τ sig (Elt F)) : after hostOps0_5 V (Proc.devRef .tc main_arg2) = V (Proc.devRef .tc main_arg2) :=
  after_of_writes_sub hostOps0_5 V hostOps0_5_writes (by decide +kernel)
theorem keep_main_arg2_hostOps0_6 (V : Valuation τ sig (Elt F)) : after hostOps0_6 V (Proc.devRef .tc main_arg2) = V (Proc.devRef .tc main_arg2) :=
  after_of_writes_sub hostOps0_6 V hostOps0_6_writes (by decide +kernel)
theorem keep_main_arg2_hostOps0_7 (V : Valuation τ sig (Elt F)) : after hostOps0_7 V (Proc.devRef .tc main_arg2) = V (Proc.devRef .tc main_arg2) :=
  after_of_writes_sub hostOps0_7 V hostOps0_7_writes (by decide +kernel)
theorem keep_main_arg2_hostOps0_8 (V : Valuation τ sig (Elt F)) : after hostOps0_8 V (Proc.devRef .tc main_arg2) = V (Proc.devRef .tc main_arg2) :=
  after_of_writes_sub hostOps0_8 V hostOps0_8_writes (by decide +kernel)
theorem keep_main_arg2_hostOps0_9 (V : Valuation τ sig (Elt F)) : after hostOps0_9 V (Proc.devRef .tc main_arg2) = V (Proc.devRef .tc main_arg2) :=
  after_of_writes_sub hostOps0_9 V hostOps0_9_writes (by decide +kernel)
theorem keep_main_arg2_hostOps0_10 (V : Valuation τ sig (Elt F)) : after hostOps0_10 V (Proc.devRef .tc main_arg2) = V (Proc.devRef .tc main_arg2) :=
  after_of_writes_sub hostOps0_10 V hostOps0_10_writes (by decide +kernel)
/-- The argument `main_arg2` is written by nothing: it holds its launch contents before every condition. -/
theorem atK_main_arg2 (c : Dev nD) : ∀ k, atK m k c (Proc.devRef .tc main_arg2) = m ((c.tc : Thread nD τ).loc main_arg2)
  | 0 => by
    rw [show atK m 0 c = entryContents preI m c from rfl]
    simp only [entryContents, afterL_cons, afterL_nil]
    rw [keep_main_arg2_hostOps0]
  | k + 1 => by
    rw [show atK m (k + 1) c = afterL bodyI (after condOps (atK m k c)) from rfl]
    simp only [afterL_cons, afterL_nil]
    rw [keep_main_arg2_while0Ops0_3, keep_main_arg2_while0Ops0_2, keep_main_arg2_while0Ops0_1, keep_main_arg2_while0Ops0, keep_main_arg2_condOps, atK_main_arg2 c k]

theorem keep_main_arg3_hostOps0 (V : Valuation τ sig (Elt F)) : after hostOps0 V (Proc.devRef .tc main_arg3) = V (Proc.devRef .tc main_arg3) :=
  after_of_writes_sub hostOps0 V hostOps0_writes (by decide +kernel)
theorem keep_main_arg3_condOps (V : Valuation τ sig (Elt F)) : after condOps V (Proc.devRef .tc main_arg3) = V (Proc.devRef .tc main_arg3) :=
  after_of_writes_sub condOps V condOps_writes (by decide +kernel)
theorem keep_main_arg3_while0Ops0 (V : Valuation τ sig (Elt F)) : after while0Ops0 V (Proc.devRef .tc main_arg3) = V (Proc.devRef .tc main_arg3) :=
  after_of_writes_sub while0Ops0 V while0Ops0_writes (by decide +kernel)
theorem keep_main_arg3_while0Ops0_1 (V : Valuation τ sig (Elt F)) : after while0Ops0_1 V (Proc.devRef .tc main_arg3) = V (Proc.devRef .tc main_arg3) :=
  after_of_writes_sub while0Ops0_1 V while0Ops0_1_writes (by decide +kernel)
theorem keep_main_arg3_while0Ops0_2 (V : Valuation τ sig (Elt F)) : after while0Ops0_2 V (Proc.devRef .tc main_arg3) = V (Proc.devRef .tc main_arg3) :=
  after_of_writes_sub while0Ops0_2 V while0Ops0_2_writes (by decide +kernel)
theorem keep_main_arg3_while0Ops0_3 (V : Valuation τ sig (Elt F)) : after while0Ops0_3 V (Proc.devRef .tc main_arg3) = V (Proc.devRef .tc main_arg3) :=
  after_of_writes_sub while0Ops0_3 V while0Ops0_3_writes (by decide +kernel)
theorem keep_main_arg3_hostOps0_1 (V : Valuation τ sig (Elt F)) : after hostOps0_1 V (Proc.devRef .tc main_arg3) = V (Proc.devRef .tc main_arg3) :=
  after_of_writes_sub hostOps0_1 V hostOps0_1_writes (by decide +kernel)
theorem keep_main_arg3_hostOps0_2 (V : Valuation τ sig (Elt F)) : after hostOps0_2 V (Proc.devRef .tc main_arg3) = V (Proc.devRef .tc main_arg3) :=
  after_of_writes_sub hostOps0_2 V hostOps0_2_writes (by decide +kernel)
theorem keep_main_arg3_hostOps0_3 (V : Valuation τ sig (Elt F)) : after hostOps0_3 V (Proc.devRef .tc main_arg3) = V (Proc.devRef .tc main_arg3) :=
  after_of_writes_sub hostOps0_3 V hostOps0_3_writes (by decide +kernel)
theorem keep_main_arg3_hostOps0_4 (V : Valuation τ sig (Elt F)) : after hostOps0_4 V (Proc.devRef .tc main_arg3) = V (Proc.devRef .tc main_arg3) :=
  after_of_writes_sub hostOps0_4 V hostOps0_4_writes (by decide +kernel)
theorem keep_main_arg3_hostOps0_5 (V : Valuation τ sig (Elt F)) : after hostOps0_5 V (Proc.devRef .tc main_arg3) = V (Proc.devRef .tc main_arg3) :=
  after_of_writes_sub hostOps0_5 V hostOps0_5_writes (by decide +kernel)
theorem keep_main_arg3_hostOps0_6 (V : Valuation τ sig (Elt F)) : after hostOps0_6 V (Proc.devRef .tc main_arg3) = V (Proc.devRef .tc main_arg3) :=
  after_of_writes_sub hostOps0_6 V hostOps0_6_writes (by decide +kernel)
theorem keep_main_arg3_hostOps0_7 (V : Valuation τ sig (Elt F)) : after hostOps0_7 V (Proc.devRef .tc main_arg3) = V (Proc.devRef .tc main_arg3) :=
  after_of_writes_sub hostOps0_7 V hostOps0_7_writes (by decide +kernel)
theorem keep_main_arg3_hostOps0_8 (V : Valuation τ sig (Elt F)) : after hostOps0_8 V (Proc.devRef .tc main_arg3) = V (Proc.devRef .tc main_arg3) :=
  after_of_writes_sub hostOps0_8 V hostOps0_8_writes (by decide +kernel)
theorem keep_main_arg3_hostOps0_9 (V : Valuation τ sig (Elt F)) : after hostOps0_9 V (Proc.devRef .tc main_arg3) = V (Proc.devRef .tc main_arg3) :=
  after_of_writes_sub hostOps0_9 V hostOps0_9_writes (by decide +kernel)
theorem keep_main_arg3_hostOps0_10 (V : Valuation τ sig (Elt F)) : after hostOps0_10 V (Proc.devRef .tc main_arg3) = V (Proc.devRef .tc main_arg3) :=
  after_of_writes_sub hostOps0_10 V hostOps0_10_writes (by decide +kernel)
/-- The argument `main_arg3` is written by nothing: it holds its launch contents before every condition. -/
theorem atK_main_arg3 (c : Dev nD) : ∀ k, atK m k c (Proc.devRef .tc main_arg3) = m ((c.tc : Thread nD τ).loc main_arg3)
  | 0 => by
    rw [show atK m 0 c = entryContents preI m c from rfl]
    simp only [entryContents, afterL_cons, afterL_nil]
    rw [keep_main_arg3_hostOps0]
  | k + 1 => by
    rw [show atK m (k + 1) c = afterL bodyI (after condOps (atK m k c)) from rfl]
    simp only [afterL_cons, afterL_nil]
    rw [keep_main_arg3_while0Ops0_3, keep_main_arg3_while0Ops0_2, keep_main_arg3_while0Ops0_1, keep_main_arg3_while0Ops0, keep_main_arg3_condOps, atK_main_arg3 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_10, keep_main_arg0_hostOps0_9, keep_main_arg0_hostOps0_8, keep_main_arg0_hostOps0_7, keep_main_arg0_hostOps0_6, keep_main_arg0_hostOps0_5, keep_main_arg0_hostOps0_4, keep_main_arg0_hostOps0_3, keep_main_arg0_hostOps0_2, keep_main_arg0_hostOps0_1]
/-- The operations after the loop do not write `main_arg1`. -/
theorem post_keeps_main_arg1 (V0 : Valuation τ sig (Elt F)) : afterL postI V0 (Proc.devRef .tc main_arg1) = V0 (Proc.devRef .tc main_arg1) := by
  simp only [postI, afterL_cons, afterL_nil]
  rw [keep_main_arg1_hostOps0_10, keep_main_arg1_hostOps0_9, keep_main_arg1_hostOps0_8, keep_main_arg1_hostOps0_7, keep_main_arg1_hostOps0_6, keep_main_arg1_hostOps0_5, keep_main_arg1_hostOps0_4, keep_main_arg1_hostOps0_3, keep_main_arg1_hostOps0_2, keep_main_arg1_hostOps0_1]
/-- The operations after the loop do not write `main_arg2`. -/
theorem post_keeps_main_arg2 (V0 : Valuation τ sig (Elt F)) : afterL postI V0 (Proc.devRef .tc main_arg2) = V0 (Proc.devRef .tc main_arg2) := by
  simp only [postI, afterL_cons, afterL_nil]
  rw [keep_main_arg2_hostOps0_10, keep_main_arg2_hostOps0_9, keep_main_arg2_hostOps0_8, keep_main_arg2_hostOps0_7, keep_main_arg2_hostOps0_6, keep_main_arg2_hostOps0_5, keep_main_arg2_hostOps0_4, keep_main_arg2_hostOps0_3, keep_main_arg2_hostOps0_2, keep_main_arg2_hostOps0_1]
/-- The operations after the loop do not write `main_arg3`. -/
theorem post_keeps_main_arg3 (V0 : Valuation τ sig (Elt F)) : afterL postI V0 (Proc.devRef .tc main_arg3) = V0 (Proc.devRef .tc main_arg3) := by
  simp only [postI, afterL_cons, afterL_nil]
  rw [keep_main_arg3_hostOps0_10, keep_main_arg3_hostOps0_9, keep_main_arg3_hostOps0_8, keep_main_arg3_hostOps0_7, keep_main_arg3_hostOps0_6, keep_main_arg3_hostOps0_5, keep_main_arg3_hostOps0_4, keep_main_arg3_hostOps0_3, keep_main_arg3_hostOps0_2, keep_main_arg3_hostOps0_1]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg0 c k
/-- `STEP` iterated on the loop's entry leaves the argument `main_arg1` as the launch has it. -/
theorem iter_main_arg1 (c : Dev nD) : ∀ k, (STEP^[k] (entryContents preI m c)) (Proc.devRef .tc main_arg1) = m ((c.tc : Thread nD τ).loc main_arg1)
  | 0 => by rw [Function.iterate_zero, id_eq, ← atTrip_zero condOps bodyI (entryContents preI m)]; exact atK_main_arg1 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg1 c k
/-- `STEP` iterated on the loop's entry leaves the argument `main_arg2` as the launch has it. -/
theorem iter_main_arg2 (c : Dev nD) : ∀ k, (STEP^[k] (entryContents preI m c)) (Proc.devRef .tc main_arg2) = m ((c.tc : Thread nD τ).loc main_arg2)
  | 0 => by rw [Function.iterate_zero, id_eq, ← atTrip_zero condOps bodyI (entryContents preI m)]; exact atK_main_arg2 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg2 c k
/-- `STEP` iterated on the loop's entry leaves the argument `main_arg3` as the launch has it. -/
theorem iter_main_arg3 (c : Dev nD) : ∀ k, (STEP^[k] (entryContents preI m c)) (Proc.devRef .tc main_arg3) = m ((c.tc : Thread nD τ).loc main_arg3)
  | 0 => by rw [Function.iterate_zero, id_eq, ← atTrip_zero condOps bodyI (entryContents preI m)]; exact atK_main_arg3 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; rw [Function.update_of_ne (devRef_ne_of_ne (by decide))]; exact iter_main_arg3 c k
end Cert.ReferenceIdeal.Value

end
-- ==== Proof.Reference.Frame.lean ====
/- The reference runs and leaves its arguments as they were. -/
module

public import proofs.«01_k».proof.Proof.Reference.Trips

@[expose] public section

noncomputable section

namespace Cert.ReferenceIdeal.Value

open Cert.ReferenceIdeal Cert.ReferenceIdeal.Gen
open Idealize.ShloMosaic Idealize.ShloMosaic.TcCoe Idealize.ShloMosaic.Tactic
open Idealize.SL.Sem Idealize.ShloMosaic.StableHlo

variable {F : FTy → Type} [FloatOps F]
variable (m : (ℓ : Loc nD τ sig) → Buf (Elt F) ℓ) (ρ : Dev nD → PrngReg)

/-- The contents the operations after the loop start from: the last run of the loop's condition on the contents
    1024 trips leave. -/
abbrev exitContents (c : Dev nD) : Valuation τ sig (Elt F) := after condOps (atK m 1024 c)

/-- Every execution of the reference ends with both results as the operations after the loop make them, and every
    argument unchanged. -/
theorem run_results : θ_run (defs (F := F)) (onTc (τ := τ) (main (F := F))) ⟨m, fun _ => 0, ρ⟩ fun r => ∀ c : Dev nD,
      (r.2.mem ((c.tc : Thread nD τ).loc main_v6) = afterL postI (exitContents m c) (Proc.devRef .tc main_v6)
      ∧ r.2.mem ((c.tc : Thread nD τ).loc main_v74) = afterL postI (exitContents m c) (Proc.devRef .tc main_v74))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨⟨h c main_v6 rfl, h c main_v74 rfl⟩,
      (h c main_arg0 rfl).trans ((post_keeps_main_arg0 _).trans ((keep_main_arg0_condOps _).trans (atK_main_arg0 m c 1024))),
      (h c main_arg1 rfl).trans ((post_keeps_main_arg1 _).trans ((keep_main_arg1_condOps _).trans (atK_main_arg1 m c 1024))),
      (h c main_arg2 rfl).trans ((post_keeps_main_arg2 _).trans ((keep_main_arg2_condOps _).trans (atK_main_arg2 m c 1024))),
      (h c main_arg3 rfl).trans ((post_keeps_main_arg3 _).trans ((keep_main_arg3_condOps _).trans (atK_main_arg3 m c 1024)))⟩) (run_fold m ρ)

end Cert.ReferenceIdeal.Value

end
-- ==== Proof.Reference.Reads.lean ====
module

public import proofs.«01_k».proof.ReferenceIdeal
public import proofs.«01_k».proof.Proof.Gen.ReferenceIdeal
public import Idealize.ShloMosaic.Lib.Pointwise
public import Idealize.ShloMosaic.Lib.WordCmp
public import Idealize.ShloMosaic.Lib.Routing.OpsPair
public import Idealize.ShloMosaic.Lib.Routing.OpsSet

/-!
What the reference's table reads and writes return at one entry, when the row number they are given is in range:
the two ways it takes points out of a table by row, and the column its loop writes.
-/

@[expose] public section

noncomputable section

namespace Cert.ReferenceIdeal.Value

open Cert.ReferenceIdeal Cert.ReferenceIdeal.Gen
open Idealize.ShloMosaic Idealize.ShloMosaic.Routing

/-- A row number below 2³¹, kept as a word, read as an integer is itself. -/
theorem toInt_row {n : ℕ} (h : n < 2 ^ 31) : (BitVec.ofNat 32 n).toInt = (n : ℤ) :=
  StableHlo.Predicate.toInt_ofNat_small _ (by omega)

/-- One point per cloud: coordinate `k` of cloud `b`'s entry is that of the point its row number names. -/
theorem take_one {α : Type} (x : S4x8192x3.Idx → α) (idx : IVec S4x1x1 32) (b : Fin 4) (k : Fin 3) (n : Fin 8192)
    (h : idx (ix3 b 0 0) = BitVec.ofNat 32 n.val) :
    Host.gather gather_S4x8192x3_S4x1x1_S4x1x3_2_1_0_0_1_2_113 x idx (ix3 b 0 k) = x (ix3 b n k) := by
  unfold Host.gather
  refine congrArg x (funext fun a => Fin.ext ?_)
  match a with
  | ⟨0, _⟩ => show 0 + b.val + 0 = b.val; omega
  | ⟨1, _⟩ =>
    have hs : gather_S4x8192x3_S4x1x1_S4x1x3_2_1_0_0_1_2_113.siIdx (ix3 b 0 k) ⟨0, by decide⟩ = ix3 b 0 0 := by
      funext c
      match c with
      | ⟨0, _⟩ => rfl
      | ⟨1, _⟩ => rfl
      | ⟨2, _⟩ => rfl
    show min (idx (gather_S4x8192x3_S4x1x1_S4x1x3_2_1_0_0_1_2_113.siIdx (ix3 b 0 k) ⟨0, by decide⟩)).toInt.toNat 8191 + 0 + 0 = n.val
    rw [hs, h, toInt_row (by omega)]
    omega
  | ⟨2, _⟩ => show 0 + 0 + k.val = k.val; omega

/-- One point per centroid: coordinate `k` of entry `s` of cloud `b` is that of the point the row number there names. -/
theorem take_each {α : Type} (x : S4x8192x3.Idx → α) (idx : IVec S4x1024x1 32) (b : Fin 4) (s : Fin 1024) (k : Fin 3)
    (n : Fin 8192) (h : idx (ix3 b s 0) = BitVec.ofNat 32 n.val) :
    Host.gather gather_S4x8192x3_S4x1024x1_S4x1024x3_2_1_0_0_1_2_113 x idx (ix3 b s k) = x (ix3 b n k) := by
  unfold Host.gather
  refine congrArg x (funext fun a => Fin.ext ?_)
  match a with
  | ⟨0, _⟩ => show 0 + b.val + 0 = b.val; omega
  | ⟨1, _⟩ =>
    have hs : gather_S4x8192x3_S4x1024x1_S4x1024x3_2_1_0_0_1_2_113.siIdx (ix3 b s k) ⟨0, by decide⟩ = ix3 b s 0 := by
      funext c
      match c with
      | ⟨0, _⟩ => rfl
      | ⟨1, _⟩ => rfl
      | ⟨2, _⟩ => rfl
    show min (idx (gather_S4x8192x3_S4x1024x1_S4x1024x3_2_1_0_0_1_2_113.siIdx (ix3 b s k) ⟨0, by decide⟩)).toInt.toNat 8191 + 0 + 0
      = n.val
    rw [hs, h, toInt_row (by omega)]
    omega
  | ⟨2, _⟩ => show 0 + 0 + k.val = k.val; omega

/-- Thirty-two points per centroid: coordinate `k` of entry `(s, j)` is that of the point the cloud number and the row
    number there name. -/
theorem take_points {α : Type} (x : S4x8192x3.Idx → α) (idx : IVec S4x1024x32x2 32) (b : Fin 4) (s : Fin 1024) (j : Fin 32)
    (k : Fin 3) (n : Fin 8192) (h0 : idx (ix4 b s j 0) = BitVec.ofNat 32 b.val) (h1 : idx (ix4 b s j 1) = BitVec.ofNat 32 n.val) :
    Host.gather gather_S4x8192x3_S4x1024x32x2_S4x1024x32x3_3_01_n_n_01_3_113 x idx (ix4 b s j k) = x (ix3 b n k) := by
  have hs (q : Fin 2) : gather_S4x8192x3_S4x1024x32x2_S4x1024x32x3_3_01_n_n_01_3_113.siIdx (ix4 b s j k) q = ix4 b s j q := by
    funext c
    match c with
    | ⟨0, _⟩ => rfl
    | ⟨1, _⟩ => rfl
    | ⟨2, _⟩ => rfl
    | ⟨3, _⟩ => rfl
  unfold Host.gather
  refine congrArg x (funext fun a => Fin.ext ?_)
  match a with
  | ⟨0, _⟩ =>
    show min (idx (gather_S4x8192x3_S4x1024x32x2_S4x1024x32x3_3_01_n_n_01_3_113.siIdx (ix4 b s j k) (0 : Fin 2))).toInt.toNat 3 + 0 + 0
      = b.val
    rw [hs, h0, toInt_row (by omega)]
    omega
  | ⟨1, _⟩ =>
    show min (idx (gather_S4x8192x3_S4x1024x32x2_S4x1024x32x3_3_01_n_n_01_3_113.siIdx (ix4 b s j k) (1 : Fin 2))).toInt.toNat 8191 + 0 + 0
      = n.val
    rw [hs, h1, toInt_row (by omega)]
    omega
  | ⟨2, _⟩ => show 0 + 0 + k.val = k.val; omega

/-- Thirty-two feature rows per centroid, likewise. -/
theorem take_features {α : Type} (x : S4x8192x64.Idx → α) (idx : IVec S4x1024x32x2 32) (b : Fin 4) (s : Fin 1024) (j : Fin 32)
    (k : Fin 64) (n : Fin 8192) (h0 : idx (ix4 b s j 0) = BitVec.ofNat 32 b.val) (h1 : idx (ix4 b s j 1) = BitVec.ofNat 32 n.val) :
    Host.gather gather_S4x8192x64_S4x1024x32x2_S4x1024x32x64_3_01_n_n_01_3_1164 x idx (ix4 b s j k) = x (ix3 b n k) := by
  have hs (q : Fin 2) : gather_S4x8192x64_S4x1024x32x2_S4x1024x32x64_3_01_n_n_01_3_1164.siIdx (ix4 b s j k) q = ix4 b s j q := by
    funext c
    match c with
    | ⟨0, _⟩ => rfl
    | ⟨1, _⟩ => rfl
    | ⟨2, _⟩ => rfl
    | ⟨3, _⟩ => rfl
  unfold Host.gather
  refine congrArg x (funext fun a => Fin.ext ?_)
  match a with
  | ⟨0, _⟩ =>
    show min (idx (gather_S4x8192x64_S4x1024x32x2_S4x1024x32x64_3_01_n_n_01_3_1164.siIdx (ix4 b s j k) (0 : Fin 2))).toInt.toNat 3 + 0 + 0
      = b.val
    rw [hs, h0, toInt_row (by omega)]
    omega
  | ⟨1, _⟩ =>
    show min (idx (gather_S4x8192x64_S4x1024x32x2_S4x1024x32x64_3_01_n_n_01_3_1164.siIdx (ix4 b s j k) (1 : Fin 2))).toInt.toNat 8191
      + 0 + 0 = n.val
    rw [hs, h1, toInt_row (by omega)]
    omega
  | ⟨2, _⟩ => show 0 + 0 + k.val = k.val; omega

/-- The update of cloud `b` lands at `(b', s)` exactly when `b = b'` and the column number given is `s`. -/
theorem lands_iff (idx : IVec S1 32) (n : ℕ) (hn : n < 1024) (h : idx (ix1 0) = BitVec.ofNat 32 n) (b b' : Fin 4)
    (s : Fin 1024) :
    scatter_S4x1024_S1_S4_0_1_1_0.resultIdx? (ix1 b) idx = some (ix2 b' s) ↔ b = b' ∧ n = s.val := by
  rw [resultIdx?_eq_some]
  have hs : scatter_S4x1024_S1_S4_0_1_1_0.siIdx (ix1 b) ⟨0, by decide⟩ = ix1 0 := by
    funext c
    match c with
    | ⟨0, _⟩ => rfl
  have e0 : scatter_S4x1024_S1_S4_0_1_1_0.start (ix1 b) idx 0 + (scatter_S4x1024_S1_S4_0_1_1_0.window (ix1 b) 0 : ℤ)
      = (b.val : ℤ) := by
    show (0 : ℤ) + (b.val : ℤ) = _
    omega
  have e1 : scatter_S4x1024_S1_S4_0_1_1_0.start (ix1 b) idx 1 + (scatter_S4x1024_S1_S4_0_1_1_0.window (ix1 b) 1 : ℤ)
      = (n : ℤ) := by
    show (idx (scatter_S4x1024_S1_S4_0_1_1_0.siIdx (ix1 b) ⟨0, by decide⟩)).toInt + (0 : ℤ) = _
    rw [hs, h, toInt_row (by omega)]
    omega
  constructor
  · intro q
    have q0 := (e0.symm.trans (q 0) : (b.val : ℤ) = (b'.val : ℤ))
    have q1 := (e1.symm.trans (q 1) : (n : ℤ) = (s.val : ℤ))
    exact ⟨Fin.ext (by omega), by omega⟩
  · rintro ⟨rfl, rfl⟩ a
    match a with
    | ⟨0, _⟩ => exact e0
    | ⟨1, _⟩ => exact e1

/-- The loop's write: column `n` of the table becomes the given numbers, every other column stays. -/
theorem write_column {α : Type} (x : S4x1024.Idx → α) (idx : IVec S1 32) (upd : S4.Idx → α) (n : ℕ) (hn : n < 1024)
    (h : idx (ix1 0) = BitVec.ofNat 32 n) (b : Fin 4) (s : Fin 1024) :
    Host.scatter scatter_S4x1024_S1_S4_0_1_1_0 (fun _ v => v) x idx upd (ix2 b s)
      = if n = s.val then upd (ix1 b) else x (ix2 b s) := by
  split
  · next hs =>
    refine scatter_set_hit _ x idx upd (ix2 b s) _ (fun k hk => ?_) (ix1 b) ((lands_iff idx n hn h b b s).2 ⟨rfl, hs⟩)
    idx_vars k
    rw [((lands_iff idx n hn h k0 b s).1 hk).1]
  · next hs =>
    refine scatter_set_miss _ x idx upd (ix2 b s) fun k hk => ?_
    idx_vars k
    exact hs ((lands_iff idx n hn h k0 b s).1 hk).2

/-- A test over one entry alone is that entry's test. -/
theorem every_one (f : Fin 1 → BitVec 1) : Finset.fold IntOp.andi 1#1 f Finset.univ = f 0 := by
  rw [Finset.univ_unique, Finset.fold_singleton]
  show f 0 &&& 1#1 = f 0
  exact BitVec.and_allOnes

/-- A row number in range passes the test that it lies between `0` and `8191`, and is not moved by the wrapping of
    negative numbers. -/
theorem in_range (n : Fin 8192) :
    IntOp.andi (IntOp.cmpi CmpIPredicate.sge (BitVec.ofNat 32 n.val) 0#32)
      (IntOp.cmpi CmpIPredicate.sle (BitVec.ofNat 32 n.val) 8191#32) = 1#1 := by
  rw [show (0#32 : BitVec 32) = BitVec.ofNat 32 0 from rfl, show (8191#32 : BitVec 32) = BitVec.ofNat 32 8191 from rfl,
    WordCmp.cmpi_sge_ofNat (by omega) (by omega), WordCmp.cmpi_sle_ofNat (by omega) (by omega),
    decide_eq_true (Nat.zero_le _), decide_eq_true (by omega : n.val ≤ 8191)]
  rfl

/-- A number below 2³¹ is not negative: the wrapping of negative numbers returns it. -/
theorem wrapped (n : ℕ) (hn : n < 2 ^ 31) (z : BitVec 32) :
    Scalar.select (IntOp.cmpi CmpIPredicate.slt (BitVec.ofNat 32 n) 0#32) z (BitVec.ofNat 32 n) = BitVec.ofNat 32 n := by
  rw [show (0#32 : BitVec 32) = BitVec.ofNat 32 0 from rfl, WordCmp.cmpi_slt_ofNat (by omega) (by omega),
    decide_eq_false (Nat.not_lt_zero _)]
  rfl

end Cert.ReferenceIdeal.Value
-- ==== Proof.Math.Sampling.lean ====
/- Farthest point sampling, written once over extended reals: what both programs compute in their loops. -/
module

public import Idealize.ShloMosaic.Lib.Pointwise

@[expose] public section

noncomputable section

namespace Cert.Sampling

open Idealize.ShloMosaic

/-- A cloud of 8192 points with three coordinates each. -/
abbrev Cloud := Fin 8192 → Fin 3 → EReal

/-- The squared distance of two points. -/
def sqDist (p q : Fin 3 → EReal) : EReal := ∑ k, (p k - q k) * (p k - q k)

/-- The distances to the set of taken points, once point `f` is taken too. -/
def closer (x : Cloud) (d : Fin 8192 → EReal) (f : Fin 8192) : Fin 8192 → EReal :=
  fun n => min (d n) (sqDist (x n) (x f))

/-- `n` is the first index at which `d` is largest. -/
def IsFirstMax (d : Fin 8192 → EReal) (n : Fin 8192) : Prop := (∀ m, d m ≤ d n) ∧ ∀ m < n, d m < d n

/-- There is a first index at which `d` is largest. -/
theorem exists_isFirstMax (d : Fin 8192 → EReal) : ∃ n, IsFirstMax d n := by
  obtain ⟨p, -, hp⟩ := Finset.exists_max_image (Finset.univ : Finset (Fin 8192)) d ⟨0, Finset.mem_univ _⟩
  have hne : (Finset.univ.filter fun n => ∀ m, d m ≤ d n).Nonempty :=
    ⟨p, Finset.mem_filter.2 ⟨Finset.mem_univ _, fun m => hp m (Finset.mem_univ _)⟩⟩
  have hmin := Finset.min'_mem _ hne
  refine ⟨_, (Finset.mem_filter.1 hmin).2, fun m hm => ?_⟩
  by_contra hlt
  have hm' : m ∈ Finset.univ.filter fun n => ∀ m, d m ≤ d n :=
    Finset.mem_filter.2 ⟨Finset.mem_univ _, fun k => ((Finset.mem_filter.1 hmin).2 k).trans (not_lt.1 hlt)⟩
  exact absurd hm (not_lt.2 (Finset.min'_le _ m hm'))

/-- The first index at which `d` is largest. -/
def firstMax (d : Fin 8192 → EReal) : Fin 8192 := Classical.choose (exists_isFirstMax d)

theorem firstMax_spec (d : Fin 8192 → EReal) : IsFirstMax d (firstMax d) := Classical.choose_spec (exists_isFirstMax d)

/-- Only one index is the first at which `d` is largest. -/
theorem IsFirstMax.unique {d : Fin 8192 → EReal} {n m : Fin 8192} (hn : IsFirstMax d n) (hm : IsFirstMax d m) : n = m := by
  rcases lt_trichotomy n m with h | h | h
  · exact absurd (hm.2 n h) (not_lt.2 (hn.1 m))
  · exact h
  · exact absurd (hn.2 m h) (not_lt.2 (hm.1 n))

theorem firstMax_eq {d : Fin 8192 → EReal} {n : Fin 8192} (h : IsFirstMax d n) : firstMax d = n :=
  (firstMax_spec d).unique h

/-- The distances and the point to take, after `s` points are taken: at the start every distance is the printed
    `1e10` and the point is the first one. -/
def state (x : Cloud) : ℕ → (Fin 8192 → EReal) × Fin 8192
  | 0 => (fun _ => Ideal.ofBits .f32 0x501502F9#32, 0)
  | s + 1 => (closer x (state x s).1 (state x s).2, firstMax (closer x (state x s).1 (state x s).2))

/-- The index of the `s`-th point taken. -/
def sampled (x : Cloud) (s : ℕ) : Fin 8192 := (state x s).2

/-- The point at row `r` and lane `l` of a cloud laid out in 64 rows of 128. -/
def flat (r : Fin 64) (l : Fin 128) : Fin 8192 := ⟨r.val * 128 + l.val, by omega⟩

/-- The row and the lane of a point. -/
def rowOf (n : Fin 8192) : Fin 64 := ⟨n.val / 128, by omega⟩
def laneOf (n : Fin 8192) : Fin 128 := ⟨n.val % 128, Nat.mod_lt _ (by norm_num)⟩

@[simp] theorem flat_rowOf_laneOf (n : Fin 8192) : flat (rowOf n) (laneOf n) = n :=
  Fin.ext (by simp only [flat, rowOf, laneOf]; omega)

theorem flat_inj {r r' : Fin 64} {l l' : Fin 128} (h : flat r l = flat r' l') : r = r' ∧ l = l' := by
  have h := congrArg Fin.val h
  simp only [flat] at h
  exact ⟨Fin.ext (by omega), Fin.ext (by omega)⟩

/-- Minus infinity's pattern is the least extended real. -/
theorem ofBits_minus_inf : Ideal.ofBits .f32 0xFF800000#32 = ⊥ := by
  simp [Ideal.ofBits, Ideal.ieee]

/-- The smaller of two signed words is the word whose value is the smaller. -/
theorem toInt_minsi (a b : BitVec 32) : (IntOp.minsi a b).toInt = min a.toInt b.toInt := by
  unfold IntOp.minsi
  by_cases h : a.toInt < b.toInt
  · rw [if_pos (by simpa [BitVec.slt] using h), min_eq_left h.le]
  · rw [if_neg (by simpa [BitVec.slt] using h), min_eq_right (not_lt.1 h)]

/-- The smallest of a family of signed words is the one that is below them all. -/
theorem fold_minsi_eq {ι : Type} [Fintype ι] (f : ι → BitVec 32) (b w : BitVec 32) (hb : w.toInt ≤ b.toInt)
    (hle : ∀ i, w.toInt ≤ (f i).toInt) {i : ι} (hi : f i = w) : Finset.univ.fold IntOp.minsi b f = w := by
  apply BitVec.eq_of_toInt_eq
  rw [← Finset.fold_hom (op' := min) (m := BitVec.toInt) toInt_minsi]
  apply le_antisymm
  · rw [Finset.fold_min_le]
    exact Or.inr ⟨i, Finset.mem_univ _, by rw [hi]⟩
  · rw [Finset.le_fold_min]
    exact ⟨hb, fun j _ => hle j⟩

/-- A value is the largest of a family if it is one of them and none is larger. -/
theorem eq_fold_max_iff {ι : Type} [Fintype ι] (f : ι → EReal) (i : ι) :
    f i = Finset.univ.fold max ⊥ f ↔ ∀ j, f j ≤ f i := by
  constructor
  · intro h j
    rw [h]
    exact Finset.le_fold_max _ |>.2 (Or.inr ⟨j, Finset.mem_univ _, le_rfl⟩)
  · intro h
    apply le_antisymm
    · exact Finset.le_fold_max _ |>.2 (Or.inr ⟨i, Finset.mem_univ _, le_rfl⟩)
    · exact Finset.fold_max_le _ |>.2 ⟨bot_le, fun j _ => h j⟩

end Cert.Sampling
-- ==== Proof.Reference.TopOne.lean ====
module

public import proofs.«01_k».proof.Proof.Reference.Reads
public import proofs.«01_k».proof.Proof.Math.Sampling
public import Idealize.ShloMosaic.Lib.SortFacts

/-!
The position of the greatest entry of a row, as the reference takes it: it sorts the row's positions from the greatest
entry down, positions of equal entries staying in order, and takes the first.
-/

@[expose] public section

noncomputable section

namespace Cert.ReferenceIdeal.Value

open Cert.ReferenceIdeal Cert.ReferenceIdeal.Gen
open Idealize.ShloMosaic Cert.Sampling

/-- Position `b` comes before position `c` in the order "greater entry first, equal entries by position". -/
def Ahead {n : ℕ} (d : Fin n → EReal) (b c : Fin n) : Prop := d c < d b ∨ d c = d b ∧ b < c

/-- Inserting a position smaller than all of an ordered list's keeps the list ordered. -/
theorem insert_ahead {n : ℕ} (d : Fin n → EReal) (a : Fin n) (l : List (Fin n)) (ha : ∀ c ∈ l, a < c)
    (hl : l.Pairwise (Ahead d)) : (insertBefore (fun k k' => decide (d k' < d k)) a l).Pairwise (Ahead d) := by
  induction l with
  | nil => exact List.pairwise_singleton _ _
  | cons b l ih =>
    rw [List.pairwise_cons] at hl
    unfold insertBefore
    split
    · next hba =>
      rw [List.pairwise_cons]
      refine ⟨fun c hc => ?_, ih (fun c hc => ha c (List.mem_cons_of_mem b hc)) hl.2⟩
      rcases List.mem_cons.1 ((perm_insertBefore _ a l).mem_iff.1 hc) with rfl | h
      · exact Or.inl (of_decide_eq_true hba)
      · exact hl.1 c h
    · next hba =>
      have hle : d b ≤ d a := not_lt.1 fun h => hba (decide_eq_true h)
      rw [List.pairwise_cons]
      refine ⟨fun c hc => ?_, List.pairwise_cons.2 hl⟩
      have hc' : d c ≤ d b := by
        rcases List.mem_cons.1 hc with rfl | h
        · exact le_rfl
        · rcases hl.1 c h with h | h
          · exact h.le
          · exact h.1.le
      rcases (hc'.trans hle).lt_or_eq with h | h
      · exact Or.inl h
      · exact Or.inr ⟨h, ha c hc⟩

/-- The sort of positions listed in order leaves them greater entry first, equal entries by position. -/
theorem sorted_ahead {n : ℕ} (d : Fin n → EReal) (l : List (Fin n)) (hl : l.Pairwise (· < ·)) :
    (stableSort (fun k k' => decide (d k' < d k)) l).Pairwise (Ahead d) := by
  induction l with
  | nil => exact List.Pairwise.nil
  | cons a l ih =>
    rw [List.pairwise_cons] at hl
    unfold stableSort
    exact insert_ahead d a _ (fun c hc => hl.1 c ((perm_stableSort _ l).mem_iff.1 hc)) (ih hl.2)

/-- Two places of the sorted positions, the earlier one first. -/
theorem sorted_apart {n : ℕ} (d : Fin n → EReal) (i j : Fin n) (h : i < j) :
    Ahead d (sortedFrom (fun k k' => decide (d k' < d k)) i) (sortedFrom (fun k k' => decide (d k' < d k)) j) := by
  have hp : (sortPositions n fun k k' => decide (d k' < d k)).Pairwise (Ahead d) :=
    sorted_ahead d _ (List.pairwise_lt_finRange n)
  exact List.pairwise_iff_get.1 hp (Fin.cast (length_sortPositions _ _).symm i) (Fin.cast (length_sortPositions _ _).symm j) h

/-- The first position of the sort is that of the row's first greatest entry. -/
theorem first_of_sort (d : Fin 8192 → EReal) :
    sortedFrom (fun k k' => decide (d k' < d k)) 0 = firstMax d := by
  symm
  apply firstMax_eq
  have hall (k : Fin 8192) : k = sortedFrom (fun k k' => decide (d k' < d k)) 0
      ∨ Ahead d (sortedFrom (fun k k' => decide (d k' < d k)) 0) k := by
    obtain ⟨i, rfl⟩ := sortedFrom_surjective (fun k k' => decide (d k' < d k)) k
    rcases eq_or_ne i 0 with rfl | hi
    · exact Or.inl rfl
    · right
      exact sorted_apart d 0 i (Fin.pos_of_ne_zero hi)
  refine ⟨fun k => ?_, fun k hk => ?_⟩
  · rcases hall k with h | h | h
    · exact (congrArg d h).le
    · exact h.le
    · exact h.1.le
  · rcases hall k with h | h | h
    · exact absurd hk (h ▸ lt_irrefl k)
    · exact h
    · exact absurd hk (lt_asymm h.2)

/-- A place of the second of two tables sorted together along their rows. -/
theorem sorted_second {m n : ℕ} {α β : Type} (cmp : α × β → α × β → BitVec 1) (x : (⟨2, ![m, n]⟩ : Shape).Idx → α)
    (y : (⟨2, ![m, n]⟩ : Shape).Idx → β) (b : Fin m) (c : Fin n) :
    (Host.sort2 ⟨2, ![m, n]⟩ 1 cmp x y).2 (ix2 b c) = y (ix2 b (sortedFrom (fun k k' =>
      cmp (x (ix2 b k), y (ix2 b k)) (x (ix2 b k'), y (ix2 b k')) == 1#1) c)) := by
  have hs (k : Fin n) : (ix2 b c : (⟨2, ![m, n]⟩ : Shape).Idx).along 1 k = ix2 b k := by
    funext q
    match q with
    | ⟨0, _⟩ => rfl
    | ⟨1, _⟩ => rfl
  unfold Host.sort2
  rw [dif_pos (by decide : 1 < 2)]
  show y ((ix2 b c : (⟨2, ![m, n]⟩ : Shape).Idx).along 1 (sortedFrom (fun k k' : Fin n =>
    cmp (x ((ix2 b c : (⟨2, ![m, n]⟩ : Shape).Idx).along 1 k), y ((ix2 b c : (⟨2, ![m, n]⟩ : Shape).Idx).along 1 k))
      (x ((ix2 b c : (⟨2, ![m, n]⟩ : Shape).Idx).along 1 k'), y ((ix2 b c : (⟨2, ![m, n]⟩ : Shape).Idx).along 1 k')) == 1#1) c)) = _
  refine (congrArg y (hs _)).trans ?_
  simp only [hs]
  rfl

/-- The row number the reference's loop takes next: that of the first greatest distance of cloud `b`. -/
theorem top_one (x : FVec Ideal S4x8192 .f32) (b : Fin 4) :
    (Host.topK S4x1 1 (FloatOps.cmpfTotal .gt) x sliceFits_S4x8192_S4x1).2 (ix2 b 0)
      = BitVec.ofNat 32 (firstMax fun n => x (ix2 b n)).val := by
  have hc (k k' : Fin 8192) : (FloatOps.cmpfTotal (F := Ideal) (φ := .f32) .gt (x (ix2 b k)) (x (ix2 b k')) == 1#1)
      = decide (x (ix2 b k') < x (ix2 b k)) := by
    show (BitVec.ofBool (decide (x (ix2 b k') < x (ix2 b k))) == 1#1) = _
    by_cases h : x (ix2 b k') < x (ix2 b k) <;> simp [h]
  rw [← first_of_sort]
  simp only [← hc]
  have hi : (fun i : S4x8192.Idx => if hd : 1 < S4x8192.rank then iotaInDim S4x8192 32 ⟨1, hd⟩ i else 0#32)
      = iotaInDim S4x8192 32 1 := funext fun i => dif_pos (by decide)
  unfold Host.topK
  rw [hi]
  pointwise []
  rw [sorted_second]
  rfl

end Cert.ReferenceIdeal.Value
-- ==== Proof.Math.Count.lean ====
/- Counting the marked positions in a window that ends at a given position, and the count over a window of twice
   the length. -/
module

public import Mathlib.Data.Finset.Card
public import Mathlib.Order.Interval.Finset.Nat
public import Mathlib.Tactic.Linarith

@[expose] public section

noncomputable section

namespace Cert.Count

open Classical in
/-- How many of the `L` positions that end at position `n` are marked by `p`. -/
def windowed (p : ℕ → Prop) (L n : ℕ) : ℕ := ((Finset.range (n + 1)).filter fun m => n < m + L ∧ p m).card

open Classical in
/-- How many of the positions up to `n`, itself included, are marked by `p`. -/
def upTo (p : ℕ → Prop) (n : ℕ) : ℕ := ((Finset.range (n + 1)).filter p).card

open Classical in
/-- A window of one position holds its last position. -/
theorem windowed_one (p : ℕ → Prop) (n : ℕ) : windowed p 1 n = if p n then 1 else 0 := by
  have h : ((Finset.range (n + 1)).filter fun m => n < m + 1 ∧ p m) = if p n then {n} else ∅ := by
    ext m
    split
    · rename_i hp
      simp only [Finset.mem_filter, Finset.mem_range, Finset.mem_singleton]
      constructor
      · rintro ⟨h1, h2, -⟩; omega
      · rintro rfl; exact ⟨by omega, by omega, hp⟩
    · rename_i hp
      simp only [Finset.mem_filter, Finset.mem_range, Finset.notMem_empty, iff_false]
      rintro ⟨h1, h2, h3⟩
      obtain rfl : m = n := by omega
      exact hp h3
  unfold windowed
  rw [h]
  split <;> simp

/-- The window of twice the length is the window itself and the one of its length before it. -/
theorem windowed_double (p : ℕ → Prop) (L n : ℕ) :
    windowed p (2 * L) n = windowed p L n + if L ≤ n then windowed p L (n - L) else 0 := by
  classical
  split
  · rename_i hL
    unfold windowed
    rw [← Finset.card_union_of_disjoint]
    · congr 1
      ext m
      simp only [Finset.mem_filter, Finset.mem_range, Finset.mem_union]
      constructor
      · rintro ⟨h1, h2, h3⟩
        by_cases h : n < m + L
        · exact Or.inl ⟨h1, h, h3⟩
        · exact Or.inr ⟨by omega, by omega, h3⟩
      · rintro (⟨h1, h2, h3⟩ | ⟨h1, h2, h3⟩)
        · exact ⟨h1, by omega, h3⟩
        · exact ⟨by omega, by omega, h3⟩
    · rw [Finset.disjoint_left]
      intro m h1 h2
      simp only [Finset.mem_filter, Finset.mem_range] at h1 h2
      omega
  · rename_i hL
    unfold windowed
    rw [add_zero]
    congr 1
    ext m
    simp only [Finset.mem_filter, Finset.mem_range]
    constructor
    · rintro ⟨h1, h2, h3⟩; exact ⟨h1, by omega, h3⟩
    · rintro ⟨h1, h2, h3⟩; exact ⟨h1, by omega, h3⟩

/-- A window that reaches back past the first position holds all positions up to its last. -/
theorem windowed_all (p : ℕ → Prop) {L n : ℕ} (h : n < L) : windowed p L n = upTo p n := by
  unfold windowed upTo
  congr 1
  ext m
  simp only [Finset.mem_filter, Finset.mem_range]
  constructor
  · rintro ⟨h1, h2, h3⟩; exact ⟨h1, h3⟩
  · rintro ⟨h1, h3⟩; exact ⟨h1, by omega, h3⟩

/-- There are at most as many marked positions as positions. -/
theorem upTo_le (p : ℕ → Prop) (n : ℕ) : upTo p n ≤ n + 1 := by
  classical
  unfold upTo
  exact (Finset.card_filter_le _ _).trans (by rw [Finset.card_range])

end Cert.Count
-- ==== Proof.Math.Ball.lean ====
/- The ball query in plain mathematics: the points within the radius of a centroid, the first 32 of them, and the
   largest value over those. -/
module

public import proofs.«01_k».proof.Proof.Math.Sampling
public import proofs.«01_k».proof.Proof.Math.Count

@[expose] public section

noncomputable section

namespace Cert.Ball

open Idealize.ShloMosaic Cert.Sampling Cert.Count

/-- The squared distance of a point from a centroid, by the expanded square. -/
def square (c p : Fin 3 → EReal) : EReal :=
  (∑ k, c k * c k) + (∑ k, p k * p k) - Ideal.ofBits .f32 0x40000000#32 * ∑ k, c k * p k

/-- A point lies in a centroid's ball if its squared distance is at most the squared radius. -/
def within (c p : Fin 3 → EReal) : Prop := square c p ≤ Ideal.ofBits .f32 0x3C23D70A#32

/-- The ball of a centroid in a cloud, as a property of positions. -/
def ball (x : Cloud) (c : Fin 3 → EReal) (n : ℕ) : Prop := ∃ h : n < 8192, within c (x ⟨n, h⟩)

/-- The points taken: those of the ball among its first 32. -/
def chosen (x : Cloud) (c : Fin 3 → EReal) (n : Fin 8192) : Prop := ball x c n.val ∧ upTo (ball x c) n.val ≤ 32

open Classical in
/-- The largest value over the points taken. -/
def best (x : Cloud) (c : Fin 3 → EReal) (P : Fin 8192 → EReal) : EReal :=
  Finset.univ.fold max ⊥ fun n => if chosen x c n then P n else ⊥

end Cert.Ball
-- ==== Proof.Math.Model.lean ====
/- The two results in terms of the four arguments: the points taken by the sampling, and the kernel's form of the
   grouped layer. -/
module

public import proofs.«01_k».proof.Proof.Math.Ball
public import Idealize.ShloMosaic.Lib.Pointwise

@[expose] public section

noncomputable section

namespace Cert.Model

open Idealize.ShloMosaic Cert.Sampling Cert.Ball

/-- The arguments: points, features, weights, bias. -/
abbrev Points : Type := Vec Ideal ⟨3, ![4, 8192, 3]⟩ .f32
abbrev Features : Type := Vec Ideal ⟨3, ![4, 64, 8192]⟩ .f32
abbrev Weights : Type := Vec Ideal ⟨2, ![64, 67]⟩ .f32
abbrev Bias : Type := Vec Ideal ⟨1, ![64]⟩ .f32

/-- Cloud `b` of the points. -/
def cloud (X : Points) (b : Fin 4) : Cloud := fun n k => X (ix3 b n k)

/-- The 67 channels of a point: its coordinates, then its features. -/
def channel (X : Points) (f : Features) (b : Fin 4) (a : Fin 67) (n : Fin 8192) : EReal :=
  if h : a.val < 3 then X (ix3 b n ⟨a.val, h⟩) else f (ix3 b ⟨a.val - 3, by omega⟩ n)

/-- The sampled points of cloud `b`. -/
def centroid (X : Points) (b : Fin 4) (s : Fin 1024) : Fin 3 → EReal :=
  cloud X b (sampled (cloud X b) s.val)

/-- The kernel's value for a centroid and an output channel: the largest projection over the points taken, less the
    centroid's own projection, cut off at zero. -/
def grouped (X : Points) (f : Features) (w : Weights) (z : Bias) (b : Fin 4) (s : Fin 1024) (o : Fin 64) : EReal :=
  max (best (cloud X b) (centroid X b s) (fun n => (∑ a : Fin 67, w (ix2 o a) * channel X f b a n) + z (ix1 o))
    - ∑ k : Fin 3, centroid X b s k * w (ix2 o ⟨k.val, by omega⟩)) 0

end Cert.Model
-- ==== Proof.Reference.SamplingLoop.lean ====
module

public import proofs.«01_k».proof.Proof.Reference.Frame
public import proofs.«01_k».proof.Proof.Reference.TopOne
public import proofs.«01_k».proof.Proof.Math.Model
public import Idealize.ShloMosaic.Lib.Tactic.CleanTypes
public import Idealize.ShloMosaic.Lib.StableHlo.RunClose

/-!
The reference's sampling loop: after `k` trips its buffers hold the distances and the point to take of the mathematical
process after `k` points are taken, and the row numbers taken so far.
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem Idealize.ShloMosaic.StableHlo Cert.Sampling Cert.Model

/-- What the loop's buffers hold after `k` trips over the points `X`. -/
structure Holds (X : Points) (k : ℕ) (V : Valuation τ sig (Elt Ideal)) : Prop where
  steps : V (Proc.devRef .tc main_v4_0) = iotaInDim S1024 32 0
  points : V (Proc.devRef .tc main_v4_1) = X
  count : V (Proc.devRef .tc main_v4_2) = fun _ => BitVec.ofNat 32 k
  taken : ∀ (b : Fin 4) (s : Fin 1024), (V (Proc.devRef .tc main_v4_3) : IVec S4x1024 32) (ix2 b s)
    = if s.val < k then BitVec.ofNat 32 (sampled (cloud X b) s.val).val else 0#32
  dists : ∀ (b : Fin 4) (n : Fin 8192), (V (Proc.devRef .tc main_v4_4) : FVec Ideal S4x8192 .f32) (ix2 b n)
    = (state (cloud X b) k).1 n
  next : ∀ b : Fin 4, (V (Proc.devRef .tc main_v4_5) : IVec S4 32) (ix1 b) = BitVec.ofNat 32 (state (cloud X b) k).2.val

variable {X : Points} {k : ℕ} {V : Valuation τ sig (Elt Ideal)}

/-- The trip's own number, read out of the list of the trips. -/
theorem trip_number (h : Holds X k V) (hk : k < 1024) (z : S_.Idx) :
    (res_main_while0b_v75 V : IVec S_ 32) z = BitVec.ofNat 32 k := by
  unfold res_main_while0b_v75
  rw [h.steps, h.count]
  clean_types
  pointwise []
  rw [Host.clampedStart_of_le _ _ _ k (toInt_row (by omega)) (by show k + 1 ≤ 1024; omega)]

/-- The row number of the point to take. -/
theorem trip_row (h : Holds X k V) (b : Fin 4) :
    (res_main_while0b_call1_v4 V : IVec S4x1x1 32) (ix3 b 0 0) = BitVec.ofNat 32 (state (cloud X b) k).2.val := by
  unfold res_main_while0b_call1_v4 res_main_while0b_v81
  have h5 := h.next b
  clean_types
  generalize (V (Proc.devRef .tc main_v4_5) : IVec S4 32) = v at h5
  pointwise []
  rw [h5]
  exact wrapped _ (by omega) _

/-- The points less the point taken. -/
theorem trip_difference (h : Holds X k V) (b : Fin 4) (n : Fin 8192) (q : Fin 3) :
    (res_main_while0b_v84 V : FVec Ideal S4x8192x3 .f32) (ix3 b n q)
      = cloud X b n q - cloud X b (state (cloud X b) k).2 q := by
  unfold res_main_while0b_v84
  have hr := trip_row h b
  rw [h.points]
  clean_types
  generalize (res_main_while0b_call1_v4 V : IVec S4x1x1 32) = v at hr
  pointwise []
  rw [every_one, hr, in_range, take_one _ _ _ _ _ hr]
  rfl

/-- The distances to the points taken, the trip's own among them. -/
theorem trip_distance (h : Holds X k V) (b : Fin 4) (n : Fin 8192) :
    (res_main_while0b_v87 V : FVec Ideal S4x8192 .f32) (ix2 b n)
      = closer (cloud X b) (state (cloud X b) k).1 (state (cloud X b) k).2 n := by
  unfold res_main_while0b_v87
  have hd := trip_difference h b n
  have h4 := h.dists b n
  clean_types
  generalize (res_main_while0b_v84 V : FVec Ideal S4x8192x3 .f32) = v at hd
  generalize (V (Proc.devRef .tc main_v4_4) : FVec Ideal S4x8192 .f32) = u at h4
  pointwise [closer, sqDist]
  simp only [h4, hd]

/-- The row numbers taken, the trip's own among them. -/
theorem trip_taken (h : Holds X k V) (hk : k < 1024) (b : Fin 4) (s : Fin 1024) :
    (step_main_v4_3 V : IVec S4x1024 32) (ix2 b s)
      = if s.val < k + 1 then BitVec.ofNat 32 (sampled (cloud X b) s.val).val else 0#32 := by
  unfold step_main_v4_3
  rw [id]
  have h75 := trip_number h hk
  have h3 := h.taken b s
  have h5 := h.next b
  clean_types
  generalize (res_main_while0b_v75 V : IVec S_ 32) = v at h75
  generalize (V (Proc.devRef .tc main_v4_3) : IVec S4x1024 32) = u at h3
  generalize (V (Proc.devRef .tc main_v4_5) : IVec S4 32) = w at h5
  refine (write_column u _ w k hk ?_ b s).trans ?_
  · pointwise []
    rw [h75]
    exact wrapped k (by omega) _
  rw [h3, h5]
  rcases lt_trichotomy s.val k with hs | hs | hs
  · rw [if_neg (by omega), if_pos hs, if_pos (by omega)]
  · rw [if_pos hs.symm, if_pos (by omega), hs]
    rfl
  · rw [if_neg (by omega), if_neg (by omega), if_neg (by omega)]

/-- The row number of the point to take next. -/
theorem trip_next (h : Holds X k V) (b : Fin 4) :
    (step_main_v4_5 V : IVec S4 32) (ix1 b) = BitVec.ofNat 32 (state (cloud X b) (k + 1)).2.val := by
  unfold step_main_v4_5
  rw [id]
  have hd := trip_distance h b
  clean_types
  generalize (res_main_while0b_v87 V : FVec Ideal S4x8192 .f32) = v at hd
  pointwise []
  rw [top_one, funext hd]
  rfl

/-- The number of trips made. -/
theorem trip_count (h : Holds X k V) : step_main_v4_2 V = fun _ => BitVec.ofNat 32 (k + 1) := by
  unfold step_main_v4_2
  rw [h.count]
  funext z
  show IntOp.addi (BitVec.ofNat 32 k) 1#32 = BitVec.ofNat 32 (k + 1)
  exact (BitVec.ofNat_add k 1).symm

/-- One trip. -/
theorem Holds.step (h : Holds X k V) (hk : k < 1024) : Holds X (k + 1) (STEP V) where
  steps := (STEP_main_v4_0 V).trans h.steps
  points := (STEP_main_v4_1 V).trans h.points
  count := (STEP_main_v4_2 V).trans (trip_count h)
  taken b s := (congrFun (STEP_main_v4_3 V) (ix2 b s)).trans (trip_taken h hk b s)
  dists b n := (congrFun (STEP_main_v4_4 V) (ix2 b n)).trans (trip_distance h b n)
  next b := (congrFun (STEP_main_v4_5 V) (ix1 b)).trans (trip_next h b)

variable (m : (ℓ : Loc nD τ sig) → Buf (Elt Ideal) ℓ)

/-- Before the first trip. -/
theorem holds_entry (c : Dev nD) : Holds (m ((c.tc : Thread nD τ).loc main_arg0)) 0 (entryContents preI m c) where
  steps := by
    simp only [entryContents, afterL_cons, afterL_nil]
    after_reads_simp
    rfl
  points := by
    simp only [entryContents, afterL_cons, afterL_nil]
    after_reads_simp
    rfl
  count := ctr_entry m c
  taken b s := by
    simp only [entryContents, afterL_cons, afterL_nil]
    after_reads_simp
    rfl
  dists b n := by
    simp only [entryContents, afterL_cons, afterL_nil]
    after_reads_simp
    rfl
  next b := by
    simp only [entryContents, afterL_cons, afterL_nil]
    after_reads_simp
    rfl

/-- Before the `k`-th trip. -/
theorem holds_iterate (c : Dev nD) : ∀ k ≤ 1024,
    Holds (m ((c.tc : Thread nD τ).loc main_arg0)) k (STEP^[k] (entryContents preI m c))
  | 0, _ => holds_entry m c
  | k + 1, hk => by
    rw [Function.iterate_succ_apply']
    exact (holds_iterate c k (by omega)).step (by omega)

/-- The row numbers the loop leaves. -/
theorem exit_taken (c : Dev nD) (b : Fin 4) (s : Fin 1024) :
    (exitContents m c (Proc.devRef .tc main_v4_3) : IVec S4x1024 32) (ix2 b s)
      = BitVec.ofNat 32 (sampled (cloud (m ((c.tc : Thread nD τ).loc main_arg0)) b) s.val).val := by
  have e : exitContents m c (Proc.devRef .tc main_v4_3) = STEP^[1024] (entryContents preI m c) (Proc.devRef .tc main_v4_3) :=
    (cond_keeps _ main_v4_3 (by decide)).trans (atK_agree m c 1024 main_v4_3 (by decide))
  rw [e]
  exact ((holds_iterate m c 1024 le_rfl).taken b s).trans (if_pos s.isLt)

end Cert.ReferenceIdeal.Value
-- ==== Proof.Reference.Centroids.lean ====
module

public import proofs.«01_k».proof.Proof.Reference.SamplingLoop

/-!
The reference's first result: the points its loop took.
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem Idealize.ShloMosaic.StableHlo Cert.Sampling Cert.Model

variable (V : Valuation τ sig (Elt Ideal))

/-- The row numbers, one column per cloud and centroid. -/
theorem rows_column (b : Fin 4) (s : Fin 1024) :
    (after hostOps0_1 V (Proc.devRef .tc main_v5) : IVec S4x1024x1 32) (ix3 b s 0)
      = (V (Proc.devRef .tc main_v4_3) : IVec S4x1024 32) (ix2 b s) := by
  have h : after hostOps0_1 V (Proc.devRef .tc main_v5) = (broadcastInDim S4x1024x1 ![0, 1] bcast_S4x1024_S4x1024x1_0_1
      (V (Proc.devRef .tc main_v4_3) : IVec S4x1024 32) : IVec S4x1024x1 32) := by
    simp only [hostOps0_1]
    after_results_entrywise []
  rw [h]
  pointwise []

/-- The row numbers with negative ones moved up. -/
abbrev wrappedRows (v : IVec S4x1024x1 32) : IVec S4x1024x1 32 :=
  select (cmpi .slt v (broadcastInDim S4x1024x1 ![] bcast_S_S4x1024x1 (constantI S_ 32 0#32)))
    (addi v (broadcastInDim S4x1024x1 ![] bcast_S_S4x1024x1 (constantI S_ 32 8192#32))) v

/-- The points at the row numbers, as the reference takes them. -/
theorem taken_array : after hostOps0_2 V (Proc.devRef .tc main_v6)
    = (select (broadcastInDim S4x1024x3 ![0, 1] bcast_S4x1024_S4x1024x3_0_1 (Host.reduce IntOp.andi
        (andi (cmpi .sge (wrappedRows (V (Proc.devRef .tc main_v5))) (broadcastInDim S4x1024x1 ![] bcast_S_S4x1024x1 (constantI S_ 32 0#32)))
          (cmpi .sle (wrappedRows (V (Proc.devRef .tc main_v5)))
            (broadcastInDim S4x1024x1 ![0, 1, 2] bcast_S1x1x1_S4x1024x1_0_1_2 (broadcastInDim S1x1x1 ![2] bcast_S1_S1x1x1_2 (constantI S1 32 8191#32)))))
        (constantI S_ 1 1#1) reducesTo_S4x1024x1_S4x1024_d2 h_S_))
      (Host.gather gather_S4x8192x3_S4x1024x1_S4x1024x3_2_1_0_0_1_2_113 (V (Proc.devRef .tc main_arg0) : FVec Ideal S4x8192x3 .f32)
        (wrappedRows (V (Proc.devRef .tc main_v5))))
      (broadcastInDim S4x1024x3 ![] bcast_S_S4x1024x3 (constant S_ .f32 0x7FC00000#32)) : FVec Ideal S4x1024x3 .f32) := by
  simp only [hostOps0_2]
  after_results_entrywise []

/-- Each is the point its row number names. -/
theorem taken_at (n : Fin 4 → Fin 1024 → Fin 8192)
    (h : ∀ b s, (V (Proc.devRef .tc main_v5) : IVec S4x1024x1 32) (ix3 b s 0) = BitVec.ofNat 32 (n b s).val)
    (b : Fin 4) (s : Fin 1024) (k : Fin 3) :
    (after hostOps0_2 V (Proc.devRef .tc main_v6) : FVec Ideal S4x1024x3 .f32) (ix3 b s k)
      = (V (Proc.devRef .tc main_arg0) : FVec Ideal S4x8192x3 .f32) (ix3 b (n b s) k) := by
  have h1 := h b s
  rw [taken_array]
  generalize (V (Proc.devRef .tc main_v5) : IVec S4x1024x1 32) = v at h1
  generalize (V (Proc.devRef .tc main_arg0) : FVec Ideal S4x8192x3 .f32) = x
  have hw : wrappedRows v (ix3 b s 0) = BitVec.ofNat 32 (n b s).val := by
    pointwise [wrappedRows]
    rw [h1]
    exact wrapped _ (by omega) _
  generalize wrappedRows v = u at hw
  pointwise []
  rw [every_one, hw, in_range, take_each _ _ _ _ _ _ hw]
  rfl

variable (m : (ℓ : Loc nD τ sig) → Buf (Elt Ideal) ℓ)

/-- The loop leaves the arguments as they were. -/
theorem exit_arg0 (c : Dev nD) : exitContents m c (Proc.devRef .tc main_arg0) = m ((c.tc : Thread nD τ).loc main_arg0) :=
  (keep_main_arg0_condOps _).trans (atK_main_arg0 m c 1024)
theorem exit_arg1 (c : Dev nD) : exitContents m c (Proc.devRef .tc main_arg1) = m ((c.tc : Thread nD τ).loc main_arg1) :=
  (keep_main_arg1_condOps _).trans (atK_main_arg1 m c 1024)
theorem exit_arg2 (c : Dev nD) : exitContents m c (Proc.devRef .tc main_arg2) = m ((c.tc : Thread nD τ).loc main_arg2) :=
  (keep_main_arg2_condOps _).trans (atK_main_arg2 m c 1024)
theorem exit_arg3 (c : Dev nD) : exitContents m c (Proc.devRef .tc main_arg3) = m ((c.tc : Thread nD τ).loc main_arg3) :=
  (keep_main_arg3_condOps _).trans (atK_main_arg3 m c 1024)

/-- The contents once the points taken are laid out. -/
abbrev sampledContents (c : Dev nD) : Valuation τ sig (Elt Ideal) := after hostOps0_2 (after hostOps0_1 (exitContents m c))

/-- The sampled points. -/
theorem sampled_points (c : Dev nD) (b : Fin 4) (s : Fin 1024) (k : Fin 3) :
    (sampledContents m c (Proc.devRef .tc main_v6) : FVec Ideal S4x1024x3 .f32) (ix3 b s k)
      = centroid (m ((c.tc : Thread nD τ).loc main_arg0)) b s k := by
  unfold sampledContents
  rw [taken_at _ (fun b s => sampled (cloud (m ((c.tc : Thread nD τ).loc main_arg0)) b) s.val)
    (fun b s => (rows_column _ b s).trans (exit_taken m c b s)), keep_main_arg0_hostOps0_1, exit_arg0]
  rfl

/-- The first result. -/
theorem first_result (c : Dev nD) (b : Fin 4) (s : Fin 1024) (k : Fin 3) :
    (afterL postI (exitContents m c) (Proc.devRef .tc main_v6) : FVec Ideal S4x1024x3 .f32) (ix3 b s k)
      = centroid (m ((c.tc : Thread nD τ).loc main_arg0)) b s k := by
  simp only [afterL_cons, afterL_nil]
  rw [after_of_writes_sub hostOps0_10 _ hostOps0_10_writes (by decide +kernel),
    after_of_writes_sub hostOps0_9 _ hostOps0_9_writes (by decide +kernel),
    after_of_writes_sub hostOps0_8 _ hostOps0_8_writes (by decide +kernel),
    after_of_writes_sub hostOps0_7 _ hostOps0_7_writes (by decide +kernel),
    after_of_writes_sub hostOps0_6 _ hostOps0_6_writes (by decide +kernel),
    after_of_writes_sub hostOps0_5 _ hostOps0_5_writes (by decide +kernel),
    after_of_writes_sub hostOps0_4 _ hostOps0_4_writes (by decide +kernel),
    after_of_writes_sub hostOps0_3 _ hostOps0_3_writes (by decide +kernel)]
  exact sampled_points m c b s k

end Cert.ReferenceIdeal.Value
-- ==== Proof.Math.Query.lean ====
/- The ball query by sorting: each point of the ball has its position as key, each other point the same key beyond all
   positions; of the sorted keys the first 32 are kept, and a key beyond all positions among them is replaced by the
   first key. What is kept are the points taken. -/
module

public import proofs.«01_k».proof.Proof.Math.Ball

@[expose] public section

noncomputable section

namespace Cert.Query

open Cert.Count Cert.Ball Cert.Sampling
open scoped Classical

/-- The key of a position: itself in the ball, 8192 outside. -/
def key (p : ℕ → Prop) (n : ℕ) : ℕ := if p n then n else 8192

/-- What is kept at place `j` of the sorted keys. -/
def pick (p : ℕ → Prop) (σ : Fin 8192 → Fin 8192) (j : Fin 8192) : ℕ :=
  if key p (σ j).val = 8192 then key p (σ 0).val else key p (σ j).val

variable {p : ℕ → Prop} {σ : Fin 8192 → Fin 8192}

theorem key_ne_iff (n : Fin 8192) : key p n.val ≠ 8192 ↔ p n.val := by
  unfold key
  split
  · next h => exact ⟨fun _ => h, fun _ => by omega⟩
  · next h => exact ⟨fun e => absurd rfl e, fun e => absurd e h⟩

theorem key_of (n : ℕ) (h : p n) : key p n = n := if_pos h

/-- A point of the ball at place `j` is preceded in the ball, itself counted, by `j + 1` points. -/
theorem upTo_at (hs : Function.Bijective σ) (hm : ∀ i j, i < j → key p (σ i).val ≤ key p (σ j).val)
    (j : Fin 8192) (hj : p (σ j).val) : upTo p (σ j).val = j.val + 1 := by
  have hmono (i k : Fin 8192) (h : i ≤ k) : key p (σ i).val ≤ key p (σ k).val := by
    rcases h.lt_or_eq with h | rfl
    · exact hm i k h
    · exact le_rfl
  have e : ((Finset.range ((σ j).val + 1)).filter p) = (Finset.Iic j).image fun i => (σ i).val := by
    ext n
    simp only [Finset.mem_filter, Finset.mem_range, Finset.mem_image, Finset.mem_Iic]
    constructor
    · rintro ⟨hn, hp⟩
      obtain ⟨i, hi⟩ := hs.2 ⟨n, by omega⟩
      have hi' : (σ i).val = n := congrArg Fin.val hi
      refine ⟨i, ?_, hi'⟩
      by_contra h
      have h1 := hm j i (not_le.1 h)
      rw [key_of _ hj, hi', key_of _ hp] at h1
      have h2 : σ i = σ j := Fin.ext (by omega)
      exact h (hs.1 h2).le
    · rintro ⟨i, hi, rfl⟩
      have h1 := hmono i j hi
      rw [key_of _ hj] at h1
      have h2 : p (σ i).val := (key_ne_iff (σ i)).1 (by omega)
      rw [key_of _ h2] at h1
      exact ⟨by omega, h2⟩
  have hc : upTo p (σ j).val = ((Finset.range ((σ j).val + 1)).filter p).card := rfl
  rw [hc, e, Finset.card_image_of_injective _ fun a b h => hs.1 (Fin.ext h), Fin.card_Iic]

/-- When the ball has a point, its first place holds one. -/
theorem first_in (hs : Function.Bijective σ) (hm : ∀ i j, i < j → key p (σ i).val ≤ key p (σ j).val)
    (n : Fin 8192) (hn : p n.val) : p (σ 0).val := by
  obtain ⟨i, rfl⟩ := hs.2 n
  rcases eq_or_ne i 0 with rfl | hi
  · exact hn
  · have h := hm 0 i (Fin.pos_of_ne_zero hi)
    rw [key_of _ hn] at h
    exact (key_ne_iff (σ 0)).1 (by omega)

/-- What is kept at the first 32 places is a point of the ball among its first 32. -/
theorem pick_taken (hs : Function.Bijective σ) (hm : ∀ i j, i < j → key p (σ i).val ≤ key p (σ j).val)
    (n : Fin 8192) (hn : p n.val) (j : Fin 8192) (hj : j.val < 32) :
    ∃ i : Fin 8192, pick p σ j = (σ i).val ∧ p (σ i).val ∧ upTo p (σ i).val ≤ 32 := by
  unfold pick
  split
  · have h0 := first_in hs hm n hn
    exact ⟨0, key_of _ h0, h0, by rw [upTo_at hs hm 0 h0]; simp⟩
  · next h =>
    have h' := (key_ne_iff (σ j)).1 h
    exact ⟨j, key_of _ h', h', by rw [upTo_at hs hm j h']; omega⟩

/-- What is kept at the first 32 places is a position. -/
theorem pick_bound (hs : Function.Bijective σ) (hm : ∀ i j, i < j → key p (σ i).val ≤ key p (σ j).val)
    (n : Fin 8192) (hn : p n.val) (j : Fin 8192) (hj : j.val < 32) : pick p σ j < 8192 :=
  (pick_taken hs hm n hn j hj).elim fun i h => lt_of_eq_of_lt h.1 (σ i).isLt

/-- Every point of the ball among its first 32 is kept at one of the first 32 places. -/
theorem taken_pick (hs : Function.Bijective σ) (hm : ∀ i j, i < j → key p (σ i).val ≤ key p (σ j).val)
    (n : Fin 8192) (hn : p n.val) (hc : upTo p n.val ≤ 32) : ∃ j : Fin 8192, j.val < 32 ∧ pick p σ j = n.val := by
  obtain ⟨j, rfl⟩ := hs.2 n
  rw [upTo_at hs hm j hn] at hc
  refine ⟨j, by omega, ?_⟩
  unfold pick
  rw [if_neg ((key_ne_iff (σ j)).2 hn), key_of _ hn]

end Cert.Query
-- ==== Proof.Reference.Keys.lean ====
module

public import proofs.«01_k».proof.Proof.Reference.Centroids
public import proofs.«01_k».proof.Proof.Math.Query
public import Idealize.ShloMosaic.Lib.SortFacts

/-!
The reference's ball query: the key of every point, and the keys sorted.
-/

@[expose] public section

set_option maxRecDepth 16384

noncomputable section

open scoped Classical

namespace Cert.ReferenceIdeal.Value

open Cert.ReferenceIdeal Cert.ReferenceIdeal.Gen
open Idealize.ShloMosaic Idealize.ShloMosaic.TcCoe Idealize.ShloMosaic.Tactic
open Idealize.SL.Sem Idealize.ShloMosaic.StableHlo Cert.Sampling Cert.Model Cert.Ball Cert.Query

variable (V : Valuation τ sig (Elt Ideal))

/-- The squared distances, as the reference makes them of the points taken and all points. -/
theorem outside_array : after hostOps0_3 V (Proc.devRef .tc main_v23)
    = (cmpf .ogt (subf (addf
          (broadcastInDim S4x1024x8192 ![0, 1, 2] bcast_S4x1024x1_S4x1024x8192_0_1_2 (broadcastInDim S4x1024x1 ![0, 1] bcast_S4x1024_S4x1024x1_0_1
            (Host.reduceAdd (mulf (V (Proc.devRef .tc main_v6) : FVec Ideal S4x1024x3 .f32) (V (Proc.devRef .tc main_v6))) (constant S_ .f32 0x00000000#32) reducesTo_S4x1024x3_S4x1024_d2 h_S_)))
          (broadcastInDim S4x1024x8192 ![0, 1, 2] bcast_S4x1x8192_S4x1024x8192_0_1_2 (broadcastInDim S4x1x8192 ![0, 2] bcast_S4x8192_S4x1x8192_0_2
            (Host.reduceAdd (mulf (V (Proc.devRef .tc main_arg0) : FVec Ideal S4x8192x3 .f32) (V (Proc.devRef .tc main_arg0))) (constant S_ .f32 0x00000000#32) reducesTo_S4x8192x3_S4x8192_d2 h_S_))))
        (mulf (broadcastInDim S4x1024x8192 ![] bcast_S_S4x1024x8192 (constant S_ .f32 0x40000000#32))
          (Host.dotGeneral dot_S4x1024x3_S4x8192x3_S4x1024x8192_2_2_1_1_0_0 none (show FVec Ideal S4x1024x3 .f32 from V (Proc.devRef .tc main_v6)) (show FVec Ideal S4x8192x3 .f32 from V (Proc.devRef .tc main_arg0)))))
      (broadcastInDim S4x1024x8192 ![] bcast_S_S4x1024x8192 (constant S_ .f32 0x3C23D70A#32)) : IVec S4x1024x8192 1) := by
  simp only [hostOps0_3]
  after_results_entrywise []

theorem positions_array : after hostOps0_3 V (Proc.devRef .tc main_v21)
    = (broadcastInDim S4x1024x8192 ![2] bcast_S8192_S4x1024x8192_2 (iotaInDim S8192 32 0) : IVec S4x1024x8192 32) := by
  simp only [hostOps0_3]
  after_results_entrywise []

theorem beyond_array : after hostOps0_3 V (Proc.devRef .tc main_c_6) = (constantI S_ 32 8192#32 : IVec S_ 32) := by
  simp only [hostOps0_3]
  after_results_entrywise []

theorem keys_array : after hostOps0_4 V (Proc.devRef .tc main_v24)
    = (select (V (Proc.devRef .tc main_v23) : IVec S4x1024x8192 1)
      (broadcastInDim S4x1024x8192 ![] bcast_S_S4x1024x8192 (V (Proc.devRef .tc main_c_6) : IVec S_ 32))
      (V (Proc.devRef .tc main_v21) : IVec S4x1024x8192 32) : IVec S4x1024x8192 32) := by
  simp only [hostOps0_4]
  after_results_entrywise []

theorem sorted_array : after hostOps0_5 V (Proc.devRef .tc main_v25)
    = (Host.sort S4x1024x8192 2 comparator_i32_d2 (V (Proc.devRef .tc main_v24) : IVec S4x1024x8192 32) : IVec S4x1024x8192 32) := by
  simp only [hostOps0_5]
  after_results_entrywise []

theorem kept_array : after hostOps0_7 (after hostOps0_6 V) (Proc.devRef .tc main_v30)
    = (select (cmpi .eq (extractStridedSlice S4x1024x32 ![0, 0, 0] (V (Proc.devRef .tc main_v25) : IVec S4x1024x8192 32) slices_S4x1024x8192_S4x1024x32_0_0_0)
          (broadcastInDim S4x1024x32 ![] bcast_S_S4x1024x32 (constantI S_ 32 8192#32)))
        (broadcastInDim S4x1024x32 ![0, 1, 2] bcast_S4x1024x1_S4x1024x32_0_1_2 (extractStridedSlice S4x1024x1 ![0, 0, 0]
          (extractStridedSlice S4x1024x32 ![0, 0, 0] (V (Proc.devRef .tc main_v25) : IVec S4x1024x8192 32) slices_S4x1024x8192_S4x1024x32_0_0_0)
          slices_S4x1024x32_S4x1024x1_0_0_0))
        (extractStridedSlice S4x1024x32 ![0, 0, 0] (V (Proc.devRef .tc main_v25) : IVec S4x1024x8192 32) slices_S4x1024x8192_S4x1024x32_0_0_0)
        : IVec S4x1024x32 32) := by
  simp only [hostOps0_7, hostOps0_6]
  after_results_entrywise []

/-- Whether a point lies outside the ball. -/
theorem outside_at (b : Fin 4) (s : Fin 1024) (n : Fin 8192) (c : Fin 3 → EReal) (X : Points)
    (hc : ∀ k, (V (Proc.devRef .tc main_v6) : FVec Ideal S4x1024x3 .f32) (ix3 b s k) = c k)
    (hX : V (Proc.devRef .tc main_arg0) = X) :
    (after hostOps0_3 V (Proc.devRef .tc main_v23) : IVec S4x1024x8192 1) (ix3 b s n)
      = BitVec.ofBool (decide (¬within c (cloud X b n))) := by
  rw [outside_array, hX]
  generalize (V (Proc.devRef .tc main_v6) : FVec Ideal S4x1024x3 .f32) = v at hc
  pointwise []
  simp only [hc]
  refine congrArg BitVec.ofBool (decide_eq_decide.2 ?_)
  exact not_le.symm

/-- The key of every point. -/
theorem keys_at (b : Fin 4) (s : Fin 1024) (n : Fin 8192) (c : Fin 3 → EReal) (X : Points)
    (hc : ∀ k, (V (Proc.devRef .tc main_v6) : FVec Ideal S4x1024x3 .f32) (ix3 b s k) = c k)
    (hX : V (Proc.devRef .tc main_arg0) = X) :
    (after hostOps0_4 (after hostOps0_3 V) (Proc.devRef .tc main_v24) : IVec S4x1024x8192 32) (ix3 b s n)
      = BitVec.ofNat 32 (key (ball (cloud X b) c) n.val) := by
  have h := outside_at V b s n c X hc hX
  rw [keys_array, positions_array, beyond_array]
  generalize (after hostOps0_3 V (Proc.devRef .tc main_v23) : IVec S4x1024x8192 1) = v at h
  pointwise []
  rw [h]
  unfold key
  have hb : ball (cloud X b) c n.val ↔ within c (cloud X b n) := ⟨fun ⟨_, h⟩ => h, fun h => ⟨n.isLt, h⟩⟩
  by_cases hw : within c (cloud X b n)
  · rw [if_pos (hb.2 hw), decide_eq_false (not_not.2 hw)]
    rfl
  · rw [if_neg fun h => hw (hb.1 h), decide_eq_true hw]
    rfl

/-- A place of a table sorted along its last axis. -/
theorem sorted_third {l m n : ℕ} {α : Type} (cmp : α → α → BitVec 1) (x : (⟨3, ![l, m, n]⟩ : Shape).Idx → α)
    (a : Fin l) (b : Fin m) (c : Fin n) :
    Host.sort ⟨3, ![l, m, n]⟩ 2 cmp x (ix3 a b c) = x (ix3 a b (sortedFrom (fun k k' =>
      cmp (x (ix3 a b k)) (x (ix3 a b k')) == 1#1) c)) := by
  have hs (k : Fin n) : (ix3 a b c : (⟨3, ![l, m, n]⟩ : Shape).Idx).along 2 k = ix3 a b k := by
    funext q
    match q with
    | ⟨0, _⟩ => rfl
    | ⟨1, _⟩ => rfl
    | ⟨2, _⟩ => rfl
  unfold Host.sort
  rw [dif_pos (by decide : 2 < 3)]
  show x ((ix3 a b c : (⟨3, ![l, m, n]⟩ : Shape).Idx).along 2 (sortedFrom (fun k k' : Fin n =>
    cmp (x ((ix3 a b c : (⟨3, ![l, m, n]⟩ : Shape).Idx).along 2 k)) (x ((ix3 a b c : (⟨3, ![l, m, n]⟩ : Shape).Idx).along 2 k')) == 1#1) c)) = _
  refine (congrArg x (hs _)).trans ?_
  simp only [hs]
  rfl

/-- The order in which the sort of words below 2³¹ takes them. -/
def order (κ : Fin 8192 → ℕ) : Fin 8192 → Fin 8192 := sortedFrom fun k k' => decide (κ k < κ k')

theorem order_bijective (κ : Fin 8192 → ℕ) : Function.Bijective (order κ) :=
  ⟨sortedFrom_injective _, sortedFrom_surjective _⟩

theorem order_sorted (κ : Fin 8192 → ℕ) (i j : Fin 8192) (h : i < j) : κ (order κ i) ≤ κ (order κ j) := by
  have := sortedFrom_noInversion (fun k k' => decide (κ k < κ k')) (fun k k' => decide (κ k < κ k'))
    (fun a b h => by simp only [decide_eq_true_eq, decide_eq_false_iff_not] at h ⊢; omega) (fun _ _ h => h)
    (fun a b c h h' => by simp only [decide_eq_false_iff_not] at h h' ⊢; omega) i j h
  simp only [decide_eq_false_iff_not] at this
  exact not_lt.1 this

/-- The keys of the points of a cloud, as the reference sorts them. -/
def keys (p : ℕ → Prop) (n : Fin 8192) : ℕ := key p n.val

/-- The order of the points by their keys takes every point once and no key before a smaller one. -/
theorem by_key_bijective (p : ℕ → Prop) : Function.Bijective (order (keys p)) := order_bijective (keys p)

theorem by_key_sorted (p : ℕ → Prop) (i j : Fin 8192) (h : i < j) :
    key p (order (keys p) i).val ≤ key p (order (keys p) j).val := order_sorted (keys p) i j h

/-- When the ball has a point, what is kept at the first 32 places are positions of the cloud. -/
theorem pick_lt (p : ℕ → Prop) (n : Fin 8192) (hn : p n.val) (j : Fin 8192) (hj : j.val < 32) :
    pick p (order (keys p)) j < 8192 :=
  pick_bound (by_key_bijective p) (by_key_sorted p) n hn j hj

theorem key_le (p : ℕ → Prop) (n : Fin 8192) : key p n.val ≤ 8192 := by
  unfold key
  split
  · exact n.isLt.le
  · exact le_rfl

/-- The sorted keys. -/
theorem sorted_at (b : Fin 4) (s : Fin 1024) (j : Fin 8192) (p : ℕ → Prop)
    (h : ∀ n : Fin 8192, (V (Proc.devRef .tc main_v24) : IVec S4x1024x8192 32) (ix3 b s n) = BitVec.ofNat 32 (key p n.val)) :
    (after hostOps0_5 V (Proc.devRef .tc main_v25) : IVec S4x1024x8192 32) (ix3 b s j)
      = BitVec.ofNat 32 (key p (order (keys p) j).val) := by
  rw [sorted_array]
  refine (sorted_third _ _ b s j).trans ?_
  rw [h]
  have e : (fun k k' : Fin 8192 => comparator_i32_d2 ((V (Proc.devRef .tc main_v24) : IVec S4x1024x8192 32) (ix3 b s k))
      ((V (Proc.devRef .tc main_v24) : IVec S4x1024x8192 32) (ix3 b s k')) == 1#1) = fun k k' => decide (keys p k < keys p k') := by
    funext k k'
    rw [h, h]
    unfold comparator_i32_d2
    have h1 := key_le p k
    have h2 := key_le p k'
    rw [WordCmp.cmpi_slt_ofNat (by omega) (by omega)]
    unfold keys
    cases decide (key p k.val < key p k'.val) <;> rfl
  rw [e]
  rfl

/-- What is kept of the sorted keys. -/
theorem kept_at (b : Fin 4) (s : Fin 1024) (j : Fin 32) (p : ℕ → Prop) (σ : Fin 8192 → Fin 8192)
    (h : ∀ j, (V (Proc.devRef .tc main_v25) : IVec S4x1024x8192 32) (ix3 b s j) = BitVec.ofNat 32 (key p (σ j).val)) :
    (after hostOps0_7 (after hostOps0_6 V) (Proc.devRef .tc main_v30) : IVec S4x1024x32 32) (ix3 b s j)
      = BitVec.ofNat 32 (pick p σ ⟨j.val, by omega⟩) := by
  rw [kept_array]
  generalize (V (Proc.devRef .tc main_v25) : IVec S4x1024x8192 32) = v at h
  pointwise []
  rw [h ⟨j.val, by omega⟩, show v (ix3 b s 0) = _ from h 0, show (8192#32 : BitVec 32) = BitVec.ofNat 32 8192 from rfl]
  have h1 := key_le p (σ ⟨j.val, by omega⟩)
  rw [WordCmp.cmpi_eq_eq]
  unfold pick
  by_cases e : key p (σ ⟨j.val, by omega⟩).val = 8192
  · rw [if_pos e, e, decide_eq_true rfl]
    rfl
  · rw [if_neg e, decide_eq_false fun e' => e ((WordCmp.ofNat_eq_ofNat_iff (by omega) (by omega)).1 e')]
    rfl

end Cert.ReferenceIdeal.Value
-- ==== Proof.Math.Layer.lean ====
/- The grouped layer: computed at each point kept, on coordinates relative to the centroid, cut off at zero and then
   the largest taken, it is the kernel's form, when the coordinates and the weights on them are finite. -/
module

public import proofs.«01_k».proof.Proof.Math.Model
public import proofs.«01_k».proof.Proof.Math.Query

@[expose] public section

noncomputable section

namespace Cert.Model

open Idealize.ShloMosaic Cert.Sampling Cert.Ball Cert.Query Cert.Count

/-- A value is a real number. -/
def Real (x : EReal) : Prop := x ≠ ⊥ ∧ x ≠ ⊤

/-- The 67 channels of a point seen from a centroid: its coordinates less the centroid's, then its features. -/
def seen (X : Points) (f : Features) (b : Fin 4) (c : Fin 3 → EReal) (a : Fin 67) (n : Fin 8192) : EReal :=
  if h : a.val < 3 then X (ix3 b n ⟨a.val, h⟩) - c ⟨a.val, h⟩ else f (ix3 b ⟨a.val - 3, by omega⟩ n)

/-- The layer at a point seen from a centroid. -/
def layer (X : Points) (f : Features) (w : Weights) (z : Bias) (b : Fin 4) (c : Fin 3 → EReal) (o : Fin 64) (n : Fin 8192) : EReal :=
  (∑ a : Fin 67, seen X f b c a n * w (ix2 o a)) + z (ix1 o)

theorem real_coe {x : EReal} (h : Real x) : ∃ r : ℝ, x = (r : EReal) := ⟨x.toReal, (EReal.coe_toReal h.2 h.1).symm⟩

/-- The squared radius is not negative, and the printed two is two. -/
theorem radius_nonneg : (0 : EReal) ≤ Ideal.ofBits .f32 0x3C23D70A#32 := by
  simp [Ideal.ofBits, Ideal.ieee]
  positivity

theorem printed_two : Ideal.ofBits .f32 0x40000000#32 = ((2 : ℝ) : EReal) := by
  simp [Ideal.ofBits, Ideal.ieee]
  rw [← EReal.coe_mul]
  norm_num

/-- A point with finite coordinates lies in its own ball. -/
theorem within_self (c : Fin 3 → EReal) (h : ∀ k, Real (c k)) : within c c := by
  choose r hr using fun k => real_coe (h k)
  unfold within square
  rw [printed_two]
  simp only [hr, ← EReal.coe_mul, Fin.sum_univ_three, ← EReal.coe_add, ← EReal.coe_sub]
  refine le_trans (le_of_eq ?_) radius_nonneg
  rw [← EReal.coe_zero]
  congr 1
  ring

/-- The layer at a point seen from a centroid is the point's projection less the centroid's own. -/
theorem layer_eq (X : Points) (f : Features) (w : Weights) (z : Bias) (b : Fin 4) (c : Fin 3 → EReal) (o : Fin 64) (n : Fin 8192)
    (hX : ∀ k, Real (X (ix3 b n k))) (hc : ∀ k, Real (c k)) (hw : ∀ k : Fin 3, Real (w (ix2 o ⟨k.val, by omega⟩))) :
    layer X f w z b c o n = (∑ a : Fin 67, w (ix2 o a) * channel X f b a n) + z (ix1 o)
      - ∑ k : Fin 3, c k * w (ix2 o ⟨k.val, by omega⟩) := by
  choose x hx using fun k => real_coe (hX k)
  choose r hr using fun k => real_coe (hc k)
  choose v hv using fun k => real_coe (hw k)
  have e1 : (∑ a : Fin 67, seen X f b c a n * w (ix2 o a))
      = (∑ k : Fin 3, (X (ix3 b n k) - c k) * w (ix2 o ⟨k.val, by omega⟩))
        + ∑ q : Fin 64, f (ix3 b q n) * w (ix2 o ⟨3 + q.val, by omega⟩) := by
    refine (Fin.sum_univ_add (a := 3) (b := 64) fun a : Fin 67 => seen X f b c a n * w (ix2 o a)).trans ?_
    refine congrArg₂ (· + ·) (Finset.sum_congr rfl fun k _ => ?_) (Finset.sum_congr rfl fun q _ => ?_)
    · unfold seen
      rw [dif_pos (show (Fin.castAdd 64 k).val < 3 from k.isLt)]
      rfl
    · unfold seen
      rw [dif_neg (show ¬(Fin.natAdd 3 q).val < 3 by simp)]
      congr 3
      exact Fin.ext (by simp)
  have e2 : (∑ a : Fin 67, w (ix2 o a) * channel X f b a n)
      = (∑ k : Fin 3, w (ix2 o ⟨k.val, by omega⟩) * X (ix3 b n k))
        + ∑ q : Fin 64, f (ix3 b q n) * w (ix2 o ⟨3 + q.val, by omega⟩) := by
    refine (Fin.sum_univ_add (a := 3) (b := 64) fun a : Fin 67 => w (ix2 o a) * channel X f b a n).trans ?_
    refine congrArg₂ (· + ·) (Finset.sum_congr rfl fun k _ => ?_) (Finset.sum_congr rfl fun q _ => ?_)
    · unfold channel
      rw [dif_pos (show (Fin.castAdd 64 k).val < 3 from k.isLt)]
      rfl
    · unfold channel
      rw [dif_neg (show ¬(Fin.natAdd 3 q).val < 3 by simp), mul_comm]
      congr 3
      exact Fin.ext (by simp)
  unfold layer
  rw [e1, e2]
  have e3 : (∑ k : Fin 3, (X (ix3 b n k) - c k) * w (ix2 o ⟨k.val, by omega⟩))
      = (∑ k : Fin 3, w (ix2 o ⟨k.val, by omega⟩) * X (ix3 b n k)) + -(∑ k : Fin 3, c k * w (ix2 o ⟨k.val, by omega⟩)) := by
    simp only [hx, hr, hv, ← EReal.coe_mul, ← EReal.coe_sub, Fin.sum_univ_three, ← EReal.coe_add, ← EReal.coe_neg]
    congr 1
    ring
  rw [e3, sub_eq_add_neg, add_right_comm _ (-_) (∑ q : Fin 64, _), add_right_comm _ (-_) (z (ix1 o))]

/-- The largest over the places kept, of the layer cut off at zero, is the kernel's value. -/
theorem grouped_eq (X : Points) (f : Features) (w : Weights) (z : Bias) (b : Fin 4) (s : Fin 1024) (o : Fin 64)
    (hX : ∀ n k, Real (X (ix3 b n k))) (hw : ∀ k : Fin 3, Real (w (ix2 o ⟨k.val, by omega⟩)))
    (σ : Fin 8192 → Fin 8192) (hs : Function.Bijective σ)
    (hm : ∀ i j, i < j → key (ball (cloud X b) (centroid X b s)) (σ i).val ≤ key (ball (cloud X b) (centroid X b s)) (σ j).val)
    (q : Fin 32 → Fin 8192) (hq : ∀ j : Fin 32, (q j).val = pick (ball (cloud X b) (centroid X b s)) σ ⟨j.val, by omega⟩) :
    (Finset.univ.fold max ⊥ fun j : Fin 32 => max (layer X f w z b (centroid X b s) o (q j)) 0) = grouped X f w z b s o := by
  classical
  have hc : ∀ k, Real (centroid X b s k) := fun k => hX _ k
  set p := ball (cloud X b) (centroid X b s) with hp
  have h0 : p (sampled (cloud X b) s.val).val := ⟨(sampled (cloud X b) s.val).isLt, within_self _ hc⟩
  have hl (n : Fin 8192) := layer_eq X f w z b (centroid X b s) o n (hX n) hc hw
  have hmem (j : Fin 32) : chosen (cloud X b) (centroid X b s) (q j) := by
    obtain ⟨i, hi, h1, h2⟩ := pick_taken hs hm _ h0 ⟨j.val, by omega⟩ j.isLt
    have e : q j = σ i := Fin.ext ((hq j).trans hi)
    rw [e]
    exact ⟨h1, h2⟩
  have hall (n : Fin 8192) (hn : chosen (cloud X b) (centroid X b s) n) : ∃ j : Fin 32, q j = n := by
    obtain ⟨j, hj, e⟩ := taken_pick hs hm n hn.1 hn.2
    exact ⟨⟨j.val, hj⟩, Fin.ext ((hq _).trans e)⟩
  unfold grouped
  set P : Fin 8192 → EReal := fun n => (∑ a : Fin 67, w (ix2 o a) * channel X f b a n) + z (ix1 o) with hP
  set Q := ∑ k : Fin 3, centroid X b s k * w (ix2 o ⟨k.val, by omega⟩) with hQ
  have hbest : ∀ n, chosen (cloud X b) (centroid X b s) n → P n ≤ best (cloud X b) (centroid X b s) P := fun n hn => by
    unfold best
    rw [Finset.le_fold_max]
    exact Or.inr ⟨n, Finset.mem_univ _, by rw [if_pos hn]⟩
  apply le_antisymm
  · rw [Finset.fold_max_le]
    refine ⟨bot_le, fun j _ => max_le_max ?_ le_rfl⟩
    rw [hl]
    exact EReal.sub_le_sub (hbest _ (hmem j)) le_rfl
  · refine max_le ?_ ?_
    · have hatt : ∃ n, chosen (cloud X b) (centroid X b s) n ∧ best (cloud X b) (centroid X b s) P = P n := by
        obtain ⟨n, -, hn⟩ := Finset.exists_max_image (Finset.univ : Finset (Fin 8192))
          (fun n => if chosen (cloud X b) (centroid X b s) n then P n else ⊥) ⟨0, Finset.mem_univ _⟩
        have e : best (cloud X b) (centroid X b s) P ≤ if chosen (cloud X b) (centroid X b s) n then P n else ⊥ := by
          unfold best
          rw [Finset.fold_max_le]
          exact ⟨bot_le, fun k hk => hn k hk⟩
        by_cases h : chosen (cloud X b) (centroid X b s) n
        · rw [if_pos h] at e
          exact ⟨n, h, le_antisymm e (hbest n h)⟩
        · rw [if_neg h] at e
          exact ⟨q 0, hmem 0, le_antisymm (e.trans bot_le) (hbest _ (hmem 0))⟩
      obtain ⟨n, hn, e⟩ := hatt
      obtain ⟨j, rfl⟩ := hall n hn
      rw [Finset.le_fold_max]
      refine Or.inr ⟨j, Finset.mem_univ _, le_max_of_le_left ?_⟩
      rw [hl, e]
    · rw [Finset.le_fold_max]
      exact Or.inr ⟨0, Finset.mem_univ _, le_max_right _ _⟩

end Cert.Model
-- ==== Proof.Reference.Grouping.lean ====
module

public import proofs.«01_k».proof.Proof.Reference.Frame
public import proofs.«01_k».proof.Proof.Reference.Reads
public import proofs.«01_k».proof.Proof.Math.Layer
public import Idealize.ShloMosaic.Lib.StableHlo.RunClose
public import Idealize.ShloMosaic.Lib.Tactic.CleanTypes

/-!
The reference's grouped layer: the points and features it takes at the positions kept, the layer at each of them, and
the largest over them.
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem Idealize.ShloMosaic.StableHlo Cert.Sampling Cert.Model

variable (V : Valuation τ sig (Elt Ideal))

/-- The cloud numbers, with negative ones moved up. -/
abbrev clouds : IVec S4x1x1 32 :=
  select (cmpi .slt (broadcastInDim S4x1x1 ![0] bcast_S4_S4x1x1_0 (iotaInDim S4 32 0)) (broadcastInDim S4x1x1 ![] bcast_S_S4x1x1 (constantI S_ 32 0#32)))
    (addi (broadcastInDim S4x1x1 ![0] bcast_S4_S4x1x1_0 (iotaInDim S4 32 0)) (broadcastInDim S4x1x1 ![] bcast_S_S4x1x1 (constantI S_ 32 4#32)))
    (broadcastInDim S4x1x1 ![0] bcast_S4_S4x1x1_0 (iotaInDim S4 32 0))

/-- The positions kept, with negative ones moved up. -/
abbrev places (v : IVec S4x1024x32 32) : IVec S4x1024x32 32 :=
  select (cmpi .slt v (broadcastInDim S4x1024x32 ![] bcast_S_S4x1024x32 (constantI S_ 32 0#32)))
    (addi v (broadcastInDim S4x1024x32 ![] bcast_S_S4x1024x32 (constantI S_ 32 8192#32))) v

/-- The cloud number and the position, side by side. -/
abbrev pairs (v : IVec S4x1024x32 32) : IVec S4x1024x32x2 32 :=
  concatenate S4x1024x32x2 3
    [⟨S4x1024x32x1, broadcastInDim S4x1024x32x1 ![0, 1, 2] bcast_S4x1024x32_S4x1024x32x1_0_1_2
        (broadcastInDim S4x1024x32 ![0, 1, 2] bcast_S4x1x1_S4x1024x32_0_1_2 clouds)⟩,
      ⟨S4x1024x32x1, broadcastInDim S4x1024x32x1 ![0, 1, 2] bcast_S4x1024x32_S4x1024x32x1_0_1_2 (places v)⟩]
    concatenates_S4x1024x32x1_S4x1024x32x1_S4x1024x32x2_d3

/-- The coordinates relative to the centroid, then the features, of every point kept. -/
abbrev joined (x : FVec Ideal S4x8192x3 .f32) (y : FVec Ideal S4x64x8192 .f32) (c : FVec Ideal S4x1024x3 .f32) (v : IVec S4x1024x32 32) :
    FVec Ideal S4x1024x32x67 .f32 :=
  concatenate S4x1024x32x67 3
    [⟨S4x1024x32x3, subf (Host.gather gather_S4x8192x3_S4x1024x32x2_S4x1024x32x3_3_01_n_n_01_3_113 x (pairs v))
        (broadcastInDim S4x1024x32x3 ![0, 1, 2, 3] bcast_S4x1024x1x3_S4x1024x32x3_0_1_2_3
          (broadcastInDim S4x1024x1x3 ![0, 1, 3] bcast_S4x1024x3_S4x1024x1x3_0_1_3 c))⟩,
      ⟨S4x1024x32x64, Host.gather gather_S4x8192x64_S4x1024x32x2_S4x1024x32x64_3_01_n_n_01_3_1164
        (transpose S4x8192x64 [0, 2, 1] y transposes_S4x64x8192_S4x8192x64_0_2_1) (pairs v)⟩]
    concatenates_S4x1024x32x3_S4x1024x32x64_S4x1024x32x67_d3

/-- The layer, as the reference makes it. -/
theorem layer_array : after hostOps0_8 V (Proc.devRef .tc main_v71)
    = (addf (Host.dotGeneral dot_S4x1024x32x67_S64x67_S4x1024x32x64_3_1_012_0_n_n none
          (joined (V (Proc.devRef .tc main_arg0)) (V (Proc.devRef .tc main_arg1)) (V (Proc.devRef .tc main_v6)) (V (Proc.devRef .tc main_v30)))
          (show FVec Ideal S64x67 .f32 from V (Proc.devRef .tc main_arg2)))
        (broadcastInDim S4x1024x32x64 ![0, 1, 2, 3] bcast_S1x1x1x64_S4x1024x32x64_0_1_2_3
          (broadcastInDim S1x1x1x64 ![3] bcast_S64_S1x1x1x64_3 (V (Proc.devRef .tc main_arg3) : FVec Ideal S64 .f32))) : FVec Ideal S4x1024x32x64 .f32) := by
  simp only [hostOps0_8]
  after_results_entrywise []

/-- The largest over the points kept of the layer cut off at zero. -/
theorem largest_array : after hostOps0_10 (after hostOps0_9 V) (Proc.devRef .tc main_v74)
    = (transpose S4x64x1024 [0, 2, 1] (Host.reduce FloatOps.maximumf
        (maximumf (V (Proc.devRef .tc main_v71) : FVec Ideal S4x1024x32x64 .f32) (broadcastInDim S4x1024x32x64 ![] bcast_S_S4x1024x32x64 (constant S_ .f32 0x00000000#32)))
        (constant S_ .f32 0xFF800000#32) reducesTo_S4x1024x32x64_S4x1024x64_d2 h_S_) transposes_S4x1024x64_S4x64x1024_0_2_1
        : FVec Ideal S4x64x1024 .f32) := by
  simp only [hostOps0_10, hostOps0_9]
  after_results_entrywise []

variable (v : IVec S4x1024x32 32) (b : Fin 4) (s : Fin 1024) (j : Fin 32) (n : Fin 8192)

theorem clouds_at : clouds (ix3 b 0 0) = BitVec.ofNat 32 b.val := by
  pointwise [clouds]
  exact wrapped _ (by omega) _

theorem places_at (h : v (ix3 b s j) = BitVec.ofNat 32 n.val) : places v (ix3 b s j) = BitVec.ofNat 32 n.val := by
  pointwise [places]
  rw [h]
  exact wrapped _ (by omega) _

/-- The two halves of a pair. -/
theorem pairs_cloud : pairs v (ix4 b s j 0) = BitVec.ofNat 32 b.val := by
  have h := clouds_at b
  unfold pairs
  generalize clouds = u at h
  pointwise []
  exact h

theorem pairs_place (h : v (ix3 b s j) = BitVec.ofNat 32 n.val) : pairs v (ix4 b s j 1) = BitVec.ofNat 32 n.val := by
  have h := places_at v b s j n h
  unfold pairs
  generalize places v = u at h
  pointwise []
  exact h

/-- The 67 channels of a point kept are the channels seen from the centroid. -/
theorem joined_at (x : Points) (y : Features) (c : FVec Ideal S4x1024x3 .f32) (h : v (ix3 b s j) = BitVec.ofNat 32 n.val) (a : Fin 67) :
    joined x y c v (ix4 b s j a) = seen x y b (fun k => c (ix3 b s k)) a n := by
  have h0 := pairs_cloud v b s j
  have h1 := pairs_place v b s j n h
  unfold joined seen
  generalize pairs v = u at h0 h1
  pointwise []
  split
  · rw [take_points x u b s j _ n h0 h1]
  · rw [take_features _ u b s j _ n h0 h1]
    pointwise []

/-- The layer at a point kept. -/
theorem layer_at (c : FVec Ideal S4x1024x3 .f32) (x : Points) (y : Features) (w : Weights) (z : Bias)
    (hx : V (Proc.devRef .tc main_arg0) = x) (hy : V (Proc.devRef .tc main_arg1) = y) (hw : V (Proc.devRef .tc main_arg2) = w)
    (hz : V (Proc.devRef .tc main_arg3) = z) (hv : V (Proc.devRef .tc main_v30) = v) (hc : V (Proc.devRef .tc main_v6) = c)
    (h : v (ix3 b s j) = BitVec.ofNat 32 n.val) (o : Fin 64) :
    (after hostOps0_8 V (Proc.devRef .tc main_v71) : FVec Ideal S4x1024x32x64 .f32) (ix4 b s j o)
      = layer x y w z b (fun k => c (ix3 b s k)) o n := by
  have h1 := joined_at v b s j n x y c h
  rw [layer_array, hx, hy, hw, hz, hv, hc]
  unfold layer
  generalize joined x y c v = u at h1
  pointwise []
  simp only [h1]

/-- The largest over the points kept. -/
theorem largest_at (o : Fin 64) (g : Fin 32 → EReal)
    (h : ∀ j, (V (Proc.devRef .tc main_v71) : FVec Ideal S4x1024x32x64 .f32) (ix4 b s j o) = g j) :
    (after hostOps0_10 (after hostOps0_9 V) (Proc.devRef .tc main_v74) : FVec Ideal S4x64x1024 .f32) (ix3 b o s)
      = Finset.univ.fold max ⊥ fun j : Fin 32 => max (g j) 0 := by
  rw [largest_array]
  generalize (V (Proc.devRef .tc main_v71) : FVec Ideal S4x1024x32x64 .f32) = v at h
  pointwise []
  rw [Cert.Sampling.ofBits_minus_inf]
  refine (Shape.ReducesTo.fold_fiber_r4_a2 reducesTo_S4x1024x32x64_S4x1024x64_d2 (ix3 b s o) (max : EReal → EReal → EReal) ⊥ _).trans ?_
  exact congrArg (fun u : Fin 32 → EReal => Finset.fold max ⊥ u Finset.univ) (funext fun j => congrArg (max · 0) (h j))

end Cert.ReferenceIdeal.Value
-- ==== Proof.Reference.SecondResult.lean ====
module

public import proofs.«01_k».proof.Proof.Reference.Keys
public import proofs.«01_k».proof.Proof.Reference.Grouping

/-!
The reference's second result: the grouped features.
-/

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem Idealize.ShloMosaic.StableHlo Cert.Sampling Cert.Model Cert.Ball Cert.Query

variable (m : (ℓ : Loc nD τ sig) → Buf (Elt Ideal) ℓ)

/-- The arguments, at the shapes the mathematics is stated at. -/
abbrev points (c : Dev nD) : Points := m ((c.tc : Thread nD τ).loc main_arg0)
abbrev features (c : Dev nD) : Features := m ((c.tc : Thread nD τ).loc main_arg1)
abbrev weights (c : Dev nD) : Weights := m ((c.tc : Thread nD τ).loc main_arg2)
abbrev bias (c : Dev nD) : Bias := m ((c.tc : Thread nD τ).loc main_arg3)

/-- The contents once the positions kept are known. -/
abbrev keptContents (c : Dev nD) : Valuation τ sig (Elt Ideal) :=
  after hostOps0_7 (after hostOps0_6 (after hostOps0_5 (after hostOps0_4 (after hostOps0_3 (sampledContents m c)))))

/-- A buffer that no operation between the sampled points and the positions kept writes. -/
theorem kept_of_not_written (V : Valuation τ sig (Elt Ideal)) (r : Ref sig .tc) (h3 : r ∉ hostOps0_3_W) (h4 : r ∉ hostOps0_4_W)
    (h5 : r ∉ hostOps0_5_W) (h6 : r ∉ hostOps0_6_W) (h7 : r ∉ hostOps0_7_W) :
    after hostOps0_7 (after hostOps0_6 (after hostOps0_5 (after hostOps0_4 (after hostOps0_3 V)))) (Proc.devRef .tc r)
      = V (Proc.devRef .tc r) := by
  rw [after_of_writes_sub hostOps0_7 _ hostOps0_7_writes h7, after_of_writes_sub hostOps0_6 _ hostOps0_6_writes h6,
    after_of_writes_sub hostOps0_5 _ hostOps0_5_writes h5, after_of_writes_sub hostOps0_4 _ hostOps0_4_writes h4,
    after_of_writes_sub hostOps0_3 _ hostOps0_3_writes h3]

/-- The arguments are still what they were when the points are sampled. -/
theorem sampled_arg0 (c : Dev nD) : sampledContents m c (Proc.devRef .tc main_arg0) = points m c :=
  (keep_main_arg0_hostOps0_2 _).trans ((keep_main_arg0_hostOps0_1 _).trans (exit_arg0 m c))
theorem sampled_arg1 (c : Dev nD) : sampledContents m c (Proc.devRef .tc main_arg1) = features m c :=
  (keep_main_arg1_hostOps0_2 _).trans ((keep_main_arg1_hostOps0_1 _).trans (exit_arg1 m c))
theorem sampled_arg2 (c : Dev nD) : sampledContents m c (Proc.devRef .tc main_arg2) = weights m c :=
  (keep_main_arg2_hostOps0_2 _).trans ((keep_main_arg2_hostOps0_1 _).trans (exit_arg2 m c))
theorem sampled_arg3 (c : Dev nD) : sampledContents m c (Proc.devRef .tc main_arg3) = bias m c :=
  (keep_main_arg3_hostOps0_2 _).trans ((keep_main_arg3_hostOps0_1 _).trans (exit_arg3 m c))

/-- The order of the points of a cloud by their keys for a centroid. -/
abbrev byKey (c : Dev nD) (b : Fin 4) (s : Fin 1024) : Fin 8192 → Fin 8192 :=
  order (keys (ball (cloud (points m c) b) (centroid (points m c) b s)))

/-- The positions kept, as words. -/
theorem kept_words (c : Dev nD) (b : Fin 4) (s : Fin 1024) (j : Fin 32) :
    (keptContents m c (Proc.devRef .tc main_v30) : IVec S4x1024x32 32) (ix3 b s j)
      = BitVec.ofNat 32 (pick (ball (cloud (points m c) b) (centroid (points m c) b s)) (byKey m c b s) ⟨j.val, by omega⟩) :=
  kept_at _ b s j _ _ fun i => sorted_at _ b s i _ fun n =>
    keys_at _ b s n _ (points m c) (fun k => sampled_points m c b s k) (sampled_arg0 m c)

/-- With finite coordinates a centroid lies in its own ball. -/
theorem centroid_in (X : Points) (b : Fin 4) (s : Fin 1024) (hX : ∀ n k, Real (X (ix3 b n k))) :
    ball (cloud X b) (centroid X b s) (sampled (cloud X b) s.val).val :=
  ⟨(sampled (cloud X b) s.val).isLt, within_self (centroid X b s) fun k => hX _ k⟩

/-- With finite coordinates each position kept is a position of the cloud. -/
theorem kept_lt (c : Dev nD) (b : Fin 4) (s : Fin 1024) (hX : ∀ n k, Real (points m c (ix3 b n k))) (j : Fin 32) :
    pick (ball (cloud (points m c) b) (centroid (points m c) b s)) (byKey m c b s) ⟨j.val, by omega⟩ < 8192 :=
  pick_lt _ (sampled (cloud (points m c) b) s.val) (centroid_in _ b s hX) ⟨j.val, by omega⟩ j.isLt

/-- The second result. -/
theorem second_result (c : Dev nD) (b : Fin 4) (o : Fin 64) (s : Fin 1024) (hX : ∀ n k, Real (points m c (ix3 b n k)))
    (hw : ∀ k : Fin 3, Real (weights m c (ix2 o ⟨k.val, by omega⟩))) :
    (afterL postI (exitContents m c) (Proc.devRef .tc main_v74) : FVec Ideal S4x64x1024 .f32) (ix3 b o s)
      = grouped (points m c) (features m c) (weights m c) (bias m c) b s o := by
  simp only [afterL_cons, afterL_nil]
  have hk (r : Ref sig .tc) := kept_of_not_written (sampledContents m c) r
  have hc : (fun k => (keptContents m c (Proc.devRef .tc main_v6) : FVec Ideal S4x1024x3 .f32) (ix3 b s k))
      = centroid (points m c) b s := funext fun k =>
    (congrFun (hk main_v6 (by decide +kernel) (by decide +kernel) (by decide +kernel) (by decide +kernel) (by decide +kernel)) _).trans
      (sampled_points m c b s k)
  refine (largest_at _ b s o (fun j => layer (points m c) (features m c) (weights m c) (bias m c) b (centroid (points m c) b s) o
    ⟨_, kept_lt m c b s hX j⟩) fun j => ?_).trans
    (grouped_eq _ _ _ _ b s o hX hw (byKey m c b s) (by_key_bijective _) (by_key_sorted _)
      (fun j => ⟨_, kept_lt m c b s hX j⟩) fun j => rfl)
  refine Eq.trans ?_ (congrArg (fun u => layer (points m c) (features m c) (weights m c) (bias m c) b u o ⟨_, kept_lt m c b s hX j⟩) hc)
  exact layer_at (keptContents m c) _ b s j ⟨_, kept_lt m c b s hX j⟩ _ (points m c) (features m c) (weights m c) (bias m c)
    ((hk main_arg0 (by decide +kernel) (by decide +kernel) (by decide +kernel) (by decide +kernel) (by decide +kernel)).trans (sampled_arg0 m c))
    ((hk main_arg1 (by decide +kernel) (by decide +kernel) (by decide +kernel) (by decide +kernel) (by decide +kernel)).trans (sampled_arg1 m c))
    ((hk main_arg2 (by decide +kernel) (by decide +kernel) (by decide +kernel) (by decide +kernel) (by decide +kernel)).trans (sampled_arg2 m c))
    ((hk main_arg3 (by decide +kernel) (by decide +kernel) (by decide +kernel) (by decide +kernel) (by decide +kernel)).trans (sampled_arg3 m c))
    rfl rfl (kept_words m c b s j) o

end Cert.ReferenceIdeal.Value
-- ==== Proof.Ideal.Region0.lean ====
/- The sampling kernel's region: what its body leaves in the output block, and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__fps_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1x3x64x128 := Rect.unit (s := S1x3x64x128) ![0, 0, 0, 0] S1x1x64x128.size inb_S1x3x64x128_S1x1x64x128_0_0_0_0
abbrev r0_1 : Rect S1x3x64x128 := Rect.unit (s := S1x3x64x128) ![0, 1, 0, 0] S1x1x64x128.size inb_S1x3x64x128_S1x1x64x128_0_1_0_0
abbrev r0_2 : Rect S1x3x64x128 := Rect.unit (s := S1x3x64x128) ![0, 2, 0, 0] S1x1x64x128.size inb_S1x3x64x128_S1x1x64x128_0_2_0_0
abbrev r0_3 : Rect S1x3x1024 := Rect.unit (s := S1x3x1024) ![0, 0, 0] S1x1x1024.size inb_S1x3x1024_S1x1x1024_0_0_0
abbrev r0_4 : Rect S1x3x1024 := Rect.unit (s := S1x3x1024) ![0, 1, 0] S1x1x1024.size inb_S1x3x1024_S1x1x1024_0_1_0
abbrev r0_5 : Rect S1x3x1024 := Rect.unit (s := S1x3x1024) ![0, 2, 0] S1x1x1024.size inb_S1x3x1024_S1x1x1024_0_2_0

/-! ## What the body leaves in each output window's buffer -/

/-- One trip of the sampling loop as a function of the carried values: the distances, the index of the point
    taken next and the three rows of coordinates taken so far. -/
def fpsTrip (v0 v2 v4 : Vec F S1x1x64x128 .f32) (v11 : IVec S1x1024 32) (k : Fin k0_t1_loop.trips)
    (a : FVec F S64x128 .f32 × BitVec 32 × FVec F S1x1024 .f32 × FVec F S1x1024 .f32 × FVec F S1x1024 .f32) :
    FVec F S64x128 .f32 × BitVec 32 × FVec F S1x1024 .f32 × FVec F S1x1024 .f32 × FVec F S1x1024 .f32 :=
  (k0_pay19 (k0_pay1 v0) (k0_pay2 v2) (k0_pay3 v4) k0_pay4 a.1 a.2.1,
   extractAt ![0, 0, 0] (k0_pay7 (k0_pay20 (k0_pay1 v0) (k0_pay2 v2) (k0_pay3 v4) k0_pay4 a.1 a.2.1)) inpos_S1x1x1_p0_0_0,
   k0_pay16 (k0_pay1 v0) k0_pay4 v11 0#32 1#32 k a.2.1 a.2.2.1,
   k0_pay17 (k0_pay2 v2) k0_pay4 v11 0#32 1#32 k a.2.1 a.2.2.2.1,
   k0_pay18 (k0_pay3 v4) k0_pay4 v11 0#32 1#32 k a.2.1 a.2.2.2.2)

/-- The loop's region does nothing but return that. -/
theorem k0_t1_body_eq (i : grid0.Coords) (arg1 : Memref sig .tc .vmem S1x3x64x128 .f32) (harg1 : arg1.IsWhole) (arg2 : Memref sig .tc .vmem S1x3x1024 .f32) (harg2 : arg2.IsWhole)
    (v0 v2 v4 : Vec F S1x1x64x128 .f32) (v11 : IVec S1x1024 32) :
    k0_t1_body i arg1 harg1 arg2 harg2 v0 v2 v4 v11
      = fun k a => .ret (fpsTrip v0 v2 v4 v11 k a) := by
  unfold k0_t1_body; rw [k0_part1_eq_skeleton]; rfl

/-- What the sampling loop carries out after its last trip. -/
def fpsFold (x0 : Vec F S1x3x64x128 .f32) :
    FVec F S64x128 .f32 × BitVec 32 × FVec F S1x1024 .f32 × FVec F S1x1024 .f32 × FVec F S1x1024 .f32 :=
  Scf.fold (fpsTrip (View.ld x0 r0_0) (View.ld x0 r0_1) (View.ld x0 r0_2) (iota .tc S1x1024 32 [1] iota_S1x1024_d1_w32)) (k0_pay5 (F := F), 0#32, k0_pay6 (F := F), k0_pay6 (F := F), k0_pay6 (F := F))

/-- Window 1's staging buffer after the body, from the input window's block: one stored row per coordinate, the last
    store first. -/
def out0_1 (x0 : Vec F S1x3x64x128 .f32) : Vec F S1x3x1024 .f32 :=
  View.canon [⟨r0_5, k0_pay10 (fpsFold x0).2.2.2.2⟩, ⟨r0_4, k0_pay9 (fpsFold x0).2.2.2.1⟩, ⟨r0_3, k0_pay8 (fpsFold x0).2.2.1⟩]

/-- Its stores tile the buffer (checked by evaluation), so they cover it. -/
theorem cover0_1 (p0 : Vec F S1x1x1024 .f32) (p1 : Vec F S1x1x1024 .f32) (p2 : Vec F S1x1x1024 .f32) (y : S1x3x1024.Idx) :
    ∃ pc ∈ ([⟨r0_5, p0⟩, ⟨r0_4, p1⟩, ⟨r0_3, p2⟩] : List (View.Piece (Elt F) S1x3x1024 .f32)), y ∈ pc.1.set :=
  View.cover_of_tiled [⟨r0_5, p0⟩, ⟨r0_4, p1⟩, ⟨r0_3, p2⟩] S1x1x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x3x64x128 .f32) (harg1 : arg1.IsWhole) (arg2 : Memref sig .tc .vmem S1x3x1024 .f32) (harg2 : arg2.IsWhole)
    (x0 : Vec F S1x3x64x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__fps_kernel i arg1 harg1 arg2 harg2) K := by
  simp only [cc0__fps_kernel_eq_skeleton]; unfold cc0__fps_kernel_skel
  simp only [k0_t1_body_eq]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ (cover0_1 _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Ideal.Region1.lean ====
/- The grouping kernel's region: what its body leaves in the output block, and the body's obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__group_mlp_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x67x8192 := Rect.unit (s := S1x67x8192) ![0, 0, 0] S1x67x8192.size inb_S1x67x8192_S1x67x8192_0_0_0
abbrev r1_1 : Rect S64x67 := Rect.unit (s := S64x67) ![0, 0] S64x67.size inb_S64x67_S64x67_0_0
abbrev r1_2 : Rect S64x1 := Rect.unit (s := S64x1) ![0, 0] S64x1.size inb_S64x1_S64x1_0_0
abbrev r1_3 : Rect S1x3x128 := Rect.unit (s := S1x3x128) ![0, 0, 0] S1x3x128.size inb_S1x3x128_S1x3x128_0_0_0
abbrev r1_4 : Rect S1x128x64 := Rect.unit (s := S1x128x64) ![0, 0, 0] S1x128x64.size inb_S1x128x64_S1x128x64_0_0_0

/-! ## What the body leaves in each output window's buffer -/

/-! ### Values the body binds on the way, over the input windows' blocks -/

/-- The lane numbers. -/
def laneIota (x0 : Vec F S1x67x8192 .f32) (x1 : Vec F S1x3x128 .f32) (x2 : Vec F S64x67 .f32) (x3 : Vec F S64x1 .f32) : IVec S128x8192 32 :=
  iota .tc S128x8192 32 [1] iota_S128x8192_d1_w32 -- `v30`
/-- `W1 · G + b1`, one column per point. -/
def projected (x0 : Vec F S1x67x8192 .f32) (x1 : Vec F S1x3x128 .f32) (x2 : Vec F S64x67 .f32) (x3 : Vec F S64x1 .f32) : FVec F S64x8192 .f32 :=
  k1_pay5 (View.ld x0 r1_0) (View.ld x2 r1_1) (View.ld x3 r1_2) -- `v10`
/-- Whether a point lies in a centroid's ball. -/
def inBall (x0 : Vec F S1x67x8192 .f32) (x1 : Vec F S1x3x128 .f32) (x2 : Vec F S64x67 .f32) (x3 : Vec F S64x1 .f32) : IVec S128x8192 1 :=
  k1_pay8 (View.ld x0 r1_0) (View.ld x1 r1_3) -- `v29`
/-- The same as a word, 0 or 1. -/
def inBallWord (x0 : Vec F S1x67x8192 .f32) (x1 : Vec F S1x3x128 .f32) (x2 : Vec F S64x67 .f32) (x3 : Vec F S64x1 .f32) : IVec S128x8192 32 :=
  k1_pay9 (View.ld x0 r1_0) (View.ld x1 r1_3) -- `v31`
/-- The words moved one lane up. -/
def shifted1 (x0 : Vec F S1x67x8192 .f32) (x1 : Vec F S1x3x128 .f32) (x2 : Vec F S64x67 .f32) (x3 : Vec F S64x1 .f32) : IVec S128x8192 32 :=
  k1_pay10 (View.ld x0 r1_0) (View.ld x1 r1_3) -- `v38`
/-- The counts over windows of 64 lanes. -/
def count32 (x0 : Vec F S1x67x8192 .f32) (x1 : Vec F S1x3x128 .f32) (x2 : Vec F S64x67 .f32) (x3 : Vec F S64x1 .f32) : IVec S128x8192 32 :=
  k1_pay11 (laneIota x0 x1 x2 x3) (inBallWord x0 x1 x2 x3) (shifted1 x0 x1 x2 x3) -- `v79`
/-- Those moved 64 lanes up. -/
def shifted64 (x0 : Vec F S1x67x8192 .f32) (x1 : Vec F S1x3x128 .f32) (x2 : Vec F S64x67 .f32) (x3 : Vec F S64x1 .f32) : IVec S128x8192 32 :=
  k1_pay12 (laneIota x0 x1 x2 x3) (inBallWord x0 x1 x2 x3) (shifted1 x0 x1 x2 x3) -- `v86`
/-- The counts over windows of 4096 lanes. -/
def count2048 (x0 : Vec F S1x67x8192 .f32) (x1 : Vec F S1x3x128 .f32) (x2 : Vec F S64x67 .f32) (x3 : Vec F S64x1 .f32) : IVec S128x8192 32 :=
  k1_pay13 (laneIota x0 x1 x2 x3) (count32 x0 x1 x2 x3) (shifted64 x0 x1 x2 x3) -- `v127`
/-- Those moved 4096 lanes up. -/
def shifted4096 (x0 : Vec F S1x67x8192 .f32) (x1 : Vec F S1x3x128 .f32) (x2 : Vec F S64x67 .f32) (x3 : Vec F S64x1 .f32) : IVec S128x8192 32 :=
  k1_pay14 (laneIota x0 x1 x2 x3) (count32 x0 x1 x2 x3) (shifted64 x0 x1 x2 x3) -- `v134`
/-- The points of the ball among its first 32. -/
def kept (x0 : Vec F S1x67x8192 .f32) (x1 : Vec F S1x3x128 .f32) (x2 : Vec F S64x67 .f32) (x3 : Vec F S64x1 .f32) : IVec S128x8192 1 :=
  k1_pay15 (inBall x0 x1 x2 x3) (count2048 x0 x1 x2 x3) (shifted4096 x0 x1 x2 x3) -- `v138`

/-- Window 4's staging buffer after the body, from the input windows' blocks: its 1 store as pieces, LAST
    FIRST (Lib/Pipeline/FrameBody.lean `View.canon`; the payloads are the skeleton's and the values stated above). -/
def out1_4 (x0 : Vec F S1x67x8192 .f32) (x1 : Vec F S1x3x128 .f32) (x2 : Vec F S64x67 .f32) (x3 : Vec F S64x1 .f32) : Vec F S1x128x64 .f32 :=
  View.canon [⟨r1_4, k1_pay1 (k1_pay90 (k1_pay4 (View.ld x2 r1_1)) (k1_pay7 (View.ld x1 r1_3)) (k1_pay89 (k1_pay16 (projected x0 x1 x2 x3) (inBall x0 x1 x2 x3) (count2048 x0 x1 x2 x3) (shifted4096 x0 x1 x2 x3)) (k1_pay17 (projected x0 x1 x2 x3) (inBall x0 x1 x2 x3) (count2048 x0 x1 x2 x3) (shifted4096 x0 x1 x2 x3)) (k1_pay18 (projected x0 x1 x2 x3) (inBall x0 x1 x2 x3) (count2048 x0 x1 x2 x3) (shifted4096 x0 x1 x2 x3)) (k1_pay19 (projected x0 x1 x2 x3) (inBall x0 x1 x2 x3) (count2048 x0 x1 x2 x3) (shifted4096 x0 x1 x2 x3)) (k1_pay20 (projected x0 x1 x2 x3) (inBall x0 x1 x2 x3) (count2048 x0 x1 x2 x3) (shifted4096 x0 x1 x2 x3)) (k1_pay21 (projected x0 x1 x2 x3) (inBall x0 x1 x2 x3) (count2048 x0 x1 x2 x3) (shifted4096 x0 x1 x2 x3)) (k1_pay23 (kept x0 x1 x2 x3) (k1_pay22 (projected x0 x1 x2 x3))) (k1_pay24 (projected x0 x1 x2 x3) (kept x0 x1 x2 x3)) (k1_pay25 (projected x0 x1 x2 x3) (kept x0 x1 x2 x3)) (k1_pay26 (projected x0 x1 x2 x3) (kept x0 x1 x2 x3)) (k1_pay27 (projected x0 x1 x2 x3) (kept x0 x1 x2 x3)) (k1_pay28 (projected x0 x1 x2 x3) (kept x0 x1 x2 x3)) (k1_pay30 (k1_pay29 (projected x0 x1 x2 x3) (kept x0 x1 x2 x3))) (k1_pay31 (projected x0 x1 x2 x3) (kept x0 x1 x2 x3)) (k1_pay32 (projected x0 x1 x2 x3) (kept x0 x1 x2 x3)) (k1_pay33 (projected x0 x1 x2 x3) (kept x0 x1 x2 x3)) (k1_pay34 (projected x0 x1 x2 x3) (kept x0 x1 x2 x3)) (k1_pay35 (projected x0 x1 x2 x3) (kept x0 x1 x2 x3)) (k1_pay36 (projected x0 x1 x2 x3) (kept x0 x1 x2 x3)) (k1_pay38 (kept x0 x1 x2 x3) (Named.named κ "mask" 0xF149F2CA#32) (k1_pay37 (projected x0 x1 x2 x3))) (k1_pay39 (projected x0 x1 x2 x3) (kept x0 x1 x2 x3)) (k1_pay40 (projected x0 x1 x2 x3) (kept x0 x1 x2 x3)) (k1_pay41 (projected x0 x1 x2 x3) (kept x0 x1 x2 x3)) (k1_pay42 (projected x0 x1 x2 x3) (kept x0 x1 x2 x3)) (k1_pay43 (projected x0 x1 x2 x3) (kept x0 x1 x2 x3)) (k1_pay44 (projected x0 x1 x2 x3) (kept x0 x1 x2 x3)) (k1_pay46 (kept x0 x1 x2 x3) (k1_pay45 (projected x0 x1 x2 x3))) (k1_pay47 (projected x0 x1 x2 x3) (kept x0 x1 x2 x3)) (k1_pay48 (projected x0 x1 x2 x3) (kept x0 x1 x2 x3)) (k1_pay49 (projected x0 x1 x2 x3) (kept x0 x1 x2 x3)) (k1_pay50 (projected x0 x1 x2 x3) (kept x0 x1 x2 x3)) (k1_pay51 (projected x0 x1 x2 x3) (kept x0 x1 x2 x3)) (k1_pay53 (k1_pay52 (projected x0 x1 x2 x3) (kept x0 x1 x2 x3))) (k1_pay54 (projected x0 x1 x2 x3) (kept x0 x1 x2 x3)) (k1_pay55 (projected x0 x1 x2 x3) (kept x0 x1 x2 x3)) (k1_pay56 (projected x0 x1 x2 x3) (kept x0 x1 x2 x3)) (k1_pay57 (projected x0 x1 x2 x3) (kept x0 x1 x2 x3)) (k1_pay58 (projected x0 x1 x2 x3) (kept x0 x1 x2 x3)) (k1_pay59 (projected x0 x1 x2 x3) (kept x0 x1 x2 x3)) (k1_pay61 (kept x0 x1 x2 x3) (Named.named κ "mask" 0xF149F2CA#32) (k1_pay60 (projected x0 x1 x2 x3))) (k1_pay62 (projected x0 x1 x2 x3) (kept x0 x1 x2 x3)) (k1_pay63 (projected x0 x1 x2 x3) (kept x0 x1 x2 x3)) (k1_pay64 (projected x0 x1 x2 x3) (kept x0 x1 x2 x3)) (k1_pay65 (projected x0 x1 x2 x3) (kept x0 x1 x2 x3)) (k1_pay66 (projected x0 x1 x2 x3) (kept x0 x1 x2 x3)) (k1_pay67 (projected x0 x1 x2 x3) (kept x0 x1 x2 x3)) (k1_pay69 (kept x0 x1 x2 x3) (k1_pay68 (projected x0 x1 x2 x3))) (k1_pay70 (projected x0 x1 x2 x3) (kept x0 x1 x2 x3)) (k1_pay71 (projected x0 x1 x2 x3) (kept x0 x1 x2 x3)) (k1_pay72 (projected x0 x1 x2 x3) (kept x0 x1 x2 x3)) (k1_pay73 (projected x0 x1 x2 x3) (kept x0 x1 x2 x3)) (k1_pay74 (projected x0 x1 x2 x3) (kept x0 x1 x2 x3)) (k1_pay76 (k1_pay75 (projected x0 x1 x2 x3) (kept x0 x1 x2 x3))) (k1_pay77 (projected x0 x1 x2 x3) (kept x0 x1 x2 x3)) (k1_pay78 (projected x0 x1 x2 x3) (kept x0 x1 x2 x3)) (k1_pay79 (projected x0 x1 x2 x3) (kept x0 x1 x2 x3)) (k1_pay80 (projected x0 x1 x2 x3) (kept x0 x1 x2 x3)) (k1_pay81 (projected x0 x1 x2 x3) (kept x0 x1 x2 x3)) (k1_pay82 (projected x0 x1 x2 x3) (kept x0 x1 x2 x3)) (k1_pay84 (kept x0 x1 x2 x3) (Named.named κ "mask" 0xF149F2CA#32) (k1_pay83 (projected x0 x1 x2 x3))) (k1_pay85 (projected x0 x1 x2 x3) (kept x0 x1 x2 x3)) (k1_pay86 (projected x0 x1 x2 x3) (kept x0 x1 x2 x3)) (k1_pay87 (projected x0 x1 x2 x3) (kept x0 x1 x2 x3)) (k1_pay88 (projected x0 x1 x2 x3) (kept x0 x1 x2 x3)))) (k1_pay91 (F := F))⟩]

/-- Its stores tile the buffer (checked by evaluation), so they cover it. -/
theorem cover1_4 (p0 : Vec F S1x128x64 .f32) (y : S1x128x64.Idx) :
    ∃ pc ∈ ([⟨r1_4, p0⟩] : List (View.Piece (Elt F) S1x128x64 .f32)), y ∈ pc.1.set :=
  View.cover_of_tiled [⟨r1_4, p0⟩] S1x128x64.size (by rfl) y

/-! ## The body's triple -/

set_option maxHeartbeats 2796550 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1x67x8192 .f32) (harg2 : arg2.IsWhole) (arg3 : Memref sig .tc .vmem S1x3x128 .f32) (harg3 : arg3.IsWhole) (arg4 : Memref sig .tc .vmem S64x67 .f32) (harg4 : arg4.IsWhole) (arg5 : Memref sig .tc .vmem S64x1 .f32) (harg5 : arg5.IsWhole) (arg6 : Memref sig .tc .vmem S1x128x64 .f32) (harg6 : arg6.IsWhole)
    (x0 : Vec F S1x67x8192 .f32) (x1 : Vec F S1x3x128 .f32) (x2 : Vec F S64x67 .f32) (x3 : Vec F S64x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3)) -∗ K ⟨⟩))
      ⊢ wp frame (wpE (defs₀ (F := F)) Variants.none c none) E (cc1__group_mlp_kernel i arg2 harg2 arg3 harg3 arg4 harg4 arg5 harg5 arg6 harg6) K := by
  simp only [cc1__group_mlp_kernel_eq_skeleton]; unfold cc1__group_mlp_kernel_skel
  simp only [k1_part13_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Ideal.Run.lean ====
/- The run of the whole program: the two regions between stretches of host operations, and the arrays at its end. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Ideal.Region0
public import proofs.«01_k».proof.Proof.Ideal.Region1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v3, main_v4]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

theorem W5_main_arg0 (c : Dev nD) : W5 m ρ c (Proc.devRef .tc main_arg0) = m ((c : Thread nD τ).loc main_arg0) :=
  W5_args m ρ c main_arg0 (by decide)
theorem W5_main_arg1 (c : Dev nD) : W5 m ρ c (Proc.devRef .tc main_arg1) = m ((c : Thread nD τ).loc main_arg1) :=
  W5_args m ρ c main_arg1 (by decide)
theorem W5_main_arg2 (c : Dev nD) : W5 m ρ c (Proc.devRef .tc main_arg2) = m ((c : Thread nD τ).loc main_arg2) :=
  W5_args m ρ c main_arg2 (by decide)
theorem W5_main_arg3 (c : Dev nD) : W5 m ρ c (Proc.devRef .tc main_arg3) = m ((c : Thread nD τ).loc main_arg3) :=
  W5_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The run of the whole program at any float semantics: every weakly fair execution terminates without a fault, each
    unscoped buffer of each core ends at the last boundary's contents `W5`, and every semaphore counter ends at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: every weakly fair execution terminates without a fault, the argument arrays end as launched and every
    semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c)⟩, h.2⟩) (run_all m ρ)

end Cert.KernelIdeal.Gen

end
-- ==== Proof.Ideal.SamplingValue.lean ====
/- What the sampling kernel's loop computes: the rows of coordinates of the sampled points. -/
module

public import proofs.«01_k».proof.Proof.Ideal.Region0
public import proofs.«01_k».proof.Proof.Math.Sampling
public import Idealize.ShloMosaic.Lib.Pointwise
public import Idealize.ShloMosaic.Lib.Pipeline.ValueKit

@[expose] public section

set_option maxRecDepth 16384

noncomputable section

namespace Cert.KernelIdeal.Gen

open Idealize.ShloMosaic Cert.Sampling

/-! ## The words -/

/-- The word at row `r` and lane `l` of the kernel's table of positions is the point's index. -/
theorem position_at (r : Fin 64) (l : Fin 128) : k0_pay4 (ix2 r l) = BitVec.ofNat 32 (flat r l).val := by
  pointwise [k0_pay4]
  apply BitVec.eq_of_toNat_eq
  simp only [IntOp.addi, IntOp.muli, flat, BitVec.toNat_add, BitVec.toNat_mul, BitVec.toNat_ofNat]
  omega

/-- A comparison for equality, widened and turned into a number: one where the words agree, zero elsewhere. -/
theorem indicator_word (v w : BitVec 32) :
    (FloatOps.sitofp FTy.f32 (BitVec.setWidth 32 (IntOp.cmpi CmpIPredicate.eq v w)) : Ideal .f32) = if v = w then (1 : EReal) else 0 := by
  rw [WordCmp.cmpi_eq_eq]
  by_cases h : v = w
  · simp [h, FloatOps.sitofp]
  · simp [h, FloatOps.sitofp]

theorem ofNat_point_inj {a b : Fin 8192} (h : BitVec.ofNat 32 a.val = BitVec.ofNat 32 b.val) : a = b := by
  rw [WordCmp.ofNat_eq_ofNat_iff (by omega) (by omega)] at h
  exact Fin.ext h

/-- The one-hot row of a point: one at its position, zero elsewhere. -/
theorem oneHot_at (f : Fin 8192) (r : Fin 64) (l : Fin 128) :
    k0_pay11 (F := Ideal) k0_pay4 (BitVec.ofNat 32 f.val) (ix2 r l) = if flat r l = f then (1 : EReal) else 0 := by
  pointwise [k0_pay11]
  rw [indicator_word, position_at]
  by_cases h : flat r l = f
  · rw [if_pos (by rw [h]), if_pos h]
  · rw [if_neg (fun e => h (ofNat_point_inj e)), if_neg h]

/-- A sum against a point's one-hot row is the entry at the point. -/
theorem sum_oneHot (x : FVec Ideal S64x128 .f32) (f : Fin 8192) :
    (∑ r : Fin 64, ∑ l : Fin 128, x (ix2 r l) * k0_pay11 (F := Ideal) k0_pay4 (BitVec.ofNat 32 f.val) (ix2 r l) : EReal)
      = x (ix2 (rowOf f) (laneOf f)) := by
  rw [Finset.sum_eq_single (rowOf f), Finset.sum_eq_single (laneOf f)]
  · rw [oneHot_at, flat_rowOf_laneOf, if_pos rfl]; exact mul_one _
  · intro l _ hl
    rw [oneHot_at, if_neg]
    · exact mul_zero _
    · intro h
      exact hl (flat_inj (h.trans (flat_rowOf_laneOf f).symm)).2
  · intro h; exact absurd (Finset.mem_univ _) h
  · intro r _ hr
    refine Finset.sum_eq_zero fun l _ => ?_
    rw [oneHot_at, if_neg]
    · exact mul_zero _
    · intro h
      exact hr (flat_inj (h.trans (flat_rowOf_laneOf f).symm)).1
  · intro h; exact absurd (Finset.mem_univ _) h

theorem taken_x (x : FVec Ideal S64x128 .f32) (f : Fin 8192) :
    k0_pay12 (F := Ideal) x k0_pay4 (BitVec.ofNat 32 f.val) = x (ix2 (rowOf f) (laneOf f)) := by
  refine Eq.trans ?_ (sum_oneHot x f); pointwise [k0_pay12]

theorem taken_y (x : FVec Ideal S64x128 .f32) (f : Fin 8192) :
    k0_pay13 (F := Ideal) x k0_pay4 (BitVec.ofNat 32 f.val) = x (ix2 (rowOf f) (laneOf f)) := by
  refine Eq.trans ?_ (sum_oneHot x f); pointwise [k0_pay13]

theorem taken_z (x : FVec Ideal S64x128 .f32) (f : Fin 8192) :
    k0_pay14 (F := Ideal) x k0_pay4 (BitVec.ofNat 32 f.val) = x (ix2 (rowOf f) (laneOf f)) := by
  refine Eq.trans ?_ (sum_oneHot x f); pointwise [k0_pay14]

/-- The trip's one-hot row: one at the trip's position, zero elsewhere. -/
theorem trip_at (k : Fin k0_t1_loop.trips) (s : Fin 1024) :
    k0_pay15 (F := Ideal) (iota .tc S1x1024 32 [1] iota_S1x1024_d1_w32) 0#32 1#32 k (ix2 0 s)
      = if s.val = k.val then (1 : EReal) else 0 := by
  have hk : k.val < 1024 := k.isLt
  pointwise [k0_pay15]
  rw [indicator_word]
  have hw : Scf.iv 0#32 1#32 k.val = BitVec.ofNat 32 k.val := by
    simp [Scf.iv]
  simp only [hw, WordCmp.ofNat_eq_ofNat_iff (w := 32) (a := s.val) (b := k.val) (by omega) (by omega)]

/-! ## One trip -/

/-- The cloud that a block of three coordinate planes holds. -/
def cloudOf (x0 : Vec Ideal S1x3x64x128 .f32) : Cloud := fun n k => x0 (ix4 0 k (rowOf n) (laneOf n))

theorem plane_x (x0 : Vec Ideal S1x3x64x128 .f32) (r : Fin 64) (l : Fin 128) :
    k0_pay1 (F := Ideal) (View.ld x0 r0_0) (ix2 r l) = x0 (ix4 0 0 r l) := by pointwise [k0_pay1]
theorem plane_y (x0 : Vec Ideal S1x3x64x128 .f32) (r : Fin 64) (l : Fin 128) :
    k0_pay2 (F := Ideal) (View.ld x0 r0_1) (ix2 r l) = x0 (ix4 0 1 r l) := by pointwise [k0_pay2]
theorem plane_z (x0 : Vec Ideal S1x3x64x128 .f32) (r : Fin 64) (l : Fin 128) :
    k0_pay3 (F := Ideal) (View.ld x0 r0_2) (ix2 r l) = x0 (ix4 0 2 r l) := by pointwise [k0_pay3]

theorem rowOf_flat (r : Fin 64) (l : Fin 128) : rowOf (flat r l) = r := Fin.ext (by simp only [flat, rowOf]; omega)
theorem laneOf_flat (r : Fin 64) (l : Fin 128) : laneOf (flat r l) = l := Fin.ext (by simp only [flat, laneOf]; omega)

/-- What the loop carries after `s` points are taken: the distances, the word of the next point, and the rows
    of the coordinates of the points taken so far, zero behind them. -/
structure Carries (x0 : Vec Ideal S1x3x64x128 .f32) (s : ℕ)
    (a : FVec Ideal S64x128 .f32 × BitVec 32 × FVec Ideal S1x1024 .f32 × FVec Ideal S1x1024 .f32 × FVec Ideal S1x1024 .f32) : Prop where
  dist : ∀ r l, a.1 (ix2 r l) = (state (cloudOf x0) s).1 (flat r l)
  next : a.2.1 = BitVec.ofNat 32 (sampled (cloudOf x0) s).val
  rowX : ∀ i : Fin 1024, a.2.2.1 (ix2 0 i) = if i.val < s then cloudOf x0 (sampled (cloudOf x0) i) 0 else 0
  rowY : ∀ i : Fin 1024, a.2.2.2.1 (ix2 0 i) = if i.val < s then cloudOf x0 (sampled (cloudOf x0) i) 1 else 0
  rowZ : ∀ i : Fin 1024, a.2.2.2.2 (ix2 0 i) = if i.val < s then cloudOf x0 (sampled (cloudOf x0) i) 2 else 0

/-- The new distances. -/
theorem closer_at (x0 : Vec Ideal S1x3x64x128 .f32) (d : FVec Ideal S64x128 .f32) (f : Fin 8192) (e : Fin 8192 → EReal)
    (hd : ∀ r l, d (ix2 r l) = e (flat r l)) (r : Fin 64) (l : Fin 128) :
    k0_pay19 (F := Ideal) (k0_pay1 (View.ld x0 r0_0)) (k0_pay2 (View.ld x0 r0_1)) (k0_pay3 (View.ld x0 r0_2)) k0_pay4 d
        (BitVec.ofNat 32 f.val) (ix2 r l)
      = closer (cloudOf x0) e f (flat r l) := by
  pointwise [k0_pay19]
  rw [taken_x, taken_y, taken_z, plane_x, plane_y, plane_z, plane_x, plane_y, plane_z, hd]
  simp only [closer, sqDist, Fin.sum_univ_three, cloudOf, rowOf_flat, laneOf_flat]

/-- The point to take next: the first at which the new distances are largest. -/
theorem next_at (x0 : Vec Ideal S1x3x64x128 .f32) (d : FVec Ideal S64x128 .f32) (f : Fin 8192) (e : Fin 8192 → EReal)
    (hd : ∀ r l, d (ix2 r l) = e (flat r l)) :
    extractAt ![0, 0, 0] (k0_pay7 (k0_pay20 (F := Ideal) (k0_pay1 (View.ld x0 r0_0)) (k0_pay2 (View.ld x0 r0_1)) (k0_pay3 (View.ld x0 r0_2)) k0_pay4 d
        (BitVec.ofNat 32 f.val))) inpos_S1x1x1_p0_0_0
      = BitVec.ofNat 32 (firstMax (closer (cloudOf x0) e f)).val := by
  have hc := closer_at x0 d f e hd
  obtain ⟨hmax, hfirst⟩ := firstMax_spec (closer (cloudOf x0) e f)
  generalize firstMax (closer (cloudOf x0) e f) = n at hmax hfirst
  generalize hD : closer (cloudOf x0) e f = D at hc hmax hfirst
  pointwise [k0_pay7]
  have hat : ∀ (r : Fin 64) (l : Fin 128),
      k0_pay20 (F := Ideal) (k0_pay1 (View.ld x0 r0_0)) (k0_pay2 (View.ld x0 r0_1)) (k0_pay3 (View.ld x0 r0_2)) k0_pay4 d
          (BitVec.ofNat 32 f.val) (ix3 0 r l)
        = if ∀ m, D m ≤ D (flat r l) then BitVec.ofNat 32 (flat r l).val else 8192#32 := by
    intro r l
    pointwise [k0_pay20]
    rw [position_at, ofBits_minus_inf]
    have hiff := eq_fold_max_iff (fun p : Fin 64 × Fin 128 => D (flat p.1 p.2)) (r, l)
    have hall : (∀ j : Fin 64 × Fin 128, D (flat j.1 j.2) ≤ D (flat r l)) ↔ ∀ m, D m ≤ D (flat r l) :=
      ⟨fun h m => by simpa using h (rowOf m, laneOf m), fun h j => h _⟩
    rw [hall] at hiff
    simp only [hc]
    by_cases h : ∀ m, D m ≤ D (flat r l)
    · rw [if_pos (hiff.2 h), if_pos h]
    · rw [if_neg (fun e => h (hiff.1 e)), if_neg h]
  have hn : (BitVec.ofNat 32 n.val).toInt = (n.val : ℤ) := WordCmp.toInt_ofNat_of_lt (by omega)
  refine fold_minsi_eq _ _ _ ?_ (fun p => ?_) (i := (rowOf n, laneOf n)) ?_
  · rw [hn]; have : (2147483647#32).toInt = 2147483647 := by decide
    omega
  · rw [hat, hn]
    split
    · rename_i h
      rw [WordCmp.toInt_ofNat_of_lt (by omega)]
      by_contra hlt
      have hlt : flat p.1 p.2 < n := by
        rw [Fin.lt_def]; omega
      exact absurd (h n) (not_le.2 (hfirst _ hlt))
    · have : (8192#32).toInt = 8192 := by decide
      omega
  · rw [hat, flat_rowOf_laneOf, if_pos hmax]

/-- A trip takes one more point. -/
theorem fpsTrip_carries (x0 : Vec Ideal S1x3x64x128 .f32) (k : Fin k0_t1_loop.trips) (a) (h : Carries x0 k.val a) :
    Carries x0 (k.val + 1) (fpsTrip (F := Ideal) (View.ld x0 r0_0) (View.ld x0 r0_1) (View.ld x0 r0_2) (iota .tc S1x1024 32 [1] iota_S1x1024_d1_w32) k a) := by
  have key : ∀ (i : Fin 1024) (c : Fin 3) (v : EReal),
      v = (if i.val < k.val then cloudOf x0 (sampled (cloudOf x0) i) c else 0) →
      v + cloudOf x0 (sampled (cloudOf x0) k.val) c * (if i.val = k.val then 1 else 0)
        = if i.val < k.val + 1 then cloudOf x0 (sampled (cloudOf x0) i) c else 0 := by
    intro i c v hv
    subst hv
    rcases lt_trichotomy i.val k.val with hlt | heq | hgt
    · rw [if_pos hlt, if_neg (by omega), if_pos (by omega), mul_zero, add_zero]
    · rw [if_neg (by omega), if_pos heq, if_pos (by omega), mul_one, zero_add, heq]
    · rw [if_neg (by omega), if_neg (by omega), if_neg (by omega), mul_zero, add_zero]
  refine ⟨fun r l => ?_, ?_, fun i => ?_, fun i => ?_, fun i => ?_⟩
  · simp only [fpsTrip, h.next]
    exact closer_at x0 a.1 _ _ h.dist r l
  · simp only [fpsTrip, h.next]
    exact next_at x0 a.1 _ _ h.dist
  · simp only [fpsTrip, h.next]
    pointwise [k0_pay16]
    rw [taken_x, trip_at, plane_x]
    exact key i 0 _ (h.rowX i)
  · simp only [fpsTrip, h.next]
    pointwise [k0_pay17]
    rw [taken_y, trip_at, plane_y]
    exact key i 1 _ (h.rowY i)
  · simp only [fpsTrip, h.next]
    pointwise [k0_pay18]
    rw [taken_z, trip_at, plane_z]
    exact key i 2 _ (h.rowZ i)

/-- The values the loop starts from. -/
theorem start_carries (x0 : Vec Ideal S1x3x64x128 .f32) :
    Carries x0 0 (k0_pay5 (F := Ideal), 0#32, k0_pay6 (F := Ideal), k0_pay6 (F := Ideal), k0_pay6 (F := Ideal)) := by
  refine ⟨fun r l => ?_, rfl, fun i => ?_, fun i => ?_, fun i => ?_⟩
  · pointwise [k0_pay5]; rfl
  all_goals rw [if_neg (Nat.not_lt_zero _)]; pointwise [k0_pay6]

/-- A fold over the numbers below `n`, in order, keeps an invariant indexed by the number of steps made. -/
theorem foldl_finRange {α : Type} (P : ℕ → α → Prop) : ∀ (n : ℕ) (g : Fin n → α → α) (a : α), P 0 a →
    (∀ (k : Fin n) b, P k.val b → P (k.val + 1) (g k b)) → P n ((List.finRange n).foldl (fun acc k => g k acc) a)
  | 0, _, _, h, _ => by simpa using h
  | n + 1, g, a, h, hs => by
    rw [List.finRange_succ_last, List.foldl_append, List.foldl_map]
    exact hs (Fin.last n) _ (foldl_finRange P n (fun k => g k.castSucc) a h fun k b hb => hs k.castSucc b hb)

/-- What the loop carries out: the coordinates of the 1024 sampled points. -/
theorem fpsFold_carries (x0 : Vec Ideal S1x3x64x128 .f32) : Carries x0 1024 (fpsFold (F := Ideal) x0) := by
  rw [fpsFold, Scf.fold_eq]
  exact foldl_finRange (Carries x0) k0_t1_loop.trips _ _ (start_carries x0) fun k b hb => fpsTrip_carries x0 k b hb

/-- What the body leaves in the output block: the coordinates of the sampled points. -/
theorem sampling_block (x0 : Vec Ideal S1x3x64x128 .f32) (k : Fin 3) (s : Fin 1024) :
    out0_1 (F := Ideal) x0 (ix3 0 k s) = cloudOf x0 (sampled (cloudOf x0) s) k := by
  have h := fpsFold_carries x0
  have hx := h.rowX s
  have hy := h.rowY s
  have hz := h.rowZ s
  rw [if_pos s.isLt] at hx hy hz
  unfold out0_1
  generalize fpsFold (F := Ideal) x0 = a at hx hy hz
  canon_tiles x hp
  · idx_vars x
    obtain rfl : k = 2 := Fin.ext (by show k.val = 2; omega)
    obtain rfl : s = x2 := Fin.ext hp2
    pointwise [k0_pay10]; exact hz
  · idx_vars x
    obtain rfl : k = 1 := Fin.ext (by show k.val = 1; omega)
    obtain rfl : s = x2 := Fin.ext hp2
    pointwise [k0_pay9]; exact hy
  · idx_vars x
    obtain rfl : k = 0 := Fin.ext (by show k.val = 0; omega)
    obtain rfl : s = x2 := Fin.ext hp2
    pointwise [k0_pay8]; exact hx

end Cert.KernelIdeal.Gen
-- ==== Proof.Ideal.SamplingArray.lean ====
/- What the sampling kernel leaves in its array: the coordinates of the sampled points of every cloud. -/
module

public import proofs.«01_k».proof.Proof.Ideal.Run
public import proofs.«01_k».proof.Proof.Ideal.SamplingValue
public import proofs.«01_k».proof.Proof.Math.Model
public import Idealize.ShloMosaic.Lib.Pointwise
public import Idealize.ShloMosaic.Lib.StableHlo.RunClose
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Cert.Sampling Cert.Model

variable (m : (ℓ : Loc nD τ sig) → Buf (Elt Ideal) ℓ) (ρ : Dev nD → PrngReg)

/-- The arguments on core `c`. -/
abbrev points (c : Dev nD) : Vec Ideal S4x8192x3 .f32 := m ((c : Thread nD τ).loc main_arg0)
abbrev features (c : Dev nD) : Vec Ideal S4x64x8192 .f32 := m ((c : Thread nD τ).loc main_arg1)
abbrev weights (c : Dev nD) : Vec Ideal S64x67 .f32 := m ((c : Thread nD τ).loc main_arg2)
abbrev bias (c : Dev nD) : Vec Ideal S64 .f32 := m ((c : Thread nD τ).loc main_arg3)

/-- The points laid out plane by plane. -/
theorem W1_main_v0 (c : Dev nD) (b : Fin 4) (k : Fin 3) (n : Fin 8192) :
    (W1 m ρ c (Proc.devRef .tc main_v0) : Vec Ideal S4x3x8192 .f32) (ix3 b k n) = cloud (points m c) b n k := by
  have h : W1 m ρ c (Proc.devRef .tc main_v0) = (transpose S4x3x8192 [0, 2, 1] (points m c) transposes_S4x8192x3_S4x3x8192_0_2_1 : Vec Ideal S4x3x8192 .f32) := by
    simp only [W1, hostOps0]
    after_results_entrywise []
  rw [h]
  pointwise [cloud]

/-- The same, each plane in 64 rows of 128. -/
theorem W1_main_v1 (c : Dev nD) (b : Fin 4) (k : Fin 3) (r : Fin 64) (l : Fin 128) :
    (W1 m ρ c (Proc.devRef .tc main_v1) : Vec Ideal S4x3x64x128 .f32) (ix4 b k r l) = cloud (points m c) b (flat r l) k := by
  have h : W1 m ρ c (Proc.devRef .tc main_v1) = (shapeCast S4x3x64x128 (transpose S4x3x8192 [0, 2, 1] (points m c) transposes_S4x8192x3_S4x3x8192_0_2_1 : Vec Ideal S4x3x8192 .f32) shapeCasts_S4x3x8192_S4x3x64x128 : Vec Ideal S4x3x64x128 .f32) := by
    simp only [W1, hostOps0]
    after_results_entrywise []
  rw [h]
  pointwise [cloud, flat]

/-- The coordinates of the sampled points of every cloud, as the kernel's array holds them. -/
def centroids (c : Dev nD) : Vec Ideal S4x3x1024 .f32 :=
  fun j => cloud (points m c) (j 0) (sampled (cloud (points m c) (j 0)) (j 2).val) (j 1)

theorem idx0 : ∀ t : Fin cfg0.N, (cfg0.win 0).index t = ![t.val, 0, 0, 0] ∧ (cfg0.win 1).index t = ![t.val, 0, 0] := by
  decide +kernel

/-- The kernel's array after its region. -/
theorem W2_main_v2 (c : Dev nD) : W2 m ρ c (Proc.devRef .tc main_v2) = centroids m c := by
  refine (W2_arr m ρ c 1).trans ?_
  refine (dat0 (V1 m ρ) c).arrAt_eq_of_covers 1 _ (by decide +kernel) fun t hf y => ?_
  blk_simp
  rw [after0_1]
  have ht : t.val < 4 := t.isLt
  obtain ⟨h0, h1⟩ := idx0 t
  idx_vars y
  have hcloud : cloudOf (iblk0 (V1 m ρ) c 0 t) = cloud (points m c) ⟨t.val, ht⟩ := by
    funext n k
    refine Eq.trans ?_ ((W1_main_v1 m ρ c ⟨t.val, ht⟩ k (rowOf n) (laneOf n)).trans (by rw [flat_rowOf_laneOf]))
    unfold cloudOf
    blk_ext [iblk0, h0]
  obtain rfl : y0 = 0 := Subsingleton.elim _ _
  rw [sampling_block, hcloud]
  unfold centroids
  have e : ((win0_1.blk t).view.emb (ix3 0 y1 y2)) = (ix3 ⟨t.val, ht⟩ y1 y2 : S4x3x1024.Idx) := by
    blk_ext [h1]
  rw [e]
  rfl

end Cert.KernelIdeal.Gen
-- ==== Proof.Ideal.CountValue.lean ====
/- The kernel's running count of the points in a ball: thirteen additions of the counts moved up by 1, 2, 4, … lanes. -/
module

public import proofs.«01_k».proof.Proof.Ideal.Region1
public import proofs.«01_k».proof.Proof.Math.Count
public import Idealize.ShloMosaic.Lib.Pointwise
public import Idealize.ShloMosaic.Lib.Pointwise.IndexVar

@[expose] public section

set_option maxRecDepth 16384

noncomputable section

namespace Cert.KernelIdeal.Gen

open Idealize.ShloMosaic Cert.Count

/-- The lane numbers, as the body builds them. -/
abbrev lanes : IVec S128x8192 32 := iota .tc S128x8192 32 [1] iota_S128x8192_d1_w32

/-- The counts `a` lanes below, where there are that many lanes below, and zero elsewhere. -/
def moved (a b : ℕ) (h1 : S128x8192.Slices ![0, b] (⟨2, ![128, a]⟩ : Shape)) (h2 : S128x8192.Slices ![0, 0] (⟨2, ![128, b]⟩ : Shape))
    (hc : Shape.Concatenates [(⟨2, ![128, a]⟩ : Shape), ⟨2, ![128, b]⟩] S128x8192 1) (v : IVec S128x8192 32) : IVec S128x8192 32 :=
  select (cmpi .sge lanes (broadcast S128x8192 (BitVec.ofNat 32 a)))
    (concatenate S128x8192 1 [⟨(⟨2, ![128, a]⟩ : Shape), extractStridedSlice (⟨2, ![128, a]⟩ : Shape) ![0, b] v h1⟩,
      ⟨(⟨2, ![128, b]⟩ : Shape), extractStridedSlice (⟨2, ![128, b]⟩ : Shape) ![0, 0] v h2⟩] hc) (broadcast S128x8192 0#32)

/-- The moved counts at a lane. -/
theorem moved_at (a b : ℕ) (ha : a ≤ 8192) (h1 h2 hc) (v : IVec S128x8192 32) (i : Fin 128) (n : Fin 8192) :
    moved a b h1 h2 hc v (ix2 i n) = if a ≤ n.val then v (ix2 i ⟨n.val - a, by omega⟩) else 0#32 := by
  have hs : (IntOp.cmpi CmpIPredicate.sge (BitVec.ofNat 32 n.val) (BitVec.ofNat 32 a)) = BitVec.ofBool (decide (a ≤ n.val)) :=
    WordCmp.cmpi_sge_ofNat (by omega) (by omega)
  pointwise [moved]
  rw [hs]
  by_cases h : a ≤ n.val
  · simp only [h, decide_true, if_true, dif_neg (not_lt.mpr h)]
    rfl
  · simp only [h, decide_false, if_false]
    rfl

/-- The words `v` count, lane by lane, the marked lanes of the window of `L` lanes that ends there. -/
def Counts (p : Fin 128 → ℕ → Prop) (L : ℕ) (v : IVec S128x8192 32) : Prop :=
  ∀ (i : Fin 128) (n : Fin 8192), v (ix2 i n) = BitVec.ofNat 32 (windowed (p i) L n.val)

/-- Adding the counts moved up by the window's length counts the window of twice the length. -/
theorem Counts.double {p : Fin 128 → ℕ → Prop} {v : IVec S128x8192 32} (a b : ℕ) (ha : a ≤ 8192) (h1 h2 hc) (h : Counts p a v) :
    Counts p (2 * a) (addi v (moved a b h1 h2 hc v)) := fun i n => by
  show IntOp.addi (v (ix2 i n)) (moved a b h1 h2 hc v (ix2 i n)) = _
  rw [moved_at a b ha, windowed_double, h i n]
  by_cases hn : a ≤ n.val
  · rw [if_pos hn, if_pos hn, h]
    simp only [IntOp.addi, BitVec.ofNat_add]
  · rw [if_neg hn, if_neg hn]
    simp [IntOp.addi]

/-- The counts of windows of 64 lanes, from those of one lane. -/
theorem counts_64 (p : Fin 128 → ℕ → Prop) (v : IVec S128x8192 32) (h : Counts p 1 v) :
    Counts p 64 (k1_pay11 lanes v (moved 1 8191 slices_S128x8192_o0_8191_S128x1 slices_S128x8192_o0_0_S128x8191 concatenates_S128x1_S128x8191_S128x8192_d1 v)) :=
  (((((h.double 1 8191 (by omega) slices_S128x8192_o0_8191_S128x1 slices_S128x8192_o0_0_S128x8191 concatenates_S128x1_S128x8191_S128x8192_d1).double
    2 8190 (by omega) slices_S128x8192_o0_8190_S128x2 slices_S128x8192_o0_0_S128x8190 concatenates_S128x2_S128x8190_S128x8192_d1).double
    4 8188 (by omega) slices_S128x8192_o0_8188_S128x4 slices_S128x8192_o0_0_S128x8188 concatenates_S128x4_S128x8188_S128x8192_d1).double
    8 8184 (by omega) slices_S128x8192_o0_8184_S128x8 slices_S128x8192_o0_0_S128x8184 concatenates_S128x8_S128x8184_S128x8192_d1).double
    16 8176 (by omega) slices_S128x8192_o0_8176_S128x16 slices_S128x8192_o0_0_S128x8176 concatenates_S128x16_S128x8176_S128x8192_d1).double
    32 8160 (by omega) slices_S128x8192_o0_8160_S128x32 slices_S128x8192_o0_0_S128x8160 concatenates_S128x32_S128x8160_S128x8192_d1

/-- The counts of windows of 4096 lanes, from those of 64. -/
theorem counts_4096 (p : Fin 128 → ℕ → Prop) (v : IVec S128x8192 32) (h : Counts p 64 v) :
    Counts p 4096 (k1_pay13 lanes v (moved 64 8128 slices_S128x8192_o0_8128_S128x64 slices_S128x8192_o0_0_S128x8128 concatenates_S128x64_S128x8128_S128x8192_d1 v)) :=
  (((((h.double 64 8128 (by omega) slices_S128x8192_o0_8128_S128x64 slices_S128x8192_o0_0_S128x8128 concatenates_S128x64_S128x8128_S128x8192_d1).double
    128 8064 (by omega) slices_S128x8192_o0_8064_S128x128 slices_S128x8192_o0_0_S128x8064 concatenates_S128x128_S128x8064_S128x8192_d1).double
    256 7936 (by omega) slices_S128x8192_o0_7936_S128x256 slices_S128x8192_o0_0_S128x7936 concatenates_S128x256_S128x7936_S128x8192_d1).double
    512 7680 (by omega) slices_S128x8192_o0_7680_S128x512 slices_S128x8192_o0_0_S128x7680 concatenates_S128x512_S128x7680_S128x8192_d1).double
    1024 7168 (by omega) slices_S128x8192_o0_7168_S128x1024 slices_S128x8192_o0_0_S128x7168 concatenates_S128x1024_S128x7168_S128x8192_d1).double
    2048 6144 (by omega) slices_S128x8192_o0_6144_S128x2048 slices_S128x8192_o0_0_S128x6144 concatenates_S128x2048_S128x6144_S128x8192_d1

variable (x0 : Vec Ideal S1x67x8192 .f32) (x1 : Vec Ideal S1x3x128 .f32) (x2 : Vec Ideal S64x67 .f32) (x3 : Vec Ideal S64x1 .f32)

/-- The body's count of whole prefixes: the last addition, of the counts moved up by 4096 lanes. -/
theorem counts_all (p : Fin 128 → ℕ → Prop) (h : Counts p 1 (inBallWord x0 x1 x2 x3)) :
    Counts p 8192 (addi (count2048 x0 x1 x2 x3) (shifted4096 x0 x1 x2 x3)) :=
  (counts_4096 p _ (counts_64 p _ h)).double 4096 4096 (by omega) slices_S128x8192_o0_4096_S128x4096 slices_S128x8192_o0_0_S128x4096
    concatenates_S128x4096_S128x4096_S128x8192_d1

/-- A centroid's ball, as a property of lane numbers. -/
def marked (i : Fin 128) (n : ℕ) : Prop := ∃ h : n < 8192, inBall x0 x1 x2 x3 (ix2 i ⟨n, h⟩) = 1#1

/-- The words 0 and 1 the body starts from count windows of one lane. -/
theorem counts_one : Counts (marked x0 x1 x2 x3) 1 (inBallWord x0 x1 x2 x3) := fun i n => by
  classical
  rw [windowed_one]
  show (inBall x0 x1 x2 x3 (ix2 i n)).setWidth 32 = _
  by_cases h : inBall x0 x1 x2 x3 (ix2 i n) = 1#1
  · rw [if_pos (show marked x0 x1 x2 x3 i n.val from ⟨n.isLt, h⟩), h]; rfl
  · rw [if_neg (show ¬ marked x0 x1 x2 x3 i n.val from fun ⟨_, h'⟩ => h h'), (BitVec.eq_zero_or_eq_one _).resolve_right h]; rfl

/-- A lane is kept exactly if it lies in the ball and at most 32 lanes up to it do. -/
theorem kept_iff (i : Fin 128) (n : Fin 8192) :
    kept x0 x1 x2 x3 (ix2 i n) = 1#1 ↔ marked x0 x1 x2 x3 i n.val ∧ upTo (marked x0 x1 x2 x3 i) n.val ≤ 32 := by
  have hc : addi (count2048 x0 x1 x2 x3) (shifted4096 x0 x1 x2 x3) (ix2 i n) = BitVec.ofNat 32 (upTo (marked x0 x1 x2 x3 i) n.val) := by
    rw [counts_all x0 x1 x2 x3 _ (counts_one x0 x1 x2 x3) i n, windowed_all _ n.isLt]
  have hle := upTo_le (marked x0 x1 x2 x3 i) n.val
  show IntOp.andi (inBall x0 x1 x2 x3 (ix2 i n)) (IntOp.cmpi .sle (addi (count2048 x0 x1 x2 x3) (shifted4096 x0 x1 x2 x3) (ix2 i n)) 32#32) = 1#1 ↔ _
  rw [hc, show (32#32 : BitVec 32) = BitVec.ofNat 32 32 from rfl, WordCmp.cmpi_sle_ofNat (by omega) (by omega)]
  have hm : marked x0 x1 x2 x3 i n.val ↔ inBall x0 x1 x2 x3 (ix2 i n) = 1#1 := ⟨fun ⟨_, h⟩ => h, fun h => ⟨n.isLt, h⟩⟩
  rw [hm]
  rcases BitVec.eq_zero_or_eq_one (inBall x0 x1 x2 x3 (ix2 i n)) with h | h <;> rw [h] <;>
    by_cases h' : upTo (marked x0 x1 x2 x3 i) n.val ≤ 32 <;> simp [h', IntOp.andi]

end Cert.KernelIdeal.Gen
-- ==== Proof.Ideal.ColumnValue.lean ====
/- The kernel's 64 columns: the largest projection over the points it keeps, one column per output channel. -/
module

public import proofs.«01_k».proof.Proof.Ideal.Region1
public import proofs.«01_k».proof.Proof.Math.Sampling
public import Idealize.ShloMosaic.Lib.Pointwise
public import Idealize.ShloMosaic.Lib.Pointwise.IndexVar
public import Idealize.ShloMosaic.Lib.Pipeline.ValueKit

@[expose] public section

set_option maxRecDepth 65536

noncomputable section

namespace Cert.KernelIdeal.Gen

open Idealize.ShloMosaic

/-- Each row of the projections is a slice of them. -/
theorem row_slices (o : Fin 64) : S64x8192.Slices ![o.val, 0] S1x8192 := by revert o; decide +kernel

/-- Column `o`: row `o` of the projections where a point is kept, the mask elsewhere, and the largest along the lanes. -/
def column (P : FVec Ideal S64x8192 .f32) (keep : IVec S128x8192 1) (o : Fin 64) : FVec Ideal S128x1 .f32 :=
  shapeCast S128x1 (multiReduction .maximumf [1] S128
    (select keep (broadcastTo S128x8192 (shapeCast S1x8192 (extractStridedSlice S1x8192 ![o.val, 0] P (row_slices o)) shapeCasts_S1x8192_S1x8192)
      broadcasts_S1x8192_S128x8192) (broadcast S128x8192 (Named.named κ "mask" 0xF149F2CA#32)))
    0xFF800000#32 reduces_S128x8192_S128 (.inl rfl) rfl) shapeCasts_S128_S128x1

/-- The 64 columns fill the block. -/
theorem columns_tile (P : FVec Ideal S64x8192 .f32) (keep : IVec S128x8192 1) :
    Shape.Concatenates ((List.ofFn fun o : Fin 64 => (⟨S128x1, column P keep o⟩ : (s : Shape) × (s.Idx → Ideal .f32))).map (·.1)) S128x64 1 := by
  have : ((List.ofFn fun o : Fin 64 => (⟨S128x1, column P keep o⟩ : (s : Shape) × (s.Idx → Ideal .f32))).map (·.1)) = List.replicate 64 S128x1 := rfl
  rw [this]; decide +kernel

/-- The columns side by side. -/
def columns (P : FVec Ideal S64x8192 .f32) (keep : IVec S128x8192 1) : FVec Ideal S128x64 .f32 :=
  concatenate S128x64 1 (List.ofFn fun o : Fin 64 => (⟨S128x1, column P keep o⟩ : (s : Shape) × (s.Idx → Ideal .f32))) (columns_tile P keep)

/-- The mask, a named constant, is read as minus infinity. -/
theorem mask_eq : (Named.named κ "mask" 0xF149F2CA#32 : Ideal .f32) = ⊥ := IdealRules.named_const.ideal_named_scalar _ _ _ _ rfl

/-- A column at a centroid: the largest projection over the kept points. -/
theorem column_at (P : FVec Ideal S64x8192 .f32) (keep : IVec S128x8192 1) (o : Fin 64) (i : Fin 128) :
    column P keep o (ix2 i 0) = (Finset.univ : Finset (Fin 8192)).fold max ⊥ fun n => if keep (ix2 i n) = 1#1 then P (ix2 o n) else ⊥ := by
  pointwise [column]
  rw [mask_eq, Cert.Sampling.ofBits_minus_inf]
  rfl

/-- The columns, entry by entry. -/
theorem columns_at (P : FVec Ideal S64x8192 .f32) (keep : IVec S128x8192 1) (i : Fin 128) (o : Fin 64) :
    columns P keep (ix2 i o) = (Finset.univ : Finset (Fin 8192)).fold max ⊥ fun n => if keep (ix2 i n) = 1#1 then P (ix2 o n) else ⊥ := by
  refine concatenate_ofFn_unit_eq (t := S128x64) 1 (column P keep) (columns_tile P keep) (ix2 i o) _ rfl rfl fun n j hn h0 hb => ?_
  have hj : j = ix2 i 0 := by
    idx_vars j
    obtain rfl : j0 = i := Fin.ext (hb 0 (by decide))
    obtain rfl : j1 = 0 := Fin.ext h0
    rfl
  rw [hj, column_at]
  have : n = o := Fin.ext hn.symm
  rw [this]

variable (x0 : Vec Ideal S1x67x8192 .f32) (x1 : Vec Ideal S1x3x128 .f32) (x2 : Vec Ideal S64x67 .f32) (x3 : Vec Ideal S64x1 .f32)

/-- The block the body stores, over the columns. -/
theorem out1_4_columns : out1_4 x0 x1 x2 x3 = View.canon [⟨r1_4, k1_pay1 (k1_pay90 (k1_pay4 (View.ld x2 r1_1)) (k1_pay7 (View.ld x1 r1_3))
    (columns (projected x0 x1 x2 x3) (kept x0 x1 x2 x3))) (k1_pay91 (F := Ideal))⟩] := rfl

end Cert.KernelIdeal.Gen
-- ==== Proof.Ideal.BallValue.lean ====
/- What the grouping kernel's body leaves in its output block. -/
module

public import proofs.«01_k».proof.Proof.Ideal.CountValue
public import proofs.«01_k».proof.Proof.Ideal.ColumnValue
public import proofs.«01_k».proof.Proof.Math.Ball
public import Idealize.ShloMosaic.Lib.Pointwise
public import Idealize.ShloMosaic.Lib.Pointwise.IndexVar
public import Idealize.ShloMosaic.Lib.Pipeline.ValueKit

@[expose] public section

set_option maxRecDepth 16384

noncomputable section

namespace Cert.KernelIdeal.Gen

open Idealize.ShloMosaic Cert.Sampling Cert.Count Cert.Ball

variable (x0 : Vec Ideal S1x67x8192 .f32) (x1 : Vec Ideal S1x3x128 .f32) (x2 : Vec Ideal S64x67 .f32) (x3 : Vec Ideal S64x1 .f32)

/-- The coordinates of the points, the first three channels of the block. -/
def cloudIn : Cloud := fun n k => x0 (ix3 0 ⟨k.val, by omega⟩ n)

/-- A centroid's coordinates. -/
def centroidIn (i : Fin 128) : Fin 3 → EReal := fun k => x1 (ix3 0 k i)

/-- The kernel's test of the squared distance says whether a point lies in a centroid's ball. -/
theorem inBall_at (i : Fin 128) (n : Fin 8192) :
    inBall x0 x1 x2 x3 (ix2 i n) = 1#1 ↔ within (centroidIn x1 i) (cloudIn x0 n) := by
  rw [show inBall x0 x1 x2 x3 (ix2 i n) = k1_pay8 (View.ld x0 r1_0) (View.ld x1 r1_3) (ix2 i n) from rfl]
  pointwise [k1_pay8, k1_pay2, k1_pay3, k1_pay6, k1_pay7]
  rw [WordCmp.ofBool_decide_eq_one_iff]
  rfl

/-- A point's projection to an output channel. -/
theorem projected_at (o : Fin 64) (n : Fin 8192) :
    projected x0 x1 x2 x3 (ix2 o n) = (∑ c : Fin 67, x2 (ix2 o c) * x0 (ix3 0 c n)) + x3 (ix2 o 0) := by
  rw [show projected x0 x1 x2 x3 (ix2 o n) = k1_pay5 (View.ld x0 r1_0) (View.ld x2 r1_1) (View.ld x3 r1_2) (ix2 o n) from rfl]
  pointwise [k1_pay5, k1_pay2, k1_pay3, k1_pay4]

/-- The kernel keeps the points the ball query takes. -/
theorem kept_at (i : Fin 128) (n : Fin 8192) :
    kept x0 x1 x2 x3 (ix2 i n) = 1#1 ↔ chosen (cloudIn x0) (centroidIn x1 i) n := by
  have h : marked x0 x1 x2 x3 i = ball (cloudIn x0) (centroidIn x1 i) := funext fun n => propext
    ⟨fun ⟨hn, h⟩ => ⟨hn, (inBall_at x0 x1 x2 x3 i _).mp h⟩, fun ⟨hn, h⟩ => ⟨hn, (inBall_at x0 x1 x2 x3 i _).mpr h⟩⟩
  rw [kept_iff, h]
  rfl

/-- The last steps: the centroid's share taken off, and nothing below zero. -/
theorem last_at (M : FVec Ideal S128x64 .f32) (i : Fin 128) (o : Fin 64) :
    k1_pay1 (k1_pay90 (k1_pay4 (View.ld x2 r1_1)) (k1_pay7 (View.ld x1 r1_3)) M) (k1_pay91 (F := Ideal)) (ix3 0 i o)
      = max (M (ix2 i o) - ∑ k : Fin 3, x1 (ix3 0 k i) * x2 (ix2 o ⟨k.val, by omega⟩)) 0 := by
  pointwise [k1_pay1, k1_pay90, k1_pay4, k1_pay6, k1_pay7, k1_pay91]

/-- The columns: the largest projection over the points the ball query takes. -/
theorem columns_best (i : Fin 128) (o : Fin 64) :
    columns (projected x0 x1 x2 x3) (kept x0 x1 x2 x3) (ix2 i o)
      = best (cloudIn x0) (centroidIn x1 i) fun n => (∑ c : Fin 67, x2 (ix2 o c) * x0 (ix3 0 c n)) + x3 (ix2 o 0) := by
  classical
  rw [columns_at]
  unfold best
  congr 1
  funext n
  simp only [kept_at, projected_at]

/-- The output block: for each centroid and channel the largest projection over the points taken, less the
    centroid's own projection, and nothing below zero. -/
theorem grouping_block (i : Fin 128) (o : Fin 64) :
    out1_4 x0 x1 x2 x3 (ix3 0 i o)
      = max (best (cloudIn x0) (centroidIn x1 i) (fun n => (∑ c : Fin 67, x2 (ix2 o c) * x0 (ix3 0 c n)) + x3 (ix2 o 0))
          - ∑ k : Fin 3, x1 (ix3 0 k i) * x2 (ix2 o ⟨k.val, by omega⟩)) 0 := by
  rw [out1_4_columns, ← columns_best, ← last_at x1 x2]
  generalize k1_pay1 (F := Ideal) _ _ = p
  canon_tiles y hp
  idx_vars y
  obtain rfl : i = y1 := Fin.ext hp1
  obtain rfl : o = y2 := Fin.ext hp2
  obtain rfl : y0 = 0 := Subsingleton.elim _ _
  rfl

end Cert.KernelIdeal.Gen
-- ==== Proof.Ideal.GroupingArray.lean ====
/- What the grouping kernel leaves in its array, and the two results. -/
module

public import proofs.«01_k».proof.Proof.Ideal.SamplingArray
public import proofs.«01_k».proof.Proof.Ideal.BallValue

@[expose] public section

set_option maxRecDepth 16384

noncomputable section

namespace Cert.KernelIdeal.Gen

open Idealize.ShloMosaic Idealize.ShloMosaic.TcCoe Idealize.ShloMosaic.Tactic Cert.Sampling Cert.Ball Cert.Model

variable (m : (ℓ : Loc nD τ sig) → Buf (Elt Ideal) ℓ) (ρ : Dev nD → PrngReg)

/-- The channels of every point, as the kernel's array holds them. -/
theorem W3_main_v3 (c : Dev nD) (b : Fin 4) (a : Fin 67) (n : Fin 8192) :
    (W3 m ρ c (Proc.devRef .tc main_v3) : Vec Ideal S4x67x8192 .f32) (ix3 b a n) = channel (points m c) (features m c) b a n := by
  have h : W3 m ρ c (Proc.devRef .tc main_v3) = (concatenate S4x67x8192 1 [⟨S4x3x8192, (W2 m ρ c (Proc.devRef .tc main_v0) : Vec Ideal S4x3x8192 .f32)⟩,
      ⟨S4x64x8192, (W2 m ρ c (Proc.devRef .tc main_arg1) : Vec Ideal S4x64x8192 .f32)⟩] concatenates_S4x3x8192_S4x64x8192_S4x67x8192_d1 : Vec Ideal S4x67x8192 .f32) := by
    simp only [W3, hostOps1]
    after_results_entrywise []
  rw [h, W2_of_ne m ρ c main_v0 (by decide), W2_args m ρ c main_arg1 (by decide)]
  have hv := W1_main_v0 m ρ c
  generalize (W1 m ρ c (Proc.devRef .tc main_v0) : Vec Ideal S4x3x8192 .f32) = v at hv
  pointwise [channel]
  split
  · exact hv b _ n
  · rfl

/-- The bias, one row per channel. -/
theorem W3_main_v4 (c : Dev nD) (o : Fin 64) :
    (W3 m ρ c (Proc.devRef .tc main_v4) : Vec Ideal S64x1 .f32) (ix2 o 0) = bias m c (ix1 o) := by
  have h : W3 m ρ c (Proc.devRef .tc main_v4) = (shapeCast S64x1 (W2 m ρ c (Proc.devRef .tc main_arg3) : Vec Ideal S64 .f32) shapeCasts_S64_S64x1 : Vec Ideal S64x1 .f32) := by
    simp only [W3, hostOps1]
    after_results_entrywise []
  rw [h, W2_args m ρ c main_arg3 (by decide)]
  pointwise []

/-- The centroids reach the grouping kernel as the sampling kernel left them. -/
theorem W3_main_v2 (c : Dev nD) : W3 m ρ c (Proc.devRef .tc main_v2) = centroids m c :=
  (W3_of m ρ c main_v2 (by decide)).trans (W2_main_v2 m ρ c)

theorem idx1 : ∀ t : Fin cfg1.N, (cfg1.win 0).index t = ![t.val / 8, 0, 0] ∧ (cfg1.win 1).index t = ![t.val / 8, 0, t.val % 8]
    ∧ (cfg1.win 2).index t = ![0, 0] ∧ (cfg1.win 3).index t = ![0, 0] ∧ (cfg1.win 4).index t = ![t.val / 8, t.val % 8, 0] := by
  decide +kernel

/-- The kernel's values, as its array holds them. -/
def groups (c : Dev nD) : Vec Ideal S4x1024x64 .f32 :=
  fun j => grouped (points m c) (features m c) (weights m c) (bias m c) (j 0) (j 1) (j 2)

/-- The kernel's array after its region. -/
theorem W4_main_v5 (c : Dev nD) : W4 m ρ c (Proc.devRef .tc main_v5) = groups m c := by
  refine (W4_arr m ρ c 4).trans ?_
  refine (dat1 (V3 m ρ) c).arrAt_eq_of_covers 4 _ (by decide +kernel) fun t hf y => ?_
  blk_simp
  rw [after1_4]
  have ht : t.val < 32 := t.isLt
  obtain ⟨h0, h1, h2, h3, h4⟩ := idx1 t
  idx_vars y
  obtain rfl : y0 = 0 := Subsingleton.elim _ _
  have hy1 : y1.val < 128 := y1.isLt
  have e0 : ∀ (a : Fin 67) (n : Fin 8192), iblk1 (V3 m ρ) c 0 t (ix3 0 a n) = channel (points m c) (features m c) ⟨t.val / 8, by omega⟩ a n := fun a n => by
    refine Eq.trans ?_ (W3_main_v3 m ρ c ⟨t.val / 8, by omega⟩ a n)
    blk_ext [iblk1, h0]
  have e1 : ∀ (k : Fin 3), iblk1 (V3 m ρ) c 1 t (ix3 0 k y1) = centroid (points m c) ⟨t.val / 8, by omega⟩ ⟨t.val % 8 * 128 + y1.val, by omega⟩ k := fun k => by
    refine Eq.trans ?_ (congrFun (W3_main_v2 m ρ c) (ix3 ⟨t.val / 8, by omega⟩ k ⟨t.val % 8 * 128 + y1.val, by omega⟩))
    blk_ext [iblk1, h1]
  have e2 : ∀ (o : Fin 64) (a : Fin 67), iblk1 (V3 m ρ) c 2 t (ix2 o a) = weights m c (ix2 o a) := fun o a => by
    refine Eq.trans ?_ (congrFun (W3_args m ρ c main_arg2 (by decide)) (ix2 o a))
    blk_ext [iblk1, h2]
  have e3 : ∀ (o : Fin 64), iblk1 (V3 m ρ) c 3 t (ix2 o 0) = bias m c (ix1 o) := fun o => by
    refine Eq.trans ?_ (W3_main_v4 m ρ c o)
    blk_ext [iblk1, h3]
  have hx : cloudIn (iblk1 (V3 m ρ) c 0 t) = cloud (points m c) ⟨t.val / 8, by omega⟩ := by
    funext n k
    refine (e0 ⟨k.val, by omega⟩ n).trans ?_
    unfold channel
    rw [dif_pos k.isLt]
    rfl
  have hc : centroidIn (iblk1 (V3 m ρ) c 1 t) y1 = centroid (points m c) ⟨t.val / 8, by omega⟩ ⟨t.val % 8 * 128 + y1.val, by omega⟩ := funext e1
  rw [grouping_block, hx, hc]
  simp only [e0, e1, e2, e3]
  have e : ((win1_4.blk t).view.emb (ix3 0 y1 y2)) = (ix3 ⟨t.val / 8, by omega⟩ ⟨t.val % 8 * 128 + y1.val, by omega⟩ y2 : S4x1024x64.Idx) := by
    blk_ext [h4]
  rw [e]
  rfl

/-- The first result: the coordinates of the sampled points. -/
theorem W5_main_v6 (c : Dev nD) (b : Fin 4) (s : Fin 1024) (k : Fin 3) :
    (W5 m ρ c (Proc.devRef .tc main_v6) : Vec Ideal S4x1024x3 .f32) (ix3 b s k) = centroid (points m c) b s k := by
  have h : W5 m ρ c (Proc.devRef .tc main_v6) = (transpose S4x1024x3 [0, 2, 1] (W4 m ρ c (Proc.devRef .tc main_v2) : Vec Ideal S4x3x1024 .f32) transposes_S4x3x1024_S4x1024x3_0_2_1 : Vec Ideal S4x1024x3 .f32) := by
    simp only [W5, hostOps2]
    after_results_entrywise []
  rw [h, W4_of m ρ c main_v2 (by decide), W3_main_v2]
  pointwise [centroids, centroid]

/-- The second result: the kernel's values, channel by channel. -/
theorem W5_main_v7 (c : Dev nD) (b : Fin 4) (o : Fin 64) (s : Fin 1024) :
    (W5 m ρ c (Proc.devRef .tc main_v7) : Vec Ideal S4x64x1024 .f32) (ix3 b o s)
      = grouped (points m c) (features m c) (weights m c) (bias m c) b s o := by
  have h : W5 m ρ c (Proc.devRef .tc main_v7) = (transpose S4x64x1024 [0, 2, 1] (W4 m ρ c (Proc.devRef .tc main_v5) : Vec Ideal S4x1024x64 .f32) transposes_S4x1024x64_S4x64x1024_0_2_1 : Vec Ideal S4x64x1024 .f32) := by
    simp only [W5, hostOps2]
    after_results_entrywise []
  rw [h, W4_main_v5]
  pointwise [groups]

end Cert.KernelIdeal.Gen
-- ==== Proof.Finite.Read.lean ====
module

public import proofs.«01_k».proof.Pre_finite
public import proofs.«01_k».proof.Proof.Math.Layer
public import Idealize.ShloMosaic.Lib.ReduceAll
public import Idealize.ShloMosaic.Lib.Pointwise
public import Idealize.ShloMosaic.Lib.WordCmp

/-!
What the precondition says: every coordinate, and every weight on a coordinate, is a real number.
-/

@[expose] public section

noncomputable section

namespace Cert.Finite

open Cert.Pre_finite Cert.Pre_finite.Facts Cert.Model Idealize.ShloMosaic

theorem facts : Cert.Pre_finite.Facts where
  bcast_S_S4x8192x3 := by decide
  reducesTo_S4x8192x3_S_d0_1_2 := by decide
  h_S_ := by decide
  slices_S64x67_S64x3_0_0 := by decide
  bcast_S_S64x3 := by decide
  reducesTo_S64x3_S_d0_1 := by decide

/-- A value whose size is below infinity is real. -/
theorem real_of_size (x : EReal) (h : FloatOps.cmpf (F := Ideal) (φ := .f32) .olt (FloatOps.hostAbsf (F := Ideal) (φ := .f32) x) (Ideal.ofBits .f32 0x7F800000#32) = 1#1) :
    Real x := by
  have hi : Ideal.ofBits .f32 0x7F800000#32 = ⊤ := by simp [Ideal.ofBits, Ideal.ieee]
  rw [hi] at h
  have h1 : max x (-x) < ⊤ := (WordCmp.ofBool_decide_eq_one_iff _).1 h
  exact ⟨fun e => by rw [e] at h1; simp at h1, fun e => by rw [e] at h1; simp at h1⟩

/-- Both halves of the precondition. -/
theorem halves [Cert.Pre_finite.Facts] (X : Points) (f : Features) (w : Weights) (z : Bias)
    (h : fn (F := Ideal) X f w z = fun _ => 1#1) :
    (∀ i, cmpf .olt (Host.absf (X : FVec Ideal S4x8192x3 .f32)) (broadcastInDim S4x8192x3 ![] bcast_S_S4x8192x3 (constant (F := Ideal) S_ .f32 0x7F800000#32)) i = 1#1)
    ∧ ∀ i, cmpf .olt (Host.absf (extractStridedSlice S64x3 ![0, 0] (w : FVec Ideal S64x67 .f32) slices_S64x67_S64x3_0_0)) (broadcastInDim S64x3 ![] bcast_S_S64x3 (constant (F := Ideal) S_ .f32 0x7F800000#32)) i = 1#1 := by
  haveI : Subsingleton S_.Idx := ⟨fun a b => funext fun q => q.elim0⟩
  have h0 := IntOp.andi_eq_one.1 (congrFun h ix0)
  exact ⟨fun i => Host.reduce_andi_all _ _ _ _ _ h0.1 i, fun i => Host.reduce_andi_all _ _ _ _ _ h0.2 i⟩

theorem points_real [Cert.Pre_finite.Facts] (X : Points) (f : Features) (w : Weights) (z : Bias)
    (h : fn (F := Ideal) X f w z = fun _ => 1#1) (b : Fin 4) (n : Fin 8192) (k : Fin 3) : Real (X (ix3 b n k)) :=
  real_of_size _ ((halves X f w z h).1 (ix3 b n k))

theorem weights_real [Cert.Pre_finite.Facts] (X : Points) (f : Features) (w : Weights) (z : Bias)
    (h : fn (F := Ideal) X f w z = fun _ => 1#1) (o : Fin 64) (k : Fin 3) : Real (w (ix2 o ⟨k.val, by omega⟩)) := by
  have h1 := (halves X f w z h).2 (ix2 o k)
  pointwise [] at h1
  exact real_of_size _ h1

end Cert.Finite
-- ==== Proof.lean ====
/- The certificate: the frames of the three programs, what the named constant stands for, and that the kernel computes
   what the reference computes when the coordinates and the weights on them are finite. -/
module

public import proofs.«01_k».proof.Defs
public import proofs.«01_k».proof.Proof.Gen.Kernel
public import proofs.«01_k».proof.Proof.Gen.KernelIdeal
public import proofs.«01_k».proof.Proof.Reference.SecondResult
public import proofs.«01_k».proof.Proof.Ideal.GroupingArray
public import proofs.«01_k».proof.Proof.Finite.Read
public import proofs.«01_k».proof.Proof.Bits.Run
public import Idealize.ShloMosaic.Adequacy
public import Idealize.ShloMosaic.Init

@[expose] public section

noncomputable section

namespace Cert.Proof

open Idealize.ShloMosaic Idealize.SL.Sem Cert.Model

/-- The kernel as printed runs, keeps its arguments and leaves every semaphore at zero. -/
theorem frame_kernel : quiescent_Kernel (hKernel := Cert.Kernel.Gen.facts) :=
  fun m g _ => Cert.Kernel.Gen.frame m g

/-- So does the kernel at the ideal numbers. -/
theorem frame_ideal : quiescent_KernelIdeal (hKernelIdeal := Cert.KernelIdeal.Gen.facts) :=
  fun m g _ => Cert.KernelIdeal.Gen.frame m g

/-- So does the reference, which has no semaphore. -/
theorem frame_reference : quiescent_ReferenceIdeal (hReferenceIdeal := Cert.ReferenceIdeal.Gen.facts) :=
  fun m g _ => (θ_run _ _ _).mono (fun r h => ⟨fun c => (h c).2, Idealize.ShloMosaic.sem_eq_zero_of_no_sems (by decide) r.2⟩)
    (Cert.ReferenceIdeal.Value.run_results m g)

/-- And so on the arguments the value claim is about. -/
theorem frame_reference_finite : quiescent_ReferenceIdeal_pre_finite (hReferenceIdeal := Cert.ReferenceIdeal.Gen.facts)
    (hPre_finite := Cert.Finite.facts) :=
  fun m g _ => frame_reference m g trivial

/-- The mask's name stands for minus infinity. -/
theorem mask_named : preserves_Kernel_KernelIdeal :=
  IdealRules.named_const.statement Cert.KernelIdeal.κ "mask" .f32 0xF149F2CA#32 ⊥ rfl

/-- The kernel's run ends with its results as its last boundary has them, and the arguments unchanged. -/
theorem run_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v6)
            = Cert.KernelIdeal.Gen.W5 m g c (Proc.devRef .tc Cert.KernelIdeal.main_v6)
        ∧ r.2.mem ((c.tc : Thread Cert.KernelIdeal.nD Cert.KernelIdeal.τ).loc Cert.KernelIdeal.main_v7)
            = Cert.KernelIdeal.Gen.W5 m g c (Proc.devRef .tc Cert.KernelIdeal.main_v7)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run _ _ _).mono (fun r h c =>
    ⟨h.1 c _ (Cert.KernelIdeal.Gen.mem_uc Cert.KernelIdeal.main_v6 (by decide)), h.1 c _ (Cert.KernelIdeal.Gen.mem_uc Cert.KernelIdeal.main_v7 (by decide)),
      (h.1 c _ (Cert.KernelIdeal.Gen.mem_uc Cert.KernelIdeal.main_arg0 (by decide))).trans (Cert.KernelIdeal.Gen.W5_main_arg0 m g c),
      (h.1 c _ (Cert.KernelIdeal.Gen.mem_uc Cert.KernelIdeal.main_arg1 (by decide))).trans (Cert.KernelIdeal.Gen.W5_main_arg1 m g c),
      (h.1 c _ (Cert.KernelIdeal.Gen.mem_uc Cert.KernelIdeal.main_arg2 (by decide))).trans (Cert.KernelIdeal.Gen.W5_main_arg2 m g c),
      (h.1 c _ (Cert.KernelIdeal.Gen.mem_uc Cert.KernelIdeal.main_arg3 (by decide))).trans (Cert.KernelIdeal.Gen.W5_main_arg3 m g c)⟩)
    (Cert.KernelIdeal.Gen.run_all m g)

/-- The kernel's results are the reference's, from equal arguments, when the coordinates and the weights on them are
    finite. -/
theorem same_values : algebraic_KernelIdeal_ReferenceIdeal_pre_finite (hKernelIdeal := Cert.KernelIdeal.Gen.facts)
    (hReferenceIdeal := Cert.ReferenceIdeal.Gen.facts) (hPre_finite := Cert.Finite.facts) := by
  intro m g m' g' hp ha
  haveI := Cert.Finite.facts
  refine ⟨fun c => Cert.KernelIdeal.Gen.W5 m g c (Proc.devRef .tc Cert.KernelIdeal.main_v6),
    fun c => Cert.KernelIdeal.Gen.W5 m g c (Proc.devRef .tc Cert.KernelIdeal.main_v7), run_ideal m g,
    (θ_run _ _ _).mono (fun r h c => ⟨(h c).1.1.trans ?_, (h c).1.2.trans ?_, (h c).2⟩) (Cert.ReferenceIdeal.Value.run_results m' g')⟩
  · refine funext fun (i : (⟨3, ![4, 1024, 3]⟩ : Shape).Idx) => ?_
    rw [eq_ix3 i]
    exact (Cert.ReferenceIdeal.Value.first_result m' c _ _ _).trans
      ((congrArg (fun X : Points => centroid X (i 0) (i 1) (i 2)) (ha c).1).trans (Cert.KernelIdeal.Gen.W5_main_v6 m g c _ _ _).symm)
  · refine funext fun (i : (⟨3, ![4, 64, 1024]⟩ : Shape).Idx) => ?_
    rw [eq_ix3 i]
    obtain ⟨h0, h1, h2, h3⟩ := ha c
    have hX : Cert.ReferenceIdeal.Value.points m' c = Cert.KernelIdeal.Gen.points m c := h0
    have hf : Cert.ReferenceIdeal.Value.features m' c = Cert.KernelIdeal.Gen.features m c := h1
    have hw : Cert.ReferenceIdeal.Value.weights m' c = Cert.KernelIdeal.Gen.weights m c := h2
    have hz : Cert.ReferenceIdeal.Value.bias m' c = Cert.KernelIdeal.Gen.bias m c := h3
    refine (Cert.ReferenceIdeal.Value.second_result m' c (i 0) (i 1) (i 2) ?_ ?_).trans ?_
    · rw [hX]
      exact Cert.Finite.points_real _ _ _ _ (hp c) (i 0)
    · rw [hw]
      exact Cert.Finite.weights_real _ _ _ _ (hp c) (i 1)
    · rw [hX, hf, hw, hz]
      exact (Cert.KernelIdeal.Gen.W5_main_v7 m g c (i 0) (i 1) (i 2)).symm

/-- Everything claimed. -/
theorem claim : Cert.Claim :=
  ⟨Cert.Kernel.Gen.facts, Cert.KernelIdeal.Gen.facts, Cert.ReferenceIdeal.Gen.facts, Cert.Finite.facts,
    frame_kernel, frame_ideal, fun m g _ => Cert.KernelIdeal.Gen.frame m g, frame_reference, frame_reference_finite,
    mask_named, same_values⟩

end Cert.Proof

end
